-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_distinct [hPre_finite_and_distinct : Cert.Pre_finite_and_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_known [hPre_known : Cert.Pre_known.Facts] (m : (ℓ : Loc Cert.KernelIdeal.nD Cert.KernelIdeal.τ Cert.KernelIdeal.sig) → Buf (Elt Ideal) ℓ) : Prop :=
  ∀ c : Dev Cert.KernelIdeal.nD,
    (Cert.Pre_known.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_distinct [hPre_finite_and_distinct : Cert.Pre_finite_and_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_known [hPre_known : Cert.Pre_known.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_known.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_distinct [hKernelIdeal : Cert.KernelIdeal.Facts] [hPre_finite_and_distinct : Cert.Pre_finite_and_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_known [hKernelIdeal : Cert.KernelIdeal.Facts] [hPre_known : Cert.Pre_known.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_known m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_distinct [hReferenceIdeal : Cert.ReferenceIdeal.Facts] [hPre_finite_and_distinct : Cert.Pre_finite_and_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_known [hReferenceIdeal : Cert.ReferenceIdeal.Facts] [hPre_known : Cert.Pre_known.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_known m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite_and_distinct [hKernelIdeal : Cert.KernelIdeal.Facts] [hReferenceIdeal : Cert.ReferenceIdeal.Facts] [hPre_finite_and_distinct : Cert.Pre_finite_and_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_the_map [hKernelIdeal : Cert.KernelIdeal.Facts] [hReferenceIdeal : Cert.ReferenceIdeal.Facts] [hOn_the_map : Cert.On_the_map.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![1]⟩ : Shape).Idx, (Cert.On_the_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v57) i = v0 c i)
          ∧ (∀ i : (⟨3, ![1, 256, 256]⟩ : Shape).Idx, (Cert.On_the_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v58) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![1]⟩ : Shape).Idx, (Cert.On_the_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v154) i = v0 c i)
          ∧ (∀ i : (⟨3, ![1, 256, 256]⟩ : Shape).Idx, (Cert.On_the_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v155) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_known [hKernelIdeal : Cert.KernelIdeal.Facts] [hReferenceIdeal : Cert.ReferenceIdeal.Facts] [hPre_known : Cert.Pre_known.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_known m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_distinct : Cert.Pre_finite_and_distinct.Facts) (hPre_known : Cert.Pre_known.Facts) (hOn_the_map : Cert.On_the_map.Facts),
    quiescent_Kernel (hKernel := hKernel)
    ∧ quiescent_KernelIdeal (hKernelIdeal := hKernelIdeal)
    ∧ quiescent_KernelIdeal_pre_finite_and_distinct (hKernelIdeal := hKernelIdeal) (hPre_finite_and_distinct := hPre_finite_and_distinct)
    ∧ quiescent_KernelIdeal_pre_known (hKernelIdeal := hKernelIdeal) (hPre_known := hPre_known)
    ∧ quiescent_ReferenceIdeal (hReferenceIdeal := hReferenceIdeal)
    ∧ quiescent_ReferenceIdeal_pre_finite_and_distinct (hReferenceIdeal := hReferenceIdeal) (hPre_finite_and_distinct := hPre_finite_and_distinct)
    ∧ quiescent_ReferenceIdeal_pre_known (hReferenceIdeal := hReferenceIdeal) (hPre_known := hPre_known)
    ∧ preserves_Kernel_KernelIdeal
    ∧ algebraic_KernelIdeal_ReferenceIdeal_pre_finite_and_distinct (hKernelIdeal := hKernelIdeal) (hReferenceIdeal := hReferenceIdeal) (hPre_finite_and_distinct := hPre_finite_and_distinct)
    ∧ algebraic_KernelIdeal_ReferenceIdeal_on_the_map (hKernelIdeal := hKernelIdeal) (hReferenceIdeal := hReferenceIdeal) (hOn_the_map := hOn_the_map)
    ∧ algebraic_KernelIdeal_ReferenceIdeal_pre_known (hKernelIdeal := hKernelIdeal) (hReferenceIdeal := hReferenceIdeal) (hPre_known := hPre_known)
-- ==== On_the_map.lean ====
abbrev S256x128 : Shape := ⟨2, ![256, 128]⟩
abbrev S65536x128 : Shape := ⟨2, ![65536, 128]⟩
abbrev S_ : Shape := ⟨0, ![]⟩
abbrev S1 : Shape := ⟨1, ![1]⟩
abbrev S1x256x256 : Shape := ⟨3, ![1, 256, 256]⟩

class Facts : Prop where
  bcast_S_S1 : S_.BroadcastsInDim S1 (![] : Fin 0 → Fin S1.rank)
  bcast_S_S1x256x256 : S_.BroadcastsInDim S1x256x256 (![] : Fin 0 → Fin S1x256x256.rank)

variable [Facts]

def fn {F : FTy → Type} [FloatOps F] (main_arg0 : FVec F S256x128 .f32) (main_arg1 : FVec F S65536x128 .f32) : IVec S1 1 × IVec S1x256x256 1 :=
  let main_c : IVec S_ 1 := constantI S_ 1 0#1
  let main_v0 : IVec S1 1 := broadcastInDim S1 ![] bcast_S_S1 main_c
  let main_c_0 : IVec S_ 1 := constantI S_ 1 1#1
  let main_v1 : IVec S1x256x256 1 := broadcastInDim S1x256x256 ![] bcast_S_S1x256x256 main_c_0
  (main_v0, main_v1)
-- ==== Pre_finite_and_distinct.lean ====
abbrev S256x128 : Shape := ⟨2, ![256, 128]⟩
abbrev S65536x128 : Shape := ⟨2, ![65536, 128]⟩
abbrev S_ : Shape := ⟨0, ![]⟩
abbrev S256 : Shape := ⟨1, ![256]⟩
abbrev S256x1 : Shape := ⟨2, ![256, 1]⟩
abbrev S65536 : Shape := ⟨1, ![65536]⟩
abbrev S1x65536 : Shape := ⟨2, ![1, 65536]⟩
abbrev S256x65536 : Shape := ⟨2, ![256, 65536]⟩
abbrev S128x65536 : Shape := ⟨2, ![128, 65536]⟩
abbrev S1 : Shape := ⟨1, ![1]⟩
abbrev S1x128 : Shape := ⟨2, ![1, 128]⟩
abbrev S1x1 : Shape := ⟨2, ![1, 1]⟩
abbrev S1x10 : Shape := ⟨2, ![1, 10]⟩
abbrev S1x9 : Shape := ⟨2, ![1, 9]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  reducesTo_S256x128_S256_d1 : S256x128.ReducesTo [1] S256
  bcast_S256_S256x1_0 : S256.BroadcastsInDim S256x1 (![0] : Fin 1 → Fin S256x1.rank)
  reducesTo_S65536x128_S65536_d1 : S65536x128.ReducesTo [1] S65536
  bcast_S65536_S1x65536_1 : S65536.BroadcastsInDim S1x65536 (![1] : Fin 1 → Fin S1x65536.rank)
  bcast_S256x1_S256x65536_0_1 : S256x1.BroadcastsInDim S256x65536 (![0, 1] : Fin 2 → Fin S256x65536.rank)
  bcast_S1x65536_S256x65536_0_1 : S1x65536.BroadcastsInDim S256x65536 (![0, 1] : Fin 2 → Fin S256x65536.rank)
  transposes_S65536x128_S128x65536_1_0 : S65536x128.Transposes [1, 0] S128x65536
  bcast_S_S256x65536 : S_.BroadcastsInDim S256x65536 (![] : Fin 0 → Fin S256x65536.rank)
  reducesTo_S256x65536_S256_d1 : S256x65536.ReducesTo [1] S256
  reducesTo_S256_S_d0 : S256.ReducesTo [0] S_
  bcast_S_S256 : S_.BroadcastsInDim S256 (![] : Fin 0 → Fin S256.rank)
  sliceFits_S256_S1 : S256.Slices (fun _ => 0) S1
  shapeCasts_S1_S_ : S1.ShapeCasts S_
  sliceFits_S65536x128_S1x128 : S65536x128.Slices (fun _ => 0) S1x128
  reducesTo_S1x128_S1_d1 : S1x128.ReducesTo [1] S1
  bcast_S1_S1x1_0 : S1.BroadcastsInDim S1x1 (![0] : Fin 1 → Fin S1x1.rank)
  bcast_S1x1_S1x65536_0_1 : S1x1.BroadcastsInDim S1x65536 (![0, 1] : Fin 2 → Fin S1x65536.rank)
  bcast_S_S1x65536 : S_.BroadcastsInDim S1x65536 (![] : Fin 0 → Fin S1x65536.rank)
  sliceFits_S1x65536_S1x10 : S1x65536.Slices (fun _ => 0) S1x10
  slices_S1x10_S1x9_0_0 : S1x10.Slices ![0, 0] S1x9
  slices_S1x10_S1x9_0_1 : S1x10.Slices ![0, 1] S1x9
  reducesTo_S1x9_S_d0_1 : S1x9.ReducesTo [0, 1] S_
  dot_S256x128_S128x65536_S256x65536_1_0_0_1_n_n_wf : DotDims.WF S256x128 S128x65536 S256x65536 [1] [0] [0] [1] [] []
  dot_S1x128_S128x65536_S1x65536_1_0_0_1_n_n_wf : DotDims.WF S1x128 S128x65536 S1x65536 [1] [0] [0] [1] [] []

variable [Facts]

def dot_S256x128_S128x65536_S256x65536_1_0_0_1_n_n : DotDims S256x128 S128x65536 S256x65536 where
  lhsContracting := [1]
  rhsContracting := [0]
  lhsNonContracting := [0]
  rhsNonContracting := [1]
  lhsBatch := []
  rhsBatch := []
  wf := dot_S256x128_S128x65536_S256x65536_1_0_0_1_n_n_wf
def dot_S1x128_S128x65536_S1x65536_1_0_0_1_n_n : DotDims S1x128 S128x65536 S1x65536 where
  lhsContracting := [1]
  rhsContracting := [0]
  lhsNonContracting := [0]
  rhsNonContracting := [1]
  lhsBatch := []
  rhsBatch := []
  wf := dot_S1x128_S128x65536_S1x65536_1_0_0_1_n_n_wf
def fn_where {F : FTy → Type} [FloatOps F] (arg0 : IVec S256x65536 1) (arg1 : IVec S1x65536 32) (arg2 : IVec S_ 32) : IVec S256x65536 32 :=
  let v0 : IVec S_ 32 := id arg2
  let v1 : IVec S256x65536 32 := broadcastInDim S256x65536 ![0, 1] bcast_S1x65536_S256x65536_0_1 arg1
  let v2 : IVec S256x65536 32 := broadcastInDim S256x65536 ![] bcast_S_S256x65536 v0
  let v3 : IVec S256x65536 32 := select arg0 v1 v2
  v3

def fn_where_0 {F : FTy → Type} [FloatOps F] (arg0 : IVec S256 1) (arg1 : IVec S256 32) (arg2 : IVec S_ 32) : IVec S256 32 :=
  let v0 : IVec S_ 32 := id arg2
  let v1 : IVec S256 32 := broadcastInDim S256 ![] bcast_S_S256 v0
  let v2 : IVec S256 32 := select arg0 arg1 v1
  v2

def fn_part4 {F : FTy → Type} [FloatOps F] (main_v8 : IVec S_ 1) (main_v69 : IVec S1x9 1) (main_c_21 : IVec S_ 1) : IVec S_ 1 :=
  let main_v70 : IVec S_ 1 := (fun x v => Host.reduce IntOp.andi x v reducesTo_S1x9_S_d0_1 h_S_) main_v69 main_c_21
  let main_v71 : IVec S_ 1 := andi main_v8 main_v70
  main_v71

def fn_part3 {F : FTy → Type} [FloatOps F] (main_arg1 : FVec F S65536x128 .f32) (main_v8 : IVec S_ 1) (main_v48 : FVec F S1x128 .f32) (main_v51 : FVec F S1x1 .f32) : IVec S_ 1 :=
  let main_v52 : FVec F S65536x128 .f32 := mulf main_arg1 main_arg1
  let main_cst_18 : FVec F S_ .f32 := constant S_ .f32 0x00000000#32
  let main_v53 : FVec F S65536 .f32 := (fun x v => Host.reduceAdd x v reducesTo_S65536x128_S65536_d1 h_S_) main_v52 main_cst_18
  let main_v54 : FVec F S1x65536 .f32 := broadcastInDim S1x65536 ![1] bcast_S65536_S1x65536_1 main_v53
  let main_v55 : FVec F S1x65536 .f32 := broadcastInDim S1x65536 ![0, 1] bcast_S1x1_S1x65536_0_1 main_v51
  let main_v56 : FVec F S1x65536 .f32 := addf main_v55 main_v54
  let main_v57 : FVec F S128x65536 .f32 := (transpose S128x65536 [1, 0] · transposes_S65536x128_S128x65536_1_0) main_arg1
  let main_v58 : FVec F S1x65536 .f32 := (fun l r => Host.dotGeneral dot_S1x128_S128x65536_S1x65536_1_0_0_1_n_n none l r) main_v48 main_v57
  let main_cst_19 : FVec F S_ .f32 := constant S_ .f32 0x40000000#32
  let main_v59 : FVec F S1x65536 .f32 := broadcastInDim S1x65536 ![] bcast_S_S1x65536 main_cst_19
  let main_v60 : FVec F S1x65536 .f32 := mulf main_v59 main_v58
  let main_v61 : FVec F S1x65536 .f32 := subf main_v56 main_v60
  let main_cst_20 : FVec F S_ .f32 := constant S_ .f32 0x00000000#32
  let main_v62 : FVec F S1x65536 .f32 := broadcastInDim S1x65536 ![] bcast_S_S1x65536 main_cst_20
  let main_v63 : FVec F S1x65536 .f32 := maximumf main_v61 main_v62
  let main_v64 : FVec F S1x65536 .f32 := Host.sqrt main_v63
  let main_v65 : FVec F S1x65536 .f32 := Host.negf main_v64
  let main_values : FVec F S1x10 .f32 := (fun x => (Host.topK S1x10 1 (FloatOps.cmpfTotal .gt) x sliceFits_S1x65536_S1x10).1) main_v65
  let main_indices : IVec S1x10 32 := (fun x => (Host.topK S1x10 1 (FloatOps.cmpfTotal .gt) x sliceFits_S1x65536_S1x10).2) main_v65
  let main_v66 : FVec F S1x10 .f32 := Host.negf main_values
  let main_v67 : FVec F S1x9 .f32 := (extractStridedSlice S1x9 ![0, 0] · slices_S1x10_S1x9_0_0) main_v66
  let main_v68 : FVec F S1x9 .f32 := (extractStridedSlice S1x9 ![0, 1] · slices_S1x10_S1x9_0_1) main_v66
  let main_v69 : IVec S1x9 1 := cmpf .olt main_v67 main_v68
  let main_c_21 : IVec S_ 1 := constantI S_ 1 1#1
  fn_part4 (F := F) main_v8 main_v69 main_c_21

def fn_part2 {F : FTy → Type} [FloatOps F] (main_arg1 : FVec F S65536x128 .f32) (main_v8 : IVec S_ 1) (main_v26 : FVec F S256 .f32) (main_v33 : IVec S256 32) (main_v35 : FVec F S256 .f32) : IVec S_ 1 :=
  let main_v36 : IVec S256 1 := cmpf .oeq main_v26 main_v35
  let main_v37 : IVec S256 32 := iotaInDim S256 32 0
  let main_c_10 : IVec S_ 32 := constantI S_ 32 255#32
  let main_v38 : IVec S256 32 := fn_where_0 (F := F) main_v36 main_v37 main_c_10
  let main_c_11 : IVec S_ 32 := constantI S_ 32 2147483647#32
  let main_v39 : IVec S_ 32 := (fun x v => Host.reduce IntOp.minsi x v reducesTo_S256_S_d0 h_S_) main_v38 main_c_11
  let main_c_12 : IVec S_ 32 := constantI S_ 32 0#32
  let main_v40 : IVec S_ 1 := cmpi .slt main_v39 main_c_12
  let main_c_13 : IVec S_ 32 := constantI S_ 32 256#32
  let main_v41 : IVec S_ 32 := addi main_v39 main_c_13
  let main_v42 : IVec S_ 32 := select main_v40 main_v41 main_v39
  let main_v43 : IVec S1 32 := (fun x i => Host.dynamicSlice S1 x (fun k => (i k (Shape.Idx.first h_S_)).toInt) sliceFits_S256_S1) main_v33 (![main_v42] : Fin 1 → IVec S_ 32)
  let main_v44 : IVec S_ 32 := shapeCast S_ main_v43 shapeCasts_S1_S_
  let main_c_14 : IVec S_ 32 := constantI S_ 32 0#32
  let main_v45 : IVec S_ 1 := cmpi .slt main_v44 main_c_14
  let main_c_15 : IVec S_ 32 := constantI S_ 32 65536#32
  let main_v46 : IVec S_ 32 := addi main_v44 main_c_15
  let main_v47 : IVec S_ 32 := select main_v45 main_v46 main_v44
  let main_c_16 : IVec S_ 32 := constantI S_ 32 0#32
  let main_v48 : FVec F S1x128 .f32 := (fun x i => Host.dynamicSlice S1x128 x (fun k => (i k (Shape.Idx.first h_S_)).toInt) sliceFits_S65536x128_S1x128) main_arg1 (![main_v47, main_c_16] : Fin 2 → IVec S_ 32)
  let main_v49 : FVec F S1x128 .f32 := mulf main_v48 main_v48
  let main_cst_17 : FVec F S_ .f32 := constant S_ .f32 0x00000000#32
  let main_v50 : FVec F S1 .f32 := (fun x v => Host.reduceAdd x v reducesTo_S1x128_S1_d1 h_S_) main_v49 main_cst_17
  let main_v51 : FVec F S1x1 .f32 := broadcastInDim S1x1 ![0] bcast_S1_S1x1_0 main_v50
  fn_part3 (F := F) main_arg1 main_v8 main_v48 main_v51

def fn_part1 {F : FTy → Type} [FloatOps F] (main_arg0 : FVec F S256x128 .f32) (main_arg1 : FVec F S65536x128 .f32) (main_v8 : IVec S_ 1) (main_v17 : FVec F S256x65536 .f32) : IVec S_ 1 :=
  let main_v18 : FVec F S128x65536 .f32 := (transpose S128x65536 [1, 0] · transposes_S65536x128_S128x65536_1_0) main_arg1
  let main_v19 : FVec F S256x65536 .f32 := (fun l r => Host.dotGeneral dot_S256x128_S128x65536_S256x65536_1_0_0_1_n_n none l r) main_arg0 main_v18
  let main_cst_4 : FVec F S_ .f32 := constant S_ .f32 0x40000000#32
  let main_v20 : FVec F S256x65536 .f32 := broadcastInDim S256x65536 ![] bcast_S_S256x65536 main_cst_4
  let main_v21 : FVec F S256x65536 .f32 := mulf main_v20 main_v19
  let main_v22 : FVec F S256x65536 .f32 := subf main_v17 main_v21
  let main_cst_5 : FVec F S_ .f32 := constant S_ .f32 0x00000000#32
  let main_v23 : FVec F S256x65536 .f32 := broadcastInDim S256x65536 ![] bcast_S_S256x65536 main_cst_5
  let main_v24 : FVec F S256x65536 .f32 := maximumf main_v22 main_v23
  let main_v25 : FVec F S256x65536 .f32 := Host.sqrt main_v24
  let main_cst_6 : FVec F S_ .f32 := constant S_ .f32 0x7F800000#32
  let main_v26 : FVec F S256 .f32 := (fun x v => Host.reduce FloatOps.minimumf x v reducesTo_S256x65536_S256_d1 h_S_) main_v25 main_cst_6
  let main_v27 : FVec F S256x1 .f32 := broadcastInDim S256x1 ![0] bcast_S256_S256x1_0 main_v26
  let main_v28 : FVec F S256x65536 .f32 := broadcastInDim S256x65536 ![0, 1] bcast_S256x1_S256x65536_0_1 main_v27
  let main_v29 : IVec S256x65536 1 := cmpf .oeq main_v25 main_v28
  let main_v30 : IVec S65536 32 := iotaInDim S65536 32 0
  let main_v31 : IVec S1x65536 32 := broadcastInDim S1x65536 ![1] bcast_S65536_S1x65536_1 main_v30
  let main_c_7 : IVec S_ 32 := constantI S_ 32 65535#32
  let main_v32 : IVec S256x65536 32 := fn_where (F := F) main_v29 main_v31 main_c_7
  let main_c_8 : IVec S_ 32 := constantI S_ 32 2147483647#32
  let main_v33 : IVec S256 32 := (fun x v => Host.reduce IntOp.minsi x v reducesTo_S256x65536_S256_d1 h_S_) main_v32 main_c_8
  let main_cst_9 : FVec F S_ .f32 := constant S_ .f32 0xFF800000#32
  let main_v34 : FVec F S_ .f32 := (fun x v => Host.reduce FloatOps.maximumf x v reducesTo_S256_S_d0 h_S_) main_v26 main_cst_9
  let main_v35 : FVec F S256 .f32 := broadcastInDim S256 ![] bcast_S_S256 main_v34
  fn_part2 (F := F) main_arg1 main_v8 main_v26 main_v33 main_v35

def fn {F : FTy → Type} [FloatOps F] (main_arg0 : FVec F S256x128 .f32) (main_arg1 : FVec F S65536x128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S256x128 .f32 := mulf main_arg0 main_arg0
  let main_cst_2 : FVec F S_ .f32 := constant S_ .f32 0x00000000#32
  let main_v10 : FVec F S256 .f32 := (fun x v => Host.reduceAdd x v reducesTo_S256x128_S256_d1 h_S_) main_v9 main_cst_2
  let main_v11 : FVec F S256x1 .f32 := broadcastInDim S256x1 ![0] bcast_S256_S256x1_0 main_v10
  let main_v12 : FVec F S65536x128 .f32 := mulf main_arg1 main_arg1
  let main_cst_3 : FVec F S_ .f32 := constant S_ .f32 0x00000000#32
  let main_v13 : FVec F S65536 .f32 := (fun x v => Host.reduceAdd x v reducesTo_S65536x128_S65536_d1 h_S_) main_v12 main_cst_3
  let main_v14 : FVec F S1x65536 .f32 := broadcastInDim S1x65536 ![1] bcast_S65536_S1x65536_1 main_v13
  let main_v15 : FVec F S256x65536 .f32 := broadcastInDim S256x65536 ![0, 1] bcast_S256x1_S256x65536_0_1 main_v11
  let main_v16 : FVec F S256x65536 .f32 := broadcastInDim S256x65536 ![0, 1] bcast_S1x65536_S256x65536_0_1 main_v14
  let main_v17 : FVec F S256x65536 .f32 := addf main_v15 main_v16
  fn_part1 (F := F) main_arg0 main_arg1 main_v8 main_v17
-- ==== Pre_known.lean ====
abbrev S256x128 : Shape := ⟨2, ![256, 128]⟩
abbrev S65536x128 : Shape := ⟨2, ![65536, 128]⟩
abbrev S_ : Shape := ⟨0, ![]⟩
abbrev S256 : Shape := ⟨1, ![256]⟩
abbrev S256x1 : Shape := ⟨2, ![256, 1]⟩
abbrev S65536 : Shape := ⟨1, ![65536]⟩
abbrev S1x65536 : Shape := ⟨2, ![1, 65536]⟩
abbrev S256x65536 : Shape := ⟨2, ![256, 65536]⟩
abbrev S128x65536 : Shape := ⟨2, ![128, 65536]⟩

class Facts : Prop where
  reducesTo_S256x128_S256_d1 : S256x128.ReducesTo [1] S256
  h_S_ : 0 < S_.numel
  bcast_S256_S256x1_0 : S256.BroadcastsInDim S256x1 (![0] : Fin 1 → Fin S256x1.rank)
  reducesTo_S65536x128_S65536_d1 : S65536x128.ReducesTo [1] S65536
  bcast_S65536_S1x65536_1 : S65536.BroadcastsInDim S1x65536 (![1] : Fin 1 → Fin S1x65536.rank)
  bcast_S256x1_S256x65536_0_1 : S256x1.BroadcastsInDim S256x65536 (![0, 1] : Fin 2 → Fin S256x65536.rank)
  bcast_S1x65536_S256x65536_0_1 : S1x65536.BroadcastsInDim S256x65536 (![0, 1] : Fin 2 → Fin S256x65536.rank)
  transposes_S65536x128_S128x65536_1_0 : S65536x128.Transposes [1, 0] S128x65536
  bcast_S_S256x65536 : S_.BroadcastsInDim S256x65536 (![] : Fin 0 → Fin S256x65536.rank)
  reducesTo_S256x65536_S256_d1 : S256x65536.ReducesTo [1] S256
  bcast_S_S256 : S_.BroadcastsInDim S256 (![] : Fin 0 → Fin S256.rank)
  reducesTo_S256_S_d0 : S256.ReducesTo [0] S_
  dot_S256x128_S128x65536_S256x65536_1_0_0_1_n_n_wf : DotDims.WF S256x128 S128x65536 S256x65536 [1] [0] [0] [1] [] []

variable [Facts]

def dot_S256x128_S128x65536_S256x65536_1_0_0_1_n_n : DotDims S256x128 S128x65536 S256x65536 where
  lhsContracting := [1]
  rhsContracting := [0]
  lhsNonContracting := [0]
  rhsNonContracting := [1]
  lhsBatch := []
  rhsBatch := []
  wf := dot_S256x128_S128x65536_S256x65536_1_0_0_1_n_n_wf
def fn_part1 {F : FTy → Type} [FloatOps F] (main_v17 : FVec F S256 .f32) (main_cst_4 : FVec F S_ .f32) : IVec S_ 1 :=
  let main_v18 : FVec F S256 .f32 := broadcastInDim S256 ![] bcast_S_S256 main_cst_4
  let main_v19 : IVec S256 1 := cmpf .oeq main_v17 main_v18
  let main_c : IVec S_ 1 := constantI S_ 1 1#1
  let main_v20 : IVec S_ 1 := (fun x v => Host.reduce IntOp.andi x v reducesTo_S256_S_d0 h_S_) main_v19 main_c
  main_v20

def fn {F : FTy → Type} [FloatOps F] (main_arg0 : FVec F S256x128 .f32) (main_arg1 : FVec F S65536x128 .f32) : IVec S_ 1 :=
  let main_v0 : FVec F S256x128 .f32 := mulf main_arg0 main_arg0
  let main_cst : FVec F S_ .f32 := constant S_ .f32 0x00000000#32
  let main_v1 : FVec F S256 .f32 := (fun x v => Host.reduceAdd x v reducesTo_S256x128_S256_d1 h_S_) main_v0 main_cst
  let main_v2 : FVec F S256x1 .f32 := broadcastInDim S256x1 ![0] bcast_S256_S256x1_0 main_v1
  let main_v3 : FVec F S65536x128 .f32 := mulf main_arg1 main_arg1
  let main_cst_0 : FVec F S_ .f32 := constant S_ .f32 0x00000000#32
  let main_v4 : FVec F S65536 .f32 := (fun x v => Host.reduceAdd x v reducesTo_S65536x128_S65536_d1 h_S_) main_v3 main_cst_0
  let main_v5 : FVec F S1x65536 .f32 := broadcastInDim S1x65536 ![1] bcast_S65536_S1x65536_1 main_v4
  let main_v6 : FVec F S256x65536 .f32 := broadcastInDim S256x65536 ![0, 1] bcast_S256x1_S256x65536_0_1 main_v2
  let main_v7 : FVec F S256x65536 .f32 := broadcastInDim S256x65536 ![0, 1] bcast_S1x65536_S256x65536_0_1 main_v5
  let main_v8 : FVec F S256x65536 .f32 := addf main_v6 main_v7
  let main_v9 : FVec F S128x65536 .f32 := (transpose S128x65536 [1, 0] · transposes_S65536x128_S128x65536_1_0) main_arg1
  let main_v10 : FVec F S256x65536 .f32 := (fun l r => Host.dotGeneral dot_S256x128_S128x65536_S256x65536_1_0_0_1_n_n none l r) main_arg0 main_v9
  let main_cst_1 : FVec F S_ .f32 := constant S_ .f32 0x40000000#32
  let main_v11 : FVec F S256x65536 .f32 := broadcastInDim S256x65536 ![] bcast_S_S256x65536 main_cst_1
  let main_v12 : FVec F S256x65536 .f32 := mulf main_v11 main_v10
  let main_v13 : FVec F S256x65536 .f32 := subf main_v8 main_v12
  let main_cst_2 : FVec F S_ .f32 := constant S_ .f32 0x00000000#32
  let main_v14 : FVec F S256x65536 .f32 := broadcastInDim S256x65536 ![] bcast_S_S256x65536 main_cst_2
  let main_v15 : FVec F S256x65536 .f32 := maximumf main_v13 main_v14
  let main_v16 : FVec F S256x65536 .f32 := Host.sqrt main_v15
  let main_cst_3 : FVec F S_ .f32 := constant S_ .f32 0x7F800000#32
  let main_v17 : FVec F S256 .f32 := (fun x v => Host.reduce FloatOps.minimumf x v reducesTo_S256x65536_S256_d1 h_S_) main_v16 main_cst_3
  let main_cst_4 : FVec F S_ .f32 := constant S_ .f32 0x00000000#32
  fn_part1 (F := F) main_v17 main_cst_4
-- ==== Kernel.lean ====
abbrev S256x128 : Shape := ⟨2, ![256, 128]⟩
abbrev S65536x128 : Shape := ⟨2, ![65536, 128]⟩
abbrev S256 : Shape := ⟨1, ![256]⟩
abbrev S_ : Shape := ⟨0, ![]⟩
abbrev S16 : Shape := ⟨1, ![16]⟩
abbrev S256x1 : Shape := ⟨2, ![256, 1]⟩
abbrev S1x16 : Shape := ⟨2, ![1, 16]⟩
abbrev S256x16 : Shape := ⟨2, ![256, 16]⟩
abbrev S33 : Shape := ⟨1, ![33]⟩
abbrev S1x256 : Shape := ⟨2, ![1, 256]⟩
abbrev S256x256 : Shape := ⟨2, ![256, 256]⟩
abbrev S256x256x1 : Shape := ⟨3, ![256, 256, 1]⟩
abbrev S1x256x16 : Shape := ⟨3, ![1, 256, 16]⟩
abbrev S256x256x16 : Shape := ⟨3, ![256, 256, 16]⟩
abbrev S16x256 : Shape := ⟨2, ![16, 256]⟩
abbrev S1x1 : Shape := ⟨2, ![1, 1]⟩
abbrev S8192x128 : Shape := ⟨2, ![8192, 128]⟩
abbrev S8x8192 : Shape := ⟨2, ![8, 8192]⟩
abbrev S4x8192 : Shape := ⟨2, ![4, 8192]⟩
abbrev S1x128 : Shape := ⟨2, ![1, 128]⟩
abbrev S1x8192 : Shape := ⟨2, ![1, 8192]⟩
abbrev S256x8192 : Shape := ⟨2, ![256, 8192]⟩
abbrev S1x256x128 : Shape := ⟨3, ![1, 256, 128]⟩
abbrev S1 : Shape := ⟨1, ![1]⟩
abbrev S1x1x1 : Shape := ⟨3, ![1, 1, 1]⟩
abbrev S16x128 : Shape := ⟨2, ![16, 128]⟩
abbrev S1x1x128 : Shape := ⟨3, ![1, 1, 128]⟩
abbrev S1x4x8192 : Shape := ⟨3, ![1, 4, 8192]⟩
abbrev S16x16 : Shape := ⟨2, ![16, 16]⟩
abbrev S1x256x256 : Shape := ⟨3, ![1, 256, 256]⟩

abbrev nBuf : Space → Nat
  | .hbm => 79
  | .vmem => 15
  | .smem => 0
  | _ => 0

abbrev bufTy : (tb : Table) → Fin (tcTables nBuf tb) → BufTy
  | .hbm, ⟨0, _⟩ => ⟨S256x128, .f32⟩
  | .hbm, ⟨1, _⟩ => ⟨S65536x128, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S16, .f32⟩
  | .hbm, ⟨13, _⟩ => ⟨S256x1, .f32⟩
  | .hbm, ⟨14, _⟩ => ⟨S1x16, .f32⟩
  | .hbm, ⟨15, _⟩ => ⟨S256x16, .f32⟩
  | .hbm, ⟨16, _⟩ => ⟨S256x16, .f32⟩
  | .hbm, ⟨17, _⟩ => ⟨S256x16, .f32⟩
  | .hbm, ⟨18, _⟩ => ⟨S256x16, .f32⟩
  | .hbm, ⟨19, _⟩ => ⟨S_, .f32⟩
  | .hbm, ⟨20, _⟩ => ⟨S256x16, .f32⟩
  | .hbm, ⟨21, _⟩ => ⟨S256x16, .f32⟩
  | .hbm, ⟨22, _⟩ => ⟨S_, .f32⟩
  | .hbm, ⟨23, _⟩ => ⟨S256x16, .f32⟩
  | .hbm, ⟨24, _⟩ => ⟨S256x16, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S256x16, .f32⟩
  | .hbm, ⟨29, _⟩ => ⟨S256x16, .f32⟩
  | .hbm, ⟨30, _⟩ => ⟨S33, .f32⟩
  | .hbm, ⟨31, _⟩ => ⟨S_, .f32⟩
  | .hbm, ⟨32, _⟩ => ⟨S33, .f32⟩
  | .hbm, ⟨33, _⟩ => ⟨S33, .f32⟩
  | .hbm, ⟨34, _⟩ => ⟨S_, .f32⟩
  | .hbm, ⟨35, _⟩ => ⟨S33, .f32⟩
  | .hbm, ⟨36, _⟩ => ⟨S33, .f32⟩
  | .hbm, ⟨37, _⟩ => ⟨S33, .f32⟩
  | .hbm, ⟨38, _⟩ => ⟨S_, .f32⟩
  | .hbm, ⟨39, _⟩ => ⟨S33, .f32⟩
  | .hbm, ⟨40, _⟩ => ⟨S33, .f32⟩
  | .hbm, ⟨41, _⟩ => ⟨S33, .f32⟩
  | .hbm, ⟨42, _⟩ => ⟨S1x256, .f32⟩
  | .hbm, ⟨43, _⟩ => ⟨S256x1, .f32⟩
  | .hbm, ⟨44, _⟩ => ⟨S256x256, .f32⟩
  | .hbm, ⟨45, _⟩ => ⟨S256x256, .f32⟩
  | .hbm, ⟨46, _⟩ => ⟨S256x256, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S_, .f32⟩
  | .hbm, ⟨61, _⟩ => ⟨S256x256, .f32⟩
  | .hbm, ⟨62, _⟩ => ⟨S256x256, .i1⟩
  | .hbm, ⟨63, _⟩ => ⟨S_, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256x1, .f32⟩
  | .hbm, ⟨68, _⟩ => ⟨S1x256x16, .f32⟩
  | .hbm, ⟨69, _⟩ => ⟨S256x256x16, .f32⟩
  | .hbm, ⟨70, _⟩ => ⟨S256x256x16, .f32⟩
  | .hbm, ⟨71, _⟩ => ⟨S256x256x16, .f32⟩
  | .hbm, ⟨72, _⟩ => ⟨S_, .f32⟩
  | .hbm, ⟨73, _⟩ => ⟨S256x16, .f32⟩
  | .hbm, ⟨74, _⟩ => ⟨S16x256, .f32⟩
  | .hbm, ⟨75, _⟩ => ⟨S1x1, .f32⟩
  | .hbm, ⟨76, _⟩ => ⟨S256x256, .f32⟩
  | .hbm, ⟨77, _⟩ => ⟨S1, .f32⟩
  | .hbm, ⟨78, _⟩ => ⟨S1x256x256, .f32⟩
  | .local _ .vmem, ⟨0, _⟩ => ⟨S256x128, .f32⟩
  | .local _ .vmem, ⟨1, _⟩ => ⟨S8192x128, .f32⟩
  | .local _ .vmem, ⟨2, _⟩ => ⟨S8192x128, .f32⟩
  | .local _ .vmem, ⟨3, _⟩ => ⟨S256x16, .f32⟩
  | .local _ .vmem, ⟨4, _⟩ => ⟨S16x256, .f32⟩
  | .local _ .vmem, ⟨5, _⟩ => ⟨S1x1, .f32⟩
  | .local _ .vmem, ⟨6, _⟩ => ⟨S256x256, .f32⟩
  | .local _ .vmem, ⟨7, _⟩ => ⟨S65536x128, .bf16⟩
  | .local _ .vmem, ⟨8, _⟩ => ⟨S8x8192, .f32⟩
  | .local _ .vmem, ⟨9, _⟩ => ⟨S8x8192, .f32⟩
  | .local _ .vmem, ⟨10, _⟩ => ⟨S4x8192, .f32⟩
  | .local _ .vmem, ⟨11, _⟩ => ⟨S4x8192, .f32⟩
  | .local _ .vmem, ⟨12, _⟩ => ⟨S1x128, .f32⟩
  | .local _ .vmem, ⟨13, _⟩ => ⟨S256x128, .f32⟩
  | .local _ .vmem, ⟨14, _⟩ => ⟨S256x128, .i32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_cst_12 : Ref sig .tc := ⟨.hbm, 63, rfl⟩
abbrev main_call0_v0 : Ref sig .tc := ⟨.hbm, 64, rfl⟩
abbrev main_call0_v1 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56_0 : Ref sig .tc := ⟨.hbm, 75, rfl⟩
abbrev main_v56_1 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c8192_i32 : BitVec 32 := 8192#32
  let v653 : BitVec 32 := Scalar.muli arg0 c8192_i32
  let v654 : Index := Scalar.indexCast v653
  let c0_73 : Index := 0#32
  ![v654.toNat, 0]
def k0_off2 (i : grid0.Coords) : Fin 2 → Nat :=
  let arg0 : BitVec 32 := BitVec.ofNat 32 (i 0).val
  let v658 : Index := Scalar.indexCast arg0
  let c0_74 : Index := 0#32
  ![v658.toNat, 0]
def k0_cond4 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

def k0_mult1 (v71 : BitVec 32) : BitVec 32 :=
  let c0_i32_22 : BitVec 32 := 0#32
  let v73 : BitVec 1 := Scalar.cmpi .sgt v71 c0_i32_22
  let v74 : BitVec 32 := Scalar.extui v73
  let c0_i32_23 : BitVec 32 := 0#32
  let v75 : BitVec 1 := Scalar.cmpi .slt v71 c0_i32_23
  let v76 : BitVec 32 := Scalar.extui v75
  let v77 : BitVec 32 := Scalar.subi v74 v76
  let c16_i32_21 : BitVec 32 := 16#32
  let c0_i32_24 : BitVec 32 := 0#32
  let v78 : BitVec 1 := Scalar.cmpi .sgt c16_i32_21 c0_i32_24
  let v79 : BitVec 32 := Scalar.extui v78
  let c0_i32_25 : BitVec 32 := 0#32
  let v80 : BitVec 1 := Scalar.cmpi .slt c16_i32_21 c0_i32_25
  let v81 : BitVec 32 := Scalar.extui v80
  let v82 : BitVec 32 := Scalar.subi v79 v81
  let v83 : BitVec 1 := Scalar.cmpi .ne v77 v82
  let v84 : BitVec 32 := Scalar.remsi v71 c16_i32_21
  let c0_i32_26 : BitVec 32 := 0#32
  let v85 : BitVec 1 := Scalar.cmpi .ne v84 c0_i32_26
  let v86 : BitVec 1 := Scalar.andi v83 v85
  let v72 : BitVec 32 := Scalar.divsi v71 c16_i32_21
  let c1_i32_27 : BitVec 32 := 1#32
  let v87 : BitVec 32 := Scalar.subi v72 c1_i32_27
  let v88 : BitVec 32 := Scalar.select v86 v87 v72
  let c16_i32_28 : BitVec 32 := 16#32
  let v89 : BitVec 32 := Scalar.muli v88 c16_i32_28
  v89

def k0_off3 (v71 : BitVec 32) : Fin 2 → Nat :=
  let c0_i32_22 : BitVec 32 := 0#32
  let v73 : BitVec 1 := Scalar.cmpi .sgt v71 c0_i32_22
  let v74 : BitVec 32 := Scalar.extui v73
  let c0_i32_23 : BitVec 32 := 0#32
  let v75 : BitVec 1 := Scalar.cmpi .slt v71 c0_i32_23
  let v76 : BitVec 32 := Scalar.extui v75
  let v77 : BitVec 32 := Scalar.subi v74 v76
  let c16_i32_21 : BitVec 32 := 16#32
  let c0_i32_24 : BitVec 32 := 0#32
  let v78 : BitVec 1 := Scalar.cmpi .sgt c16_i32_21 c0_i32_24
  let v79 : BitVec 32 := Scalar.extui v78
  let c0_i32_25 : BitVec 32 := 0#32
  let v80 : BitVec 1 := Scalar.cmpi .slt c16_i32_21 c0_i32_25
  let v81 : BitVec 32 := Scalar.extui v80
  let v82 : BitVec 32 := Scalar.subi v79 v81
  let v83 : BitVec 1 := Scalar.cmpi .ne v77 v82
  let v84 : BitVec 32 := Scalar.remsi v71 c16_i32_21
  let c0_i32_26 : BitVec 32 := 0#32
  let v85 : BitVec 1 := Scalar.cmpi .ne v84 c0_i32_26
  let v86 : BitVec 1 := Scalar.andi v83 v85
  let v72 : BitVec 32 := Scalar.divsi v71 c16_i32_21
  let c1_i32_27 : BitVec 32 := 1#32
  let v87 : BitVec 32 := Scalar.subi v72 c1_i32_27
  let v88 : BitVec 32 := Scalar.select v86 v87 v72
  let c16_i32_28 : BitVec 32 := 16#32
  let v89 : BitVec 32 := Scalar.muli v88 c16_i32_28
  let v90 : BitVec 32 := v89
  let v91 : Index := Scalar.indexCast v90
  let c0_29 : Index := 0#32
  ![v91.toNat, 0]

def k0_chk1 (i : grid0.Coords) (v71 : BitVec 32) : Prop :=
  (∀ (k0_h4 : k0_cond4 i = 1#1), 16 ∣ (k0_mult1 v71).toNat) ∧
  (∀ (k0_h4 : k0_cond4 i = 1#1), ∀ a, (k0_off3 v71) a + S16x128.size a ≤ S65536x128.size a)
theorem k0_mult1_dvd : ∀ (i : grid0.Coords) (v71 : BitVec 32) (k0_hw1 : k0_chk1 i v71), ∀ (k0_h4 : k0_cond4 i = 1#1), 16 ∣ (k0_mult1 v71).toNat := fun i v71 k0_hw1 k0_h4 => k0_hw1.1 k0_h4
theorem k0_off3_inb : ∀ (i : grid0.Coords) (v71 : BitVec 32) (k0_hw1 : k0_chk1 i v71), ∀ (k0_h4 : k0_cond4 i = 1#1), ∀ a, (k0_off3 v71) a + S16x128.size a ≤ S65536x128.size a := fun i v71 k0_hw1 k0_h4 => k0_hw1.2 k0_h4

@[reducible] def k0_t1_loop : Scf.Loop 32 :=
  let c0_i32_43 : BitVec 32 := 0#32
  let c8_i32_44 : BitVec 32 := 8#32
  let v159 : BitVec 32 := Scalar.addi c0_i32_43 c8_i32_44
  let c1_i32_45 : BitVec 32 := 1#32
  ⟨c0_i32_43, v159, c1_i32_45⟩
def k0_off4 (k0_t1 : Fin k0_t1_loop.trips) : Fin 2 → Nat :=
  let c0_i32_43 : BitVec 32 := 0#32
  let c1_i32_45 : BitVec 32 := 1#32
  let arg15 : BitVec 32 := Scf.iv c0_i32_43 c1_i32_45 k0_t1
  let c8192_i32 : BitVec 32 := 8192#32
  let v273 : BitVec 32 := Scalar.muli arg15 c8192_i32
  let v274 : Index := Scalar.indexCast v273
  let c0_103 : Index := 0#32
  ![v274.toNat, 0]
def k0_off5 (k0_t1 : Fin k0_t1_loop.trips) : Fin 2 → Nat :=
  let c0_i32_43 : BitVec 32 := 0#32
  let c1_i32_45 : BitVec 32 := 1#32
  let arg15 : BitVec 32 := Scf.iv c0_i32_43 c1_i32_45 k0_t1
  let v277 : Index := Scalar.indexCast arg15
  let c0_105 : Index := 0#32
  ![v277.toNat, 0]
@[reducible] def k0_t2_loop : Scf.Loop 32 :=
  let c0_i32_58 : BitVec 32 := 0#32
  let c10_i32_59 : BitVec 32 := 10#32
  let v173 : BitVec 32 := Scalar.addi c0_i32_58 c10_i32_59
  let c1_i32_60 : BitVec 32 := 1#32
  ⟨c0_i32_58, v173, c1_i32_60⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "big" => some ⊤
  | _ => none
-- ==== ReferenceIdeal.lean ====
abbrev S256x128 : Shape := ⟨2, ![256, 128]⟩
abbrev S65536x128 : Shape := ⟨2, ![65536, 128]⟩
abbrev S_ : Shape := ⟨0, ![]⟩
abbrev S256 : Shape := ⟨1, ![256]⟩
abbrev S256x1 : Shape := ⟨2, ![256, 1]⟩
abbrev S65536 : Shape := ⟨1, ![65536]⟩
abbrev S1x65536 : Shape := ⟨2, ![1, 65536]⟩
abbrev S256x65536 : Shape := ⟨2, ![256, 65536]⟩
abbrev S128x65536 : Shape := ⟨2, ![128, 65536]⟩
abbrev S1 : Shape := ⟨1, ![1]⟩
abbrev S1x128 : Shape := ⟨2, ![1, 128]⟩
abbrev S1x1 : Shape := ⟨2, ![1, 1]⟩
abbrev S1x10 : Shape := ⟨2, ![1, 10]⟩
abbrev S16 : Shape := ⟨1, ![16]⟩
abbrev S1x16 : Shape := ⟨2, ![1, 16]⟩
abbrev S256x16 : Shape := ⟨2, ![256, 16]⟩
abbrev S16x16 : Shape := ⟨2, ![16, 16]⟩
abbrev S16x256 : Shape := ⟨2, ![16, 256]⟩
abbrev S256x256 : Shape := ⟨2, ![256, 256]⟩
abbrev S33 : Shape := ⟨1, ![33]⟩
abbrev S1x256 : Shape := ⟨2, ![1, 256]⟩
abbrev S1x9 : Shape := ⟨2, ![1, 9]⟩
abbrev S1x256x256 : Shape := ⟨3, ![1, 256, 256]⟩

abbrev nBuf : Space → Nat
  | .hbm => 213
  | .vmem => 0
  | .smem => 0
  | _ => 0

abbrev hbmTy0_0 (i : Nat) : BufTy := match i % 128 with
  | 0 => ⟨S256x128, .f32⟩
  | 1 => ⟨S65536x128, .f32⟩
  | 2 => ⟨S256x128, .f32⟩
  | 3 => ⟨S_, .f32⟩
  | 4 => ⟨S256, .f32⟩
  | 5 => ⟨S256x1, .f32⟩
  | 6 => ⟨S65536x128, .f32⟩
  | 7 => ⟨S_, .f32⟩
  | 8 => ⟨S65536, .f32⟩
  | 9 => ⟨S1x65536, .f32⟩
  | 10 => ⟨S256x65536, .f32⟩
  | 11 => ⟨S256x65536, .f32⟩
  | 12 => ⟨S256x65536, .f32⟩
  | 13 => ⟨S128x65536, .f32⟩
  | 14 => ⟨S256x65536, .f32⟩
  | 15 => ⟨S_, .f32⟩
  | 16 => ⟨S256x65536, .f32⟩
  | 17 => ⟨S256x65536, .f32⟩
  | 18 => ⟨S256x65536, .f32⟩
  | 19 => ⟨S_, .f32⟩
  | 20 => ⟨S256x65536, .f32⟩
  | 21 => ⟨S256x65536, .f32⟩
  | 22 => ⟨S256x65536, .f32⟩
  | 23 => ⟨S_, .f32⟩
  | 24 => ⟨S256, .f32⟩
  | 25 => ⟨S256x1, .f32⟩
  | 26 => ⟨S256x65536, .f32⟩
  | 27 => ⟨S256x65536, .i1⟩
  | 28 => ⟨S65536, .i32⟩
  | 29 => ⟨S1x65536, .i32⟩
  | 30 => ⟨S_, .i32⟩
  | 31 => ⟨S_, .i32⟩
  | 32 => ⟨S256x65536, .i32⟩
  | 33 => ⟨S256x65536, .i32⟩
  | 34 => ⟨S256x65536, .i32⟩
  | 35 => ⟨S_, .i32⟩
  | 36 => ⟨S256, .i32⟩
  | 37 => ⟨S_, .f32⟩
  | 38 => ⟨S_, .f32⟩
  | 39 => ⟨S256, .f32⟩
  | 40 => ⟨S256, .i1⟩
  | 41 => ⟨S256, .i32⟩
  | 42 => ⟨S_, .i32⟩
  | 43 => ⟨S_, .i32⟩
  | 44 => ⟨S256, .i32⟩
  | 45 => ⟨S256, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S1, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S1x128, .f32⟩
  | 62 => ⟨S1x128, .f32⟩
  | 63 => ⟨S_, .f32⟩
  | 64 => ⟨S1, .f32⟩
  | 65 => ⟨S1x1, .f32⟩
  | 66 => ⟨S65536x128, .f32⟩
  | 67 => ⟨S_, .f32⟩
  | 68 => ⟨S65536, .f32⟩
  | 69 => ⟨S1x65536, .f32⟩
  | 70 => ⟨S1x65536, .f32⟩
  | 71 => ⟨S1x65536, .f32⟩
  | 72 => ⟨S128x65536, .f32⟩
  | 73 => ⟨S1x65536, .f32⟩
  | 74 => ⟨S_, .f32⟩
  | 75 => ⟨S1x65536, .f32⟩
  | 76 => ⟨S1x65536, .f32⟩
  | 77 => ⟨S1x65536, .f32⟩
  | 78 => ⟨S_, .f32⟩
  | 79 => ⟨S1x65536, .f32⟩
  | 80 => ⟨S1x65536, .f32⟩
  | 81 => ⟨S1x65536, .f32⟩
  | 82 => ⟨S1x65536, .f32⟩
  | 83 => ⟨S1x10, .f32⟩
  | 84 => ⟨S1x10, .i32⟩
  | 85 => ⟨S1x10, .f32⟩
  | 86 => ⟨S256, .f32⟩
  | 87 => ⟨S_, .f32⟩
  | 88 => ⟨S256, .f32⟩
  | 89 => ⟨S256, .f32⟩
  | 90 => ⟨S_, .f32⟩
  | 91 => ⟨S256, .f32⟩
  | 92 => ⟨S256, .f32⟩
  | 93 => ⟨S_, .f32⟩
  | 94 => ⟨S256, .f32⟩
  | 95 => ⟨S256, .f32⟩
  | 96 => ⟨S256x1, .f32⟩
  | 97 => ⟨S16, .f32⟩
  | 98 => ⟨S1x16, .f32⟩
  | 99 => ⟨S256x16, .f32⟩
  | 100 => ⟨S256x16, .f32⟩
  | 101 => ⟨S256x16, .f32⟩
  | 102 => ⟨S256x16, .f32⟩
  | 103 => ⟨S_, .f32⟩
  | 104 => ⟨S256x16, .f32⟩
  | 105 => ⟨S256x16, .f32⟩
  | 106 => ⟨S_, .f32⟩
  | 107 => ⟨S256x16, .f32⟩
  | 108 => ⟨S256x16, .f32⟩
  | 109 => ⟨S_, .f32⟩
  | 110 => ⟨S256, .f32⟩
  | 111 => ⟨S256x1, .f32⟩
  | 112 => ⟨S256x16, .f32⟩
  | 113 => ⟨S256x16, .f32⟩
  | 114 => ⟨S16x16, .f32⟩
  | 115 => ⟨S256x16, .f32⟩
  | 116 => ⟨S16x256, .f32⟩
  | 117 => ⟨S256x256, .f32⟩
  | 118 => ⟨S33, .f32⟩
  | 119 => ⟨S_, .f32⟩
  | 120 => ⟨S33, .f32⟩
  | 121 => ⟨S33, .f32⟩
  | 122 => ⟨S_, .f32⟩
  | 123 => ⟨S33, .f32⟩
  | 124 => ⟨S33, .f32⟩
  | 125 => ⟨S33, .f32⟩
  | 126 => ⟨S_, .f32⟩
  | 127 => ⟨S33, .f32⟩
  | _ => ⟨S256x128, .f32⟩

abbrev hbmTy0_1 (i : Nat) : BufTy := match i % 128 with
  | 0 => ⟨S33, .f32⟩
  | 1 => ⟨S33, .f32⟩
  | 2 => ⟨S_, .f32⟩
  | 3 => ⟨S_, .f32⟩
  | 4 => ⟨S256, .f32⟩
  | 5 => ⟨S1x256, .f32⟩
  | 6 => ⟨S256x1, .f32⟩
  | 7 => ⟨S256x256, .f32⟩
  | 8 => ⟨S256x256, .f32⟩
  | 9 => ⟨S256x256, .f32⟩
  | 10 => ⟨S256x256, .f32⟩
  | 11 => ⟨S_, .f32⟩
  | 12 => ⟨S256x256, .f32⟩
  | 13 => ⟨S256x256, .i1⟩
  | 14 => ⟨S_, .f32⟩
  | 15 => ⟨S256x256, .f32⟩
  | 16 => ⟨S256x256, .f32⟩
  | 17 => ⟨S256x256, .f32⟩
  | 18 => ⟨S_, .f32⟩
  | 19 => ⟨S256x256, .f32⟩
  | 20 => ⟨S256x256, .f32⟩
  | 21 => ⟨S256x256, .f32⟩
  | 22 => ⟨S_, .f32⟩
  | 23 => ⟨S_, .f32⟩
  | 24 => ⟨S256x256, .f32⟩
  | 25 => ⟨S256x256, .f32⟩
  | 26 => ⟨S256x256, .f32⟩
  | 27 => ⟨S256x256, .f32⟩
  | 28 => ⟨S256x256, .f32⟩
  | 29 => ⟨S256x256, .f32⟩
  | 30 => ⟨S33, .f32⟩
  | 31 => ⟨S_, .f32⟩
  | 32 => ⟨S33, .f32⟩
  | 33 => ⟨S33, .f32⟩
  | 34 => ⟨S_, .f32⟩
  | 35 => ⟨S33, .f32⟩
  | 36 => ⟨S33, .f32⟩
  | 37 => ⟨S33, .f32⟩
  | 38 => ⟨S_, .f32⟩
  | 39 => ⟨S33, .f32⟩
  | 40 => ⟨S33, .f32⟩
  | 41 => ⟨S33, .f32⟩
  | 42 => ⟨S_, .f32⟩
  | 43 => ⟨S_, .f32⟩
  | 44 => ⟨S256, .f32⟩
  | 45 => ⟨S1x256, .f32⟩
  | 46 => ⟨S256x1, .f32⟩
  | 47 => ⟨S256x256, .f32⟩
  | 48 => ⟨S256x256, .f32⟩
  | 49 => ⟨S256x256, .f32⟩
  | 50 => ⟨S256x256, .f32⟩
  | 51 => ⟨S_, .f32⟩
  | 52 => ⟨S256x256, .f32⟩
  | 53 => ⟨S256x256, .i1⟩
  | 54 => ⟨S_, .f32⟩
  | 55 => ⟨S256x256, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S256x256, .f32⟩
  | 62 => ⟨S_, .f32⟩
  | 63 => ⟨S_, .f32⟩
  | 64 => ⟨S256x256, .f32⟩
  | 65 => ⟨S256x256, .f32⟩
  | 66 => ⟨S256x256, .f32⟩
  | 67 => ⟨S256x256, .f32⟩
  | 68 => ⟨S256x256, .f32⟩
  | 69 => ⟨S256x256, .f32⟩
  | 70 => ⟨S1x9, .f32⟩
  | 71 => ⟨S1x9, .f32⟩
  | 72 => ⟨S1x1, .f32⟩
  | 73 => ⟨S1, .f32⟩
  | 74 => ⟨S_, .f32⟩
  | 75 => ⟨S1, .f32⟩
  | 76 => ⟨S1, .f32⟩
  | 77 => ⟨S_, .f32⟩
  | 78 => ⟨S1, .f32⟩
  | 79 => ⟨S1, .f32⟩
  | 80 => ⟨S_, .f32⟩
  | 81 => ⟨S_, .f32⟩
  | 82 => ⟨S1, .f32⟩
  | 83 => ⟨S1, .f32⟩
  | 84 => ⟨S1x256x256, .f32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_10 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_cst_13 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_values : Ref sig .tc := ⟨.hbm, 83, rfl⟩
abbrev main_indices : Ref sig .tc := ⟨.hbm, 84, rfl⟩
abbrev main_v57 : Ref sig .tc := ⟨.hbm, 85, rfl⟩
abbrev main_v58 : Ref sig .tc := ⟨.hbm, 86, rfl⟩
abbrev main_cst_17 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩
abbrev main_cst_21 : Ref sig .tc := ⟨.hbm, 106, rfl⟩
abbrev main_v74 : Ref sig .tc := ⟨.hbm, 107, rfl⟩
abbrev main_v75 : Ref sig .tc := ⟨.hbm, 108, rfl⟩
abbrev main_cst_22 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_25 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_27 : Ref sig .tc := ⟨.hbm, 139, rfl⟩
abbrev main_v101 : Ref sig .tc := ⟨.hbm, 140, rfl⟩
abbrev main_v102 : Ref sig .tc := ⟨.hbm, 141, rfl⟩
abbrev main_cst_28 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_29 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_30 : Ref sig .tc := ⟨.hbm, 150, rfl⟩
abbrev main_call2_v0 : Ref sig .tc := ⟨.hbm, 151, rfl⟩
abbrev main_call2_v1 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_31 : Ref sig .tc := ⟨.hbm, 159, rfl⟩
abbrev main_v115 : Ref sig .tc := ⟨.hbm, 160, rfl⟩
abbrev main_v116 : Ref sig .tc := ⟨.hbm, 161, rfl⟩
abbrev main_cst_32 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_33 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_34 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_35 : Ref sig .tc := ⟨.hbm, 179, rfl⟩
abbrev main_v131 : Ref sig .tc := ⟨.hbm, 180, rfl⟩
abbrev main_v132 : Ref sig .tc := ⟨.hbm, 181, rfl⟩
abbrev main_cst_36 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_37 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_38 : Ref sig .tc := ⟨.hbm, 190, rfl⟩
abbrev main_call3_v0 : Ref sig .tc := ⟨.hbm, 191, rfl⟩
abbrev main_call3_v1 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_39 : Ref sig .tc := ⟨.hbm, 202, rfl⟩
abbrev main_v148 : Ref sig .tc := ⟨.hbm, 203, rfl⟩
abbrev main_v149 : Ref sig .tc := ⟨.hbm, 204, rfl⟩
abbrev main_cst_40 : Ref sig .tc := ⟨.hbm, 205, rfl⟩
abbrev main_v150 : Ref sig .tc := ⟨.hbm, 206, rfl⟩
abbrev main_v151 : Ref sig .tc := ⟨.hbm, 207, rfl⟩
abbrev main_cst_41 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩

abbrev nD : Nat := 1
abbrev τ : Topo := Topo.v7x

variable {F : FTy → Type} [FloatOps F]
-- ==== Proof.IdealWords.lean ====
/- The side condition on the row the last point reads: the chunk indices the scan leaves are below 512, so the key
   index chosen is below 65536 and its sixteen-row slab lies within the key scratch. -/
module

public import proofs.«01_k».proof.Proof.Gen.KernelIdeal.Skeleton
public import Idealize.ShloMosaic.Lib.Affine
public import Idealize.ShloMosaic.Lib.WordCmp
public import Idealize.ShloMosaic.Lib.Pointwise
public import Idealize.ShloMosaic.Lib.SortNet.Extract

@[expose] public section

set_option maxRecDepth 16384

noncomputable section

namespace Cert.KernelIdeal.Hand

open Cert.KernelIdeal.Gen
open Idealize.ShloMosaic Idealize.ShloMosaic.TcCoe Idealize.ShloMosaic.Affine

variable {F : FTy → Type} [FloatOps F] [Named F]

/-- The slab's first row: the row index rounded down to a multiple of sixteen. -/
theorem slab_toNat (v : BitVec 32) (h : v.toNat < 65536) : (k0_mult1 v).toNat = v.toNat / 16 * 16 := by
  have hv : IsInt v (v.toNat : Int) := by
    have := Affine.ofNat (e := v.toNat) v.toNat ⟨rfl, by omega⟩
    rwa [BitVec.ofNat_toNat, BitVec.setWidth_eq] at this
  have h16 : IsInt 16#32 16 := Affine.ofNat 16 ⟨rfl, by omega⟩
  rcases Nat.eq_zero_or_pos v.toNat with h0 | hpos
  · obtain rfl : v = 0#32 := BitVec.eq_of_toNat_eq (by simpa using h0)
    decide
  have z : IsInt 0#32 0 := Affine.ofNat 0 ⟨rfl, by omega⟩
  have e1 : Scalar.cmpi .sgt v 0#32 = 1#1 := Affine.sgt_holds hv z (by omega)
  have e2 : Scalar.cmpi .slt v 0#32 = 0#1 := by
    have : ¬ Scalar.cmpi .slt v 0#32 = 1#1 := Affine.slt_fails hv z (by omega)
    generalize Scalar.cmpi .slt v 0#32 = b at this ⊢
    revert b; decide
  have hd : IsInt (Scalar.divsi v 16#32) ((v.toNat : Int) / 16) := Affine.divsi hv h16 ⟨rfl, by omega, by omega⟩
  have hm : IsInt (Scalar.muli (Scalar.divsi v 16#32) 16#32) ((v.toNat : Int) / 16 * 16) :=
    Affine.muli hd h16 ⟨rfl, by omega, by omega⟩
  have key : k0_mult1 v = Scalar.muli (Scalar.divsi v 16#32) 16#32 := by
    unfold k0_mult1
    simp only [e1, e2]
    have : Scalar.cmpi .ne (Scalar.subi (Scalar.extui 1#1 : BitVec 32) (Scalar.extui 0#1 : BitVec 32))
        (Scalar.subi (Scalar.extui (Scalar.cmpi .sgt 16#32 0#32) : BitVec 32) (Scalar.extui (Scalar.cmpi .slt 16#32 0#32))) = 0#1 := by decide
    rw [this]
    generalize Scalar.cmpi .ne (Scalar.remsi v 16#32) 0#32 = b
    have hb : Scalar.andi 0#1 b = 0#1 := by revert b; decide
    rw [hb]; rfl
  rw [key]
  have := hm
  unfold IsInt at this
  rw [BitVec.toInt_eq_toNat_cond] at this
  split at this <;> omega

theorem slab_off (v : BitVec 32) (h : v.toNat < 65536) : k0_off3 v = ![v.toNat / 16 * 16, 0] := by
  have : k0_off3 v = ![(k0_mult1 v).toNat, 0] := rfl
  rw [this, slab_toNat v h]

/-- A word below 65536 meets the side condition. -/
theorem chk_of_lt (i : grid0.Coords) (v : BitVec 32) (h : v.toNat < 65536) : k0_chk1 i v := by
  refine ⟨fun _ => ?_, fun _ => ?_⟩
  · rw [slab_toNat v h]; exact Nat.dvd_mul_left _ _
  · rw [slab_off v h]
    intro a; fin_cases a
    · show v.toNat / 16 * 16 + 16 ≤ 65536; omega
    · show 0 + 128 ≤ 128; omega

/-- A signed minimum over all entries of a nonempty array of words below `n` is below `n`. -/
theorem minAll_lt (n : Nat) (hn : n ≤ 2 ^ 31) (x : IVec S1x256x128 32) (hx : ∀ j, (x j).toNat < n) (k : S1.Idx) :
    (multiReductionI .minsi [1, 2] S1 x 2147483647#32 reduces_S1x256x128_S1 rfl k).toNat < n := by
  refine lt_of_eq_of_lt (congrArg BitVec.toNat (multiReductionI_eq_fold .minsi x 2147483647#32 reduces_S1x256x128_S1 rfl k)) ?_
  have key : ∀ S : Finset S1x256x128.Idx, 0 ≤ (S.fold (IKind.op .minsi) (2147483647#32) x).toInt
      ∧ ∀ j ∈ S, (S.fold (IKind.op .minsi) (2147483647#32) x).toInt ≤ (x j).toInt := by
    intro S
    induction S using Finset.induction_on with
    | empty => simp
    | insert a S ha ih =>
      rw [Finset.fold_insert ha]
      have hop : ∀ p q : BitVec 32, (IKind.op .minsi p q).toInt = min p.toInt q.toInt := fun p q => SortNet.toInt_minsi p q
      rw [hop]
      have hxa : (x a).toInt = (x a).toNat := by
        rw [BitVec.toInt_eq_toNat_cond, if_pos]; have := hx a; omega
      refine ⟨by omega, fun j hj => ?_⟩
      rcases Finset.mem_insert.mp hj with rfl | hj
      · omega
      · have := ih.2 j hj; omega
  obtain ⟨h0, h1⟩ := key (Finset.univ.filter fun i => reduces_S1x256x128_S1.drop i = k)
  have hj : ∃ j, j ∈ Finset.univ.filter fun i => reduces_S1x256x128_S1.drop i = k := by
    refine ⟨fun a => ⟨0, by fin_cases a <;> decide⟩, ?_⟩
    simp only [Finset.mem_filter, Finset.mem_univ, true_and]
    funext a
    refine Fin.ext ?_
    have h1 : S1.size a = 1 := by fin_cases a; rfl
    have := (reduces_S1x256x128_S1.drop (fun a => ⟨0, by fin_cases a <;> decide⟩) a).isLt
    have := (k a).isLt
    omega
  obtain ⟨j, hj⟩ := hj
  have hle := h1 j hj
  have hxj := hx j
  have e : (x j).toInt = (x j).toNat := by
    rw [BitVec.toInt_eq_toNat_cond, if_pos]; omega
  rw [e] at hle
  generalize Finset.fold (IKind.op .minsi) 2147483647#32 x (Finset.univ.filter fun i => reduces_S1x256x128_S1.drop i = k) = r at h0 hle ⊢
  rw [BitVec.toInt_eq_toNat_cond] at h0 hle
  split at h0 <;> omega

/-- The key index the last point chooses is below 65536 when every chunk index is below 512. -/
theorem keyIdx_lt (v36 v37 : FVec F S256x128 .f32) (v44 : F .f32) (v59 : Vec F S256x128 .f32) (v62 : Vec F S256x128 .i32)
    (h : ∀ j, (v62 j).toNat < 512) :
    (extractAt ![0, 0, 0] (k0_pay244 v36 v37 v44 v59 v62) inpos_S1x1x1_p0_0_0).toNat < 65536 := by
  unfold k0_pay244
  rw [extractAt_eq]
  refine minAll_lt 65536 (by norm_num) _ (fun j => ?_) _
  rw [Pointwise.shapeCast_apply]
  generalize Shape.reshapeEquiv _ j = q
  simp only [Idealize.ShloMosaic.select, Scalar.select]
  split
  · have hq := h q
    have hl : (q 1).val < 128 := (q 1).isLt
    have : (Idealize.ShloMosaic.addi (Idealize.ShloMosaic.muli v62 (broadcast S256x128 128#32)) (iota .tc S256x128 32 [1] iota_S256x128_d1_w32) q)
        = v62 q * 128#32 + BitVec.ofNat 32 (0 * 128 + (q 1).val) := rfl
    rw [this, BitVec.toNat_add, BitVec.toNat_mul, BitVec.toNat_ofNat, BitVec.toNat_ofNat]
    omega
  · exact (by decide : (65535#32).toNat < 65536)

end Cert.KernelIdeal.Hand

end
-- ==== Proof.IdealRun.lean ====
/- The kernel body's runs while it scans the keys, at any float interpretation: the first point of the grid and a
   later point of the scan. -/
module

public import proofs.«01_k».proof.Proof.Gen.KernelIdeal.Frame
public import proofs.«01_k».proof.Proof.Gen.KernelIdeal.Loops
public import proofs.«01_k».proof.Proof.IdealWords

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The conditions of the body's branches -/

/-- The point scans a block of keys. -/
abbrev Scans (i : grid0.Coords) : Prop :=
  (Scalar.cmpi .ne (Scalar.extui (Scalar.cmpi .slt (BitVec.ofNat 32 (i 0).val) 8#32)) 0#32) = 1#1
/-- The point is the first of the scan. -/
abbrev Starts (i : grid0.Coords) : Prop :=
  (Scalar.cmpi .ne (Scalar.extui (Scalar.cmpi .eq (BitVec.ofNat 32 (i 0).val) 0#32)) 0#32) = 1#1
/-- The point continues the scan. -/
abbrev Continues (i : grid0.Coords) : Prop :=
  (Scalar.cmpi .ne (Scalar.extui (Scalar.cmpi .sgt (BitVec.ofNat 32 (i 0).val) 0#32)) 0#32) = 1#1
/-- The point computes the results. -/
abbrev Finishes (i : grid0.Coords) : Prop := k0_cond4 i = 1#1

theorem scans_iff (t : Fin cfg0.N) : Scans (grid0.coords t) ↔ t.val < 8 :=
  (by decide +kernel : ∀ t : Fin grid0.N, Scans (grid0.coords t) ↔ t.val < 8) t
theorem starts_iff (t : Fin cfg0.N) : Starts (grid0.coords t) ↔ t.val = 0 :=
  (by decide +kernel : ∀ t : Fin grid0.N, Starts (grid0.coords t) ↔ t.val = 0) t
theorem continues_iff (t : Fin cfg0.N) : Continues (grid0.coords t) ↔ 0 < t.val :=
  (by decide +kernel : ∀ t : Fin grid0.N, Continues (grid0.coords t) ↔ 0 < t.val) t
theorem finishes_iff (t : Fin cfg0.N) : Finishes (grid0.coords t) ↔ t.val = 8 :=
  (by decide +kernel : ∀ t : Fin grid0.N, Finishes (grid0.coords t) ↔ t.val = 8) t

/-! ## The runs -/

variable (c : Dev nD) (i : grid0.Coords)
  (arg1 : Memref sig .tc .vmem S256x128 .f32) (harg1 : arg1.IsWhole)
  (arg2 : Memref sig .tc .vmem S8192x128 .f32) (harg2 : arg2.IsWhole)
  (arg3 : Memref sig .tc .vmem S256x16 .f32) (harg3 : arg3.IsWhole)
  (arg4 : Memref sig .tc .vmem S16x256 .f32) (harg4 : arg4.IsWhole)
  (arg5 : Memref sig .tc .vmem S1x1 .f32) (harg5 : arg5.IsWhole)
  (arg6 : Memref sig .tc .vmem S256x256 .f32) (harg6 : arg6.IsWhole)
  (arg7 : Memref sig .tc .vmem S65536x128 .bf16) (harg7 : arg7.IsWhole)
  (arg8 : Memref sig .tc .vmem S8x8192 .f32) (harg8 : arg8.IsWhole)
  (arg9 : Memref sig .tc .vmem S8x8192 .f32) (harg9 : arg9.IsWhole)
  (arg10 : Memref sig .tc .vmem S4x8192 .f32) (harg10 : arg10.IsWhole)
  (arg11 : Memref sig .tc .vmem S4x8192 .f32) (harg11 : arg11.IsWhole)
  (arg12 : Memref sig .tc .vmem S1x128 .f32) (harg12 : arg12.IsWhole)
  (arg13 : Memref sig .tc .vmem S256x128 .f32) (harg13 : arg13.IsWhole)
  (arg14 : Memref sig .tc .vmem S256x128 .i32) (harg14 : arg14.IsWhole)

/-- Whole ownership of a memref's buffer at contents `f`. -/
abbrev holds {s : Shape} {e : EltTy} (c : Dev nD) (a : Memref sig .tc .vmem s e)
    (f : BufTy.Contents (Elt F) a.view.ty) : sProp 𝕄 :=
  iprop(a.view.loc (c : Thread nD τ) ↦[a.view.set]{fullShare} f)

set_option maxHeartbeats 4000000 in
/-- The first point: the queries and the block of keys are read; the block goes into the key scratch, its squared
    norms into the norm scratch, and the running minima and their chunks are set. -/
def runFirst (h1 : Scans i) (h2 : Starts i) (h3 : ¬ Continues i) (h4 : ¬ Finishes i)
    (x0 : Vec F S256x128 .f32) (x1 : Vec F S8192x128 .f32) :
    Σ' (L0 : List (View.Piece (Elt F) S65536x128 .bf16)) (L1 : List (View.Piece (Elt F) S8x8192 .f32))
      (L6 : List (View.Piece (Elt F) S256x128 .f32)), { L7 : List (View.Piece (Elt F) S256x128 .i32) //
      ∀ (E : Set ℕ) (K : PUnit → sProp 𝕄) (f0 f1 f6 f7),
        iprop(owns (c : Thread nD τ) arg1 fullShare x0 ∗ owns (c : Thread nD τ) arg2 fullShare x1
            ∗ holds c arg7 f0 ∗ holds c arg8 f1 ∗ holds c arg13 f6 ∗ holds c arg14 f7
            ∗ (iprop(owns (c : Thread nD τ) arg1 fullShare x0 ∗ owns (c : Thread nD τ) arg2 fullShare x1
              ∗ holds c arg7 (arg7.view.writes (Elt F) f0 L0) ∗ holds c arg8 (arg8.view.writes (Elt F) f1 L1)
              ∗ holds c arg13 (arg13.view.writes (Elt F) f6 L6) ∗ holds c arg14 (arg14.view.writes (Elt F) f7 L7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K f0 f1 f6 f7 => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%g0, %hg0, H0⟩, ⟨%g1, %hg1, H1⟩, HS0, HS1, HS6, HS7, Hk⟩
    obtain rfl := harg1.eq_unread hg0; obtain rfl := harg2.eq_unread hg1
    sl_exec (disch := first | sl_exact h1 | sl_exact h2 | sl_exact h3 | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexact HS0
    isplitl [HS1]; · iexact HS1
    isplitl [HS6]; · iexact HS6
    iexact HS7

set_option maxHeartbeats 4000000 in
/-- A later point of the scan: as the first, but the running minima and their chunks are updated from what they
    held. -/
def runNext (h1 : Scans i) (h2 : ¬ Starts i) (h3 : Continues i) (h4 : ¬ Finishes i)
    (x0 : Vec F S256x128 .f32) (x1 : Vec F S8192x128 .f32) (x6 : Vec F S256x128 .f32) (x7 : Vec F S256x128 .i32) :
    Σ' (L0 : List (View.Piece (Elt F) S65536x128 .bf16)) (L1 : List (View.Piece (Elt F) S8x8192 .f32))
      (L6 : List (View.Piece (Elt F) S256x128 .f32)), { L7 : List (View.Piece (Elt F) S256x128 .i32) //
      ∀ (E : Set ℕ) (K : PUnit → sProp 𝕄) (f0 f1),
        iprop(owns (c : Thread nD τ) arg1 fullShare x0 ∗ owns (c : Thread nD τ) arg2 fullShare x1
            ∗ holds c arg7 f0 ∗ holds c arg8 f1 ∗ owns (c : Thread nD τ) arg13 fullShare x6 ∗ owns (c : Thread nD τ) arg14 fullShare x7
            ∗ (iprop(owns (c : Thread nD τ) arg1 fullShare x0 ∗ owns (c : Thread nD τ) arg2 fullShare x1
              ∗ holds c arg7 (arg7.view.writes (Elt F) f0 L0) ∗ holds c arg8 (arg8.view.writes (Elt F) f1 L1)
              ∗ holds c arg13 (arg13.view.writes (Elt F) (harg13.unread x6) L6) ∗ holds c arg14 (arg14.view.writes (Elt F) (harg14.unread x7) L7)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K f0 f1 => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%g0, %hg0, H0⟩, ⟨%g1, %hg1, H1⟩, HS0, HS1, ⟨%f6, %hf6, HS6⟩, ⟨%f7, %hf7, HS7⟩, Hk⟩
    obtain rfl := harg1.eq_unread hg0; obtain rfl := harg2.eq_unread hg1
    obtain rfl := harg13.eq_unread hf6; obtain rfl := harg14.eq_unread hf7
    sl_exec (disch := first | sl_exact h1 | sl_exact h2 | sl_exact h3 | sl_exact h4)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexact HS0
    isplitl [HS1]; · iexact HS1
    isplitl [HS6]; · iexact HS6
    iexact HS7

end Cert.KernelIdeal.Hand

end
-- ==== Proof.IdealScan.lean ====
/- The scan over one block of keys: the running minimum over the sixty-four chunks of the block, and what the scanning
   points of the grid store. -/
module

public import proofs.«01_k».proof.Proof.IdealRun
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem slices_norms (n : ℕ) (h : n < 64) : S1x8192.Slices ![0, n * 128] S1x128 :=
  ⟨rfl, fun a => by fin_cases a <;> simp [S1x8192, S1x128] <;> omega⟩

theorem slices_dots (n : ℕ) (h : n < 64) : S256x8192.Slices ![0, n * 128] S256x128 :=
  ⟨rfl, fun a => by fin_cases a <;> simp [S256x8192, S256x128] <;> omega⟩

/-- Chunk `n` of a block: the keys' squared norms minus twice their products with the queries. -/
def chunk (v9 : FVec F S1x8192 .f32) (v11 : FVec F S256x8192 .f32) (n : ℕ) (h : n < 64) : FVec F S256x128 .f32 :=
  subf (broadcastTo S256x128 (extractStridedSlice S1x128 ![0, n * 128] v9 (slices_norms n h)) broadcasts_S1x128_S256x128)
    (mulf (broadcast S256x128 (Scalar.ofBits .f32 0x40000000#32))
      (extractStridedSlice S256x128 ![0, n * 128] v11 (slices_dots n h)))

/-- One more chunk of the running minimum and of the chunk it is taken in. -/
def scanStep (d : FVec F S256x128 .f32) (w : BitVec 32) (p : FVec F S256x128 .f32 × IVec S256x128 32) :
    FVec F S256x128 .f32 × IVec S256x128 32 :=
  (select (cmpf .olt d p.1) d p.1, select (cmpf .olt d p.1) (broadcast S256x128 w) p.2)

/-- The running minimum over the chunks up to `n`, with the chunk each minimum is first taken in. -/
def scan (v9 : FVec F S1x8192 .f32) (v11 : FVec F S256x8192 .f32) :
    (n : ℕ) → n < 64 → FVec F S256x128 .f32 × IVec S256x128 32
  | 0, h => (chunk v9 v11 0 h, broadcast S256x128 0#32)
  | n + 1, h => scanStep (chunk v9 v11 (n + 1) h) (BitVec.ofNat 32 (n + 1)) (scan v9 v11 n (by omega))

/-! The scan as the program's text runs it: four chunks, then twelve times five. -/

section
variable (v6 : Vec F S8192x128 .f32) (v10 : Vec F S256x128 .f32) (v9 : FVec F S1x8192 .f32) (v11 : FVec F S256x8192 .f32)

theorem scan_to_3 (h : 3 < 64) : k0_pay21 v6 v10 = (scan (k0_pay10 v6) (k0_pay11 v6 v10) 3 h).1
    ∧ k0_pay22 v6 v10 = (scan (k0_pay10 v6) (k0_pay11 v6 v10) 3 h).2 := ⟨rfl, rfl⟩

theorem scan_to_8 (h : 3 < 64) (h' : 8 < 64) :
    k0_pay39 (k0_pay10 v6) (k0_pay11 v6 v10) (scan (k0_pay10 v6) (k0_pay11 v6 v10) 3 h).1 (k0_pay23 v6) (k0_pay24 v6 v10) = (scan (k0_pay10 v6) (k0_pay11 v6 v10) 8 h').1
      ∧ k0_pay40 (k0_pay10 v6) (k0_pay11 v6 v10) (scan (k0_pay10 v6) (k0_pay11 v6 v10) 3 h).1 (scan (k0_pay10 v6) (k0_pay11 v6 v10) 3 h).2 (k0_pay23 v6) (k0_pay24 v6 v10) = (scan (k0_pay10 v6) (k0_pay11 v6 v10) 8 h').2 := ⟨rfl, rfl⟩

theorem scan_to_13 (h : 8 < 64) (h' : 13 < 64) :
    k0_pay57 v9 v11 (scan v9 v11 8 h).1 (k0_pay41 v9) (k0_pay42 v11) = (scan v9 v11 13 h').1
      ∧ k0_pay58 v9 v11 (scan v9 v11 8 h).1 (scan v9 v11 8 h).2 (k0_pay41 v9) (k0_pay42 v11) = (scan v9 v11 13 h').2 := ⟨rfl, rfl⟩

theorem scan_to_18 (h : 13 < 64) (h' : 18 < 64) :
    k0_pay75 v9 v11 (scan v9 v11 13 h).1 (k0_pay59 v9) (k0_pay60 v11) = (scan v9 v11 18 h').1
      ∧ k0_pay76 v9 v11 (scan v9 v11 13 h).1 (scan v9 v11 13 h).2 (k0_pay59 v9) (k0_pay60 v11) = (scan v9 v11 18 h').2 := ⟨rfl, rfl⟩

theorem scan_to_23 (h : 18 < 64) (h' : 23 < 64) :
    k0_pay93 v9 v11 (scan v9 v11 18 h).1 (k0_pay77 v9) (k0_pay78 v11) = (scan v9 v11 23 h').1
      ∧ k0_pay94 v9 v11 (scan v9 v11 18 h).1 (scan v9 v11 18 h).2 (k0_pay77 v9) (k0_pay78 v11) = (scan v9 v11 23 h').2 := ⟨rfl, rfl⟩

theorem scan_to_28 (h : 23 < 64) (h' : 28 < 64) :
    k0_pay111 v9 v11 (scan v9 v11 23 h).1 (k0_pay95 v9) (k0_pay96 v11) = (scan v9 v11 28 h').1
      ∧ k0_pay112 v9 v11 (scan v9 v11 23 h).1 (scan v9 v11 23 h).2 (k0_pay95 v9) (k0_pay96 v11) = (scan v9 v11 28 h').2 := ⟨rfl, rfl⟩

theorem scan_to_33 (h : 28 < 64) (h' : 33 < 64) :
    k0_pay129 v9 v11 (scan v9 v11 28 h).1 (k0_pay113 v9) (k0_pay114 v11) = (scan v9 v11 33 h').1
      ∧ k0_pay130 v9 v11 (scan v9 v11 28 h).1 (scan v9 v11 28 h).2 (k0_pay113 v9) (k0_pay114 v11) = (scan v9 v11 33 h').2 := ⟨rfl, rfl⟩

theorem scan_to_38 (h : 33 < 64) (h' : 38 < 64) :
    k0_pay147 v9 v11 (scan v9 v11 33 h).1 (k0_pay131 v9) (k0_pay132 v11) = (scan v9 v11 38 h').1
      ∧ k0_pay148 v9 v11 (scan v9 v11 33 h).1 (scan v9 v11 33 h).2 (k0_pay131 v9) (k0_pay132 v11) = (scan v9 v11 38 h').2 := ⟨rfl, rfl⟩

theorem scan_to_43 (h : 38 < 64) (h' : 43 < 64) :
    k0_pay165 v9 v11 (scan v9 v11 38 h).1 (k0_pay149 v9) (k0_pay150 v11) = (scan v9 v11 43 h').1
      ∧ k0_pay166 v9 v11 (scan v9 v11 38 h).1 (scan v9 v11 38 h).2 (k0_pay149 v9) (k0_pay150 v11) = (scan v9 v11 43 h').2 := ⟨rfl, rfl⟩

theorem scan_to_48 (h : 43 < 64) (h' : 48 < 64) :
    k0_pay183 v9 v11 (scan v9 v11 43 h).1 (k0_pay167 v9) (k0_pay168 v11) = (scan v9 v11 48 h').1
      ∧ k0_pay184 v9 v11 (scan v9 v11 43 h).1 (scan v9 v11 43 h).2 (k0_pay167 v9) (k0_pay168 v11) = (scan v9 v11 48 h').2 := ⟨rfl, rfl⟩

theorem scan_to_53 (h : 48 < 64) (h' : 53 < 64) :
    k0_pay201 v9 v11 (scan v9 v11 48 h).1 (k0_pay185 v9) (k0_pay186 v11) = (scan v9 v11 53 h').1
      ∧ k0_pay202 v9 v11 (scan v9 v11 48 h).1 (scan v9 v11 48 h).2 (k0_pay185 v9) (k0_pay186 v11) = (scan v9 v11 53 h').2 := ⟨rfl, rfl⟩

theorem scan_to_58 (h : 53 < 64) (h' : 58 < 64) :
    k0_pay219 v9 v11 (scan v9 v11 53 h).1 (k0_pay203 v9) (k0_pay204 v11) = (scan v9 v11 58 h').1
      ∧ k0_pay220 v9 v11 (scan v9 v11 53 h).1 (scan v9 v11 53 h).2 (k0_pay203 v9) (k0_pay204 v11) = (scan v9 v11 58 h').2 := ⟨rfl, rfl⟩

theorem scan_to_63 (h : 58 < 64) (h' : 63 < 64) :
    k0_pay237 v9 v11 (scan v9 v11 58 h).1 (k0_pay221 v9) (k0_pay222 v11) = (scan v9 v11 63 h').1
      ∧ k0_pay238 v9 v11 (scan v9 v11 58 h).1 (scan v9 v11 58 h).2 (k0_pay221 v9) (k0_pay222 v11) = (scan v9 v11 63 h').2 := ⟨rfl, rfl⟩

end

theorem scan_lt (v9 : FVec F S1x8192 .f32) (v11 : FVec F S256x8192 .f32) (j : S256x128.Idx) :
    ∀ (n : ℕ) (h : n < 64), ((scan v9 v11 n h).2 j).toNat ≤ n
  | 0, h => le_of_eq rfl
  | n + 1, h => by
    show ((select (cmpf .olt (chunk v9 v11 (n + 1) h) (scan v9 v11 n (by omega)).1)
      (broadcast S256x128 (BitVec.ofNat 32 (n + 1))) (scan v9 v11 n (by omega)).2) j).toNat ≤ n + 1
    unfold select Scalar.select
    split
    · show (BitVec.ofNat 32 (n + 1)).toNat ≤ n + 1
      rw [BitVec.toNat_ofNat]
      exact Nat.mod_le _ _
    · exact (scan_lt v9 v11 j n (by omega)).trans (Nat.le_succ n)

section

variable (c : Dev nD) (i : grid0.Coords)
  (arg1 : Memref sig .tc .vmem S256x128 .f32) (harg1 : arg1.IsWhole)
  (arg2 : Memref sig .tc .vmem S8192x128 .f32) (harg2 : arg2.IsWhole)
  (arg3 : Memref sig .tc .vmem S256x16 .f32) (harg3 : arg3.IsWhole)
  (arg4 : Memref sig .tc .vmem S16x256 .f32) (harg4 : arg4.IsWhole)
  (arg5 : Memref sig .tc .vmem S1x1 .f32) (harg5 : arg5.IsWhole)
  (arg6 : Memref sig .tc .vmem S256x256 .f32) (harg6 : arg6.IsWhole)
  (arg7 : Memref sig .tc .vmem S65536x128 .bf16) (harg7 : arg7.IsWhole)
  (arg8 : Memref sig .tc .vmem S8x8192 .f32) (harg8 : arg8.IsWhole)
  (arg9 : Memref sig .tc .vmem S8x8192 .f32) (harg9 : arg9.IsWhole)
  (arg10 : Memref sig .tc .vmem S4x8192 .f32) (harg10 : arg10.IsWhole)
  (arg11 : Memref sig .tc .vmem S4x8192 .f32) (harg11 : arg11.IsWhole)
  (arg12 : Memref sig .tc .vmem S1x128 .f32) (harg12 : arg12.IsWhole)
  (arg13 : Memref sig .tc .vmem S256x128 .f32) (harg13 : arg13.IsWhole)
  (arg14 : Memref sig .tc .vmem S256x128 .i32) (harg14 : arg14.IsWhole)
  (h1 : Scans i) (x0 : Vec F S256x128 .f32) (x1 : Vec F S8192x128 .f32)

/-- The minimum of each lane over a block's chunks. -/
def blockMin (x0 : Vec F S256x128 .f32) (x1 : Vec F S8192x128 .f32) : FVec F S256x128 .f32 :=
  (scan (k0_pay10 x1) (k0_pay11 x1 x0) 63 (by decide)).1

/-- The chunk of the grid's blocks in which each lane's minimum over a block is taken. -/
def blockArg (i : grid0.Coords) (x0 : Vec F S256x128 .f32) (x1 : Vec F S8192x128 .f32) : IVec S256x128 32 :=
  Idealize.ShloMosaic.addi (scan (k0_pay10 x1) (k0_pay11 x1 x0) 63 (by decide)).2
    (broadcast S256x128 (Scalar.muli (BitVec.ofNat 32 (i 0).val) 64#32))

include h1 in
/-- The chunks that a scanning point names are below 512. -/
theorem blockArg_lt (j : S256x128.Idx) : (blockArg i x0 x1 j).toNat < 512 := by
  have hi : (i 0).val < 8 := (by decide +kernel :
    ∀ k : Fin 9, (Scalar.cmpi .ne (Scalar.extui (Scalar.cmpi .slt (BitVec.ofNat 32 k.val) 8#32)) 0#32) = 1#1 → k.val < 8)
      (i 0) h1
  have hs := scan_lt (k0_pay10 x1) (k0_pay11 x1 x0) j 63 (by decide)
  show ((scan (k0_pay10 x1) (k0_pay11 x1 x0) 63 (by decide)).2 j + BitVec.ofNat 32 (i 0).val * 64#32).toNat < 512
  rw [BitVec.toNat_add, BitVec.toNat_mul, BitVec.toNat_ofNat]
  have e : (64#32 : BitVec 32).toNat = 64 := rfl
  rw [e]
  omega

omit [FloatOps F] [Named F] in
theorem zeros2 : (![0, 0] : Fin 2 → ℕ) = fun _ => 0 := by funext a; fin_cases a <;> rfl

/-- What the first scanning point stores: the block of keys, their squared norms, the block's minima and the chunks
    they are taken in. -/
theorem first_pieces (h2 : Starts i) (h3 : ¬Continues i) (h4 : ¬Finishes i) :
    let r := runFirst c i arg1 harg1 arg2 harg2 arg3 harg3 arg4 harg4 arg5 harg5 arg6 harg6 arg7 harg7 arg8 harg8 arg9
      harg9 arg10 harg10 arg11 harg11 arg12 harg12 arg13 harg13 arg14 harg14 h1 h2 h3 h4 x0 x1
    r.1 = [⟨Rect.unit (s := S65536x128) (k0_off1 i) S8192x128.size (k0_off1_inb i h1), k0_pay2 x1⟩]
      ∧ r.2.1 = [⟨Rect.unit (s := S8x8192) (k0_off2 i) S1x8192.size (k0_off2_inb i h1), k0_pay3 (k0_pay10 x1)⟩]
      ∧ r.2.2.1 = [⟨Rect.unit ![0, 0] ![256, 128] inb_S256x128_S256x128_0_0, blockMin x0 x1⟩]
      ∧ r.2.2.2.1 = [⟨Rect.unit ![0, 0] ![256, 128] inb_S256x128_S256x128_0_0, blockArg i x0 x1⟩] := by
  dsimp only
  unfold runFirst; dsimp only
  sl_unfold_words
  simp only [View.readAt_eq_ld, harg1.read_unread, harg2.read_unread]
  erw [View.ld_unit_zero zeros2 inb_S8192x128_S8192x128_0_0 x1, View.ld_unit_zero zeros2 inb_S256x128_S256x128_0_0 x0]
  refine ⟨rfl, rfl, ?_, ?_⟩
  · unfold k0_pay4
    dsimp only
    rw [shapeCast_self]
    simp only [(scan_to_3 _ _ (by decide)).1, (scan_to_3 _ _ (by decide)).2,
      (scan_to_8 _ _ (by decide) (by decide)).1, (scan_to_8 _ _ (by decide) (by decide)).2,
      (scan_to_13 _ _ (by decide) (by decide)).1, (scan_to_13 _ _ (by decide) (by decide)).2,
      (scan_to_18 _ _ (by decide) (by decide)).1, (scan_to_18 _ _ (by decide) (by decide)).2,
      (scan_to_23 _ _ (by decide) (by decide)).1, (scan_to_23 _ _ (by decide) (by decide)).2,
      (scan_to_28 _ _ (by decide) (by decide)).1, (scan_to_28 _ _ (by decide) (by decide)).2,
      (scan_to_33 _ _ (by decide) (by decide)).1, (scan_to_33 _ _ (by decide) (by decide)).2,
      (scan_to_38 _ _ (by decide) (by decide)).1, (scan_to_38 _ _ (by decide) (by decide)).2,
      (scan_to_43 _ _ (by decide) (by decide)).1, (scan_to_43 _ _ (by decide) (by decide)).2,
      (scan_to_48 _ _ (by decide) (by decide)).1, (scan_to_48 _ _ (by decide) (by decide)).2,
      (scan_to_53 _ _ (by decide) (by decide)).1, (scan_to_53 _ _ (by decide) (by decide)).2,
      (scan_to_58 _ _ (by decide) (by decide)).1, (scan_to_58 _ _ (by decide) (by decide)).2,
      (scan_to_63 _ _ (by decide) (by decide)).1, (scan_to_63 _ _ (by decide) (by decide)).2]
    rfl
  · unfold k0_pay5
    dsimp only
    rw [shapeCast_self]
    simp only [(scan_to_3 _ _ (by decide)).1, (scan_to_3 _ _ (by decide)).2,
      (scan_to_8 _ _ (by decide) (by decide)).1, (scan_to_8 _ _ (by decide) (by decide)).2,
      (scan_to_13 _ _ (by decide) (by decide)).1, (scan_to_13 _ _ (by decide) (by decide)).2,
      (scan_to_18 _ _ (by decide) (by decide)).1, (scan_to_18 _ _ (by decide) (by decide)).2,
      (scan_to_23 _ _ (by decide) (by decide)).1, (scan_to_23 _ _ (by decide) (by decide)).2,
      (scan_to_28 _ _ (by decide) (by decide)).1, (scan_to_28 _ _ (by decide) (by decide)).2,
      (scan_to_33 _ _ (by decide) (by decide)).1, (scan_to_33 _ _ (by decide) (by decide)).2,
      (scan_to_38 _ _ (by decide) (by decide)).1, (scan_to_38 _ _ (by decide) (by decide)).2,
      (scan_to_43 _ _ (by decide) (by decide)).1, (scan_to_43 _ _ (by decide) (by decide)).2,
      (scan_to_48 _ _ (by decide) (by decide)).1, (scan_to_48 _ _ (by decide) (by decide)).2,
      (scan_to_53 _ _ (by decide) (by decide)).1, (scan_to_53 _ _ (by decide) (by decide)).2,
      (scan_to_58 _ _ (by decide) (by decide)).1, (scan_to_58 _ _ (by decide) (by decide)).2,
      (scan_to_63 _ _ (by decide) (by decide)).1, (scan_to_63 _ _ (by decide) (by decide)).2]
    rfl

/-- What a later scanning point stores. -/
theorem next_pieces (h2 : ¬Starts i) (h3 : Continues i) (h4 : ¬Finishes i) (x6 : Vec F S256x128 .f32)
    (x7 : Vec F S256x128 .i32) :
    let r := runNext c i arg1 harg1 arg2 harg2 arg3 harg3 arg4 harg4 arg5 harg5 arg6 harg6 arg7 harg7 arg8 harg8 arg9
      harg9 arg10 harg10 arg11 harg11 arg12 harg12 arg13 harg13 arg14 harg14 h1 h2 h3 h4 x0 x1 x6 x7
    r.1 = [⟨Rect.unit (s := S65536x128) (k0_off1 i) S8192x128.size (k0_off1_inb i h1), k0_pay2 x1⟩]
      ∧ r.2.1 = [⟨Rect.unit (s := S8x8192) (k0_off2 i) S1x8192.size (k0_off2_inb i h1), k0_pay3 (k0_pay10 x1)⟩]
      ∧ r.2.2.1 = [⟨Rect.unit ![0, 0] ![256, 128] inb_S256x128_S256x128_0_0,
          select (cmpf .olt (blockMin x0 x1) x6) (blockMin x0 x1) x6⟩]
      ∧ r.2.2.2.1 = [⟨Rect.unit ![0, 0] ![256, 128] inb_S256x128_S256x128_0_0,
          select (cmpf .olt (blockMin x0 x1) x6) (blockArg i x0 x1) x7⟩] := by
  dsimp only
  unfold runNext; dsimp only
  sl_unfold_words
  simp only [View.readAt_eq_ld, harg1.read_unread, harg2.read_unread, harg13.read_unread, harg14.read_unread]
  erw [View.ld_unit_zero zeros2 inb_S8192x128_S8192x128_0_0 x1, View.ld_unit_zero zeros2 inb_S256x128_S256x128_0_0 x0,
    View.ld_unit_zero zeros2 inb_S256x128_S256x128_0_0 x6, View.ld_unit_zero zeros2 inb_S256x128_S256x128_0_0 x7]
  refine ⟨rfl, rfl, ?_, ?_⟩
  · unfold k0_pay7
    dsimp only
    rw [shapeCast_self]
    simp only [(scan_to_3 _ _ (by decide)).1, (scan_to_3 _ _ (by decide)).2,
      (scan_to_8 _ _ (by decide) (by decide)).1, (scan_to_8 _ _ (by decide) (by decide)).2,
      (scan_to_13 _ _ (by decide) (by decide)).1, (scan_to_13 _ _ (by decide) (by decide)).2,
      (scan_to_18 _ _ (by decide) (by decide)).1, (scan_to_18 _ _ (by decide) (by decide)).2,
      (scan_to_23 _ _ (by decide) (by decide)).1, (scan_to_23 _ _ (by decide) (by decide)).2,
      (scan_to_28 _ _ (by decide) (by decide)).1, (scan_to_28 _ _ (by decide) (by decide)).2,
      (scan_to_33 _ _ (by decide) (by decide)).1, (scan_to_33 _ _ (by decide) (by decide)).2,
      (scan_to_38 _ _ (by decide) (by decide)).1, (scan_to_38 _ _ (by decide) (by decide)).2,
      (scan_to_43 _ _ (by decide) (by decide)).1, (scan_to_43 _ _ (by decide) (by decide)).2,
      (scan_to_48 _ _ (by decide) (by decide)).1, (scan_to_48 _ _ (by decide) (by decide)).2,
      (scan_to_53 _ _ (by decide) (by decide)).1, (scan_to_53 _ _ (by decide) (by decide)).2,
      (scan_to_58 _ _ (by decide) (by decide)).1, (scan_to_58 _ _ (by decide) (by decide)).2,
      (scan_to_63 _ _ (by decide) (by decide)).1, (scan_to_63 _ _ (by decide) (by decide)).2]
    rfl
  · unfold k0_pay8
    dsimp only
    rw [shapeCast_self]
    simp only [(scan_to_3 _ _ (by decide)).1, (scan_to_3 _ _ (by decide)).2,
      (scan_to_8 _ _ (by decide) (by decide)).1, (scan_to_8 _ _ (by decide) (by decide)).2,
      (scan_to_13 _ _ (by decide) (by decide)).1, (scan_to_13 _ _ (by decide) (by decide)).2,
      (scan_to_18 _ _ (by decide) (by decide)).1, (scan_to_18 _ _ (by decide) (by decide)).2,
      (scan_to_23 _ _ (by decide) (by decide)).1, (scan_to_23 _ _ (by decide) (by decide)).2,
      (scan_to_28 _ _ (by decide) (by decide)).1, (scan_to_28 _ _ (by decide) (by decide)).2,
      (scan_to_33 _ _ (by decide) (by decide)).1, (scan_to_33 _ _ (by decide) (by decide)).2,
      (scan_to_38 _ _ (by decide) (by decide)).1, (scan_to_38 _ _ (by decide) (by decide)).2,
      (scan_to_43 _ _ (by decide) (by decide)).1, (scan_to_43 _ _ (by decide) (by decide)).2,
      (scan_to_48 _ _ (by decide) (by decide)).1, (scan_to_48 _ _ (by decide) (by decide)).2,
      (scan_to_53 _ _ (by decide) (by decide)).1, (scan_to_53 _ _ (by decide) (by decide)).2,
      (scan_to_58 _ _ (by decide) (by decide)).1, (scan_to_58 _ _ (by decide) (by decide)).2,
      (scan_to_63 _ _ (by decide) (by decide)).1, (scan_to_63 _ _ (by decide) (by decide)).2]
    rfl

omit [FloatOps F] [Named F] in
/-- A store over a whole scratch buffer is what it then holds. -/
theorem read_stored {e : EltTy} (v : View sig .tc .vmem S256x128 e) (f : BufTy.Contents (Elt F) v.ty) (w : Vec F S256x128 e) :
    v.read (Elt F) (v.writes (Elt F) f [⟨Rect.unit ![0, 0] ![256, 128] inb_S256x128_S256x128_0_0, w⟩]) = w :=
  funext fun y => View.read_writes_cons_unit_of_mem v f _ _ [] y y zeros2 fun a => (Nat.zero_add _).symm

/-- The first scanning point. -/
theorem first_run (h2 : Starts i) (h3 : ¬Continues i) (h4 : ¬Finishes i) (E : Set ℕ) (K : PUnit → sProp 𝕄)
    (y0 : Vec F S65536x128 .bf16) (y1 : Vec F S8x8192 .f32) (y6 : Vec F S256x128 .f32) (y7 : Vec F S256x128 .i32) :
    iprop(owns (c : Thread nD τ) arg1 fullShare x0 ∗ owns (c : Thread nD τ) arg2 fullShare x1
        ∗ owns (c : Thread nD τ) arg7 fullShare y0 ∗ owns (c : Thread nD τ) arg8 fullShare y1
        ∗ owns (c : Thread nD τ) arg13 fullShare y6 ∗ owns (c : Thread nD τ) arg14 fullShare y7
        ∗ (iprop(owns (c : Thread nD τ) arg1 fullShare x0 ∗ owns (c : Thread nD τ) arg2 fullShare x1
          ∗ owns (c : Thread nD τ) arg7 fullShare (arg7.view.read (Elt F) (arg7.view.writes (Elt F) (harg7.unread y0)
              [⟨Rect.unit (s := S65536x128) (k0_off1 i) S8192x128.size (k0_off1_inb i h1), k0_pay2 x1⟩]))
          ∗ owns (c : Thread nD τ) arg8 fullShare (arg8.view.read (Elt F) (arg8.view.writes (Elt F) (harg8.unread y1)
              [⟨Rect.unit (s := S8x8192) (k0_off2 i) S1x8192.size (k0_off2_inb i h1), k0_pay3 (k0_pay10 x1)⟩]))
          ∗ owns (c : Thread nD τ) arg13 fullShare (blockMin x0 x1)
          ∗ owns (c : Thread nD τ) arg14 fullShare (blockArg i x0 x1)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  have hp := first_pieces c i arg1 harg1 arg2 harg2 arg3 harg3 arg4 harg4 arg5 harg5 arg6 harg6 arg7 harg7 arg8 harg8 arg9 harg9 arg10 harg10 arg11 harg11 arg12 harg12 arg13 harg13 arg14 harg14 h1 x0 x1 h2 h3 h4
  generalize runFirst c i arg1 harg1 arg2 harg2 arg3 harg3 arg4 harg4 arg5 harg5 arg6 harg6 arg7 harg7 arg8 harg8 arg9 harg9 arg10 harg10 arg11 harg11 arg12 harg12 arg13 harg13 arg14 harg14 h1 h2 h3 h4 x0 x1 = r at hp
  obtain ⟨L0, L1, L6, L7, hL⟩ := r
  obtain ⟨e0, e1, e6, e7⟩ := hp
  subst e0 e1 e6 e7
  have hr := hL E K (harg7.unread y0) (harg8.unread y1) (harg13.unread y6) (harg14.unread y7)
  unfold owns at hr ⊢
  iintro ⟨H0, H1, ⟨%g2, %e2, H2⟩, ⟨%g3, %e3, H3⟩, ⟨%g6, %e6, H6⟩, ⟨%g7, %e7, H7⟩, Hk⟩
  obtain rfl := harg7.eq_unread e2; obtain rfl := harg8.eq_unread e3
  obtain rfl := harg13.eq_unread e6; obtain rfl := harg14.eq_unread e7
  iapply hr
  isplitl [H0]; · iexact H0
  isplitl [H1]; · iexact H1
  isplitl [H2]; · iexact H2
  isplitl [H3]; · iexact H3
  isplitl [H6]; · iexact H6
  isplitl [H7]; · iexact H7
  iintro ⟨H0, H1, H2, H3, H6, H7⟩
  iapply Hk
  isplitl [H0]; · iexact H0
  isplitl [H1]; · iexact H1
  isplitl [H2]
  · iexists _; isplitr
    swap; · iexact H2
    ipureintro; rfl
  isplitl [H3]
  · iexists _; isplitr
    swap; · iexact H3
    ipureintro; rfl
  isplitl [H6]
  · iexists _; isplitr
    swap; · iexact H6
    ipureintro; exact read_stored arg13.view _ _
  iexists _; isplitr
  swap; · iexact H7
  ipureintro; exact read_stored arg14.view _ _

/-- A later scanning point. -/
theorem next_run (h2 : ¬Starts i) (h3 : Continues i) (h4 : ¬Finishes i) (x6 : Vec F S256x128 .f32)
    (x7 : Vec F S256x128 .i32) (E : Set ℕ) (K : PUnit → sProp 𝕄)
    (y0 : Vec F S65536x128 .bf16) (y1 : Vec F S8x8192 .f32) :
    iprop(owns (c : Thread nD τ) arg1 fullShare x0 ∗ owns (c : Thread nD τ) arg2 fullShare x1
        ∗ owns (c : Thread nD τ) arg7 fullShare y0 ∗ owns (c : Thread nD τ) arg8 fullShare y1
        ∗ owns (c : Thread nD τ) arg13 fullShare x6 ∗ owns (c : Thread nD τ) arg14 fullShare x7
        ∗ (iprop(owns (c : Thread nD τ) arg1 fullShare x0 ∗ owns (c : Thread nD τ) arg2 fullShare x1
          ∗ owns (c : Thread nD τ) arg7 fullShare (arg7.view.read (Elt F) (arg7.view.writes (Elt F) (harg7.unread y0)
              [⟨Rect.unit (s := S65536x128) (k0_off1 i) S8192x128.size (k0_off1_inb i h1), k0_pay2 x1⟩]))
          ∗ owns (c : Thread nD τ) arg8 fullShare (arg8.view.read (Elt F) (arg8.view.writes (Elt F) (harg8.unread y1)
              [⟨Rect.unit (s := S8x8192) (k0_off2 i) S1x8192.size (k0_off2_inb i h1), k0_pay3 (k0_pay10 x1)⟩]))
          ∗ owns (c : Thread nD τ) arg13 fullShare (select (cmpf .olt (blockMin x0 x1) x6) (blockMin x0 x1) x6)
          ∗ owns (c : Thread nD τ) arg14 fullShare (select (cmpf .olt (blockMin x0 x1) x6) (blockArg i x0 x1) x7)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  have hp := next_pieces c i arg1 harg1 arg2 harg2 arg3 harg3 arg4 harg4 arg5 harg5 arg6 harg6 arg7 harg7 arg8 harg8 arg9 harg9 arg10 harg10 arg11 harg11 arg12 harg12 arg13 harg13 arg14 harg14 h1 x0 x1 h2 h3 h4 x6 x7
  generalize runNext c i arg1 harg1 arg2 harg2 arg3 harg3 arg4 harg4 arg5 harg5 arg6 harg6 arg7 harg7 arg8 harg8 arg9 harg9 arg10 harg10 arg11 harg11 arg12 harg12 arg13 harg13 arg14 harg14 h1 h2 h3 h4 x0 x1 x6 x7 = r at hp
  obtain ⟨L0, L1, L6, L7, hL⟩ := r
  obtain ⟨e0, e1, e6, e7⟩ := hp
  subst e0 e1 e6 e7
  have hr := hL E K (harg7.unread y0) (harg8.unread y1)
  unfold owns at hr ⊢
  iintro ⟨H0, H1, ⟨%g2, %e2, H2⟩, ⟨%g3, %e3, H3⟩, H6, H7, Hk⟩
  obtain rfl := harg7.eq_unread e2; obtain rfl := harg8.eq_unread e3
  iapply hr
  isplitl [H0]; · iexact H0
  isplitl [H1]; · iexact H1
  isplitl [H2]; · iexact H2
  isplitl [H3]; · iexact H3
  isplitl [H6]; · iexact H6
  isplitl [H7]; · iexact H7
  iintro ⟨H0, H1, H2, H3, H6, H7⟩
  iapply Hk
  isplitl [H0]; · iexact H0
  isplitl [H1]; · iexact H1
  isplitl [H2]
  · iexists _; isplitr
    swap; · iexact H2
    ipureintro; rfl
  isplitl [H3]
  · iexists _; isplitr
    swap; · iexact H3
    ipureintro; rfl
  isplitl [H6]
  · iexists _; isplitr
    swap; · iexact H6
    ipureintro; exact read_stored arg13.view _ _
  iexists _; isplitr
  swap; · iexact H7
  ipureintro; exact read_stored arg14.view _ _

end

end Cert.KernelIdeal.Hand
end
-- ==== Proof.IdealPoint.lean ====
/- What the kernel's scratch memory holds between the points of the grid, and one scanning point of it. -/
module

public import proofs.«01_k».proof.Proof.IdealScan

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-! ## What the scan leaves -/

theorem keysOff (t : Fin cfg0.N) : k0_off1 (grid0.coords t) = ![t.val * 8192, 0] := by
  have h : ∀ t : Fin grid0.N, k0_off1 (grid0.coords t) 0 = t.val * 8192 ∧ k0_off1 (grid0.coords t) 1 = 0 := by
    decide +kernel
  funext a
  fin_cases a
  exacts [(h t).1, (h t).2]

theorem normsOff (t : Fin cfg0.N) : k0_off2 (grid0.coords t) = ![t.val, 0] := by
  have h : ∀ t : Fin grid0.N, k0_off2 (grid0.coords t) 0 = t.val ∧ k0_off2 (grid0.coords t) 1 = 0 := by
    decide +kernel
  funext a
  fin_cases a
  exacts [(h t).1, (h t).2]

/-- The queries, and the block of keys of point `t`. -/
abbrev queriesAt (c : Dev nD) (t : Fin cfg0.N) : Vec F S256x128 .f32 := iblk m c 0 t
abbrev keysAt (c : Dev nD) (t : Fin cfg0.N) : Vec F S8192x128 .f32 := iblk m c 1 t

/-- Each lane's running minimum, and the chunk it is taken in, after point `n` of the scan. -/
def left (c : Dev nD) : (n : ℕ) → n < cfg0.N → FVec F S256x128 .f32 × IVec S256x128 32
  | 0, h => (blockMin (queriesAt m c ⟨0, h⟩) (keysAt m c ⟨0, h⟩),
      blockArg (grid0.coords ⟨0, h⟩) (queriesAt m c ⟨0, h⟩) (keysAt m c ⟨0, h⟩))
  | n + 1, h =>
    (select (cmpf .olt (blockMin (queriesAt m c ⟨n + 1, h⟩) (keysAt m c ⟨n + 1, h⟩)) (left c n (by omega)).1)
        (blockMin (queriesAt m c ⟨n + 1, h⟩) (keysAt m c ⟨n + 1, h⟩)) (left c n (by omega)).1,
      select (cmpf .olt (blockMin (queriesAt m c ⟨n + 1, h⟩) (keysAt m c ⟨n + 1, h⟩)) (left c n (by omega)).1)
        (blockArg (grid0.coords ⟨n + 1, h⟩) (queriesAt m c ⟨n + 1, h⟩) (keysAt m c ⟨n + 1, h⟩)) (left c n (by omega)).2)

/-- Every chunk the scan names is below 512. -/
theorem left_lt (c : Dev nD) (j : S256x128.Idx) : ∀ (n : ℕ) (h : n < cfg0.N), n < 8 → ((left m c n h).2 j).toNat < 512
  | 0, h, h8 => blockArg_lt _ ((scans_iff ⟨0, h⟩).mpr h8) _ _ j
  | n + 1, h, h8 => by
    unfold left select Scalar.select
    dsimp only
    split
    · exact blockArg_lt _ ((scans_iff ⟨n + 1, h⟩).mpr h8) _ _ j
    · exact left_lt c j n (by omega) (by omega)

/-- What the scratch memory that the scan fills holds before point `n`: the blocks of keys met so far, their squared
    norms, and the running minima with their chunks. -/
structure Inv (c : Dev nD) (n : ℕ) (X0 : Vec F S65536x128 .bf16) (X1 : Vec F S8x8192 .f32) (X6 : Vec F S256x128 .f32)
    (X7 : Vec F S256x128 .i32) : Prop where
  keys : ∀ s : Fin cfg0.N, s.val < n → s.val < 8 → ∀ (y : S65536x128.Idx) (j : S8192x128.Idx),
    (y 0).val = s.val * 8192 + (j 0).val → (y 1).val = (j 1).val → X0 y = k0_pay2 (keysAt m c s) j
  norms : ∀ s : Fin cfg0.N, s.val < n → s.val < 8 → ∀ (y : S8x8192.Idx) (j : S1x8192.Idx),
    (y 0).val = s.val → (y 1).val = (j 1).val → X1 y = k0_pay3 (k0_pay10 (keysAt m c s)) j
  mins : ∀ s : Fin cfg0.N, s.val < 8 → (n = s.val + 1 ∨ (8 ≤ n ∧ s.val = 7)) → X6 = (left m c s.val s.isLt).1
  args : ∀ s : Fin cfg0.N, s.val < 8 → (n = s.val + 1 ∨ (8 ≤ n ∧ s.val = 7)) → X7 = (left m c s.val s.isLt).2

abbrev mem0 : Memref sig .tc .vmem S65536x128 .bf16 := Memref.whole cc0_scratch0
abbrev mem1 : Memref sig .tc .vmem S8x8192 .f32 := Memref.whole cc0_scratch1
abbrev mem2 : Memref sig .tc .vmem S8x8192 .f32 := Memref.whole cc0_scratch2
abbrev mem3 : Memref sig .tc .vmem S4x8192 .f32 := Memref.whole cc0_scratch3
abbrev mem4 : Memref sig .tc .vmem S4x8192 .f32 := Memref.whole cc0_scratch4
abbrev mem5 : Memref sig .tc .vmem S1x128 .f32 := Memref.whole cc0_scratch5
abbrev mem6 : Memref sig .tc .vmem S256x128 .f32 := Memref.whole cc0_scratch6
abbrev mem7 : Memref sig .tc .vmem S256x128 .i32 := Memref.whole cc0_scratch7

/-- The scratch memory before point `n`. -/
def Scratch (c : Dev nD) (n : ℕ) : sProp 𝕄 :=
  iprop(∃ X0 X1 X6 X7, iprop(⌜Inv m c n X0 X1 X6 X7⌝ ∗ owns (c : Thread nD τ) mem0 fullShare X0
    ∗ owns (c : Thread nD τ) mem1 fullShare X1
    ∗ (∃ d, owns (c : Thread nD τ) mem2 fullShare d) ∗ (∃ d, owns (c : Thread nD τ) mem3 fullShare d)
    ∗ (∃ d, owns (c : Thread nD τ) mem4 fullShare d) ∗ (∃ d, owns (c : Thread nD τ) mem5 fullShare d)
    ∗ owns (c : Thread nD τ) mem6 fullShare X6 ∗ owns (c : Thread nD τ) mem7 fullShare X7))

/-- The scratch memory and the generator's register before point `n`. -/
def Held (c : Dev nD) (n : ℕ) : sProp 𝕄 := iprop(Scratch m c n ∗ (∃ r, prngReg c r))

theorem rest_eq (c : Dev nD) :
    (Pipeline.ΦA spec0 c : sProp 𝕄)
      = iprop(iprop((∃ d, owns (c : Thread nD τ) mem0 fullShare d) ∗ (∃ d, owns (c : Thread nD τ) mem1 fullShare d)
        ∗ (∃ d, owns (c : Thread nD τ) mem2 fullShare d) ∗ (∃ d, owns (c : Thread nD τ) mem3 fullShare d)
        ∗ (∃ d, owns (c : Thread nD τ) mem4 fullShare d) ∗ (∃ d, owns (c : Thread nD τ) mem5 fullShare d)
        ∗ (∃ d, owns (c : Thread nD τ) mem6 fullShare d) ∗ (∃ d, owns (c : Thread nD τ) mem7 fullShare d))
        ∗ (∃ r, prngReg c r)) := by
  unfold Pipeline.ΦA; rw [scopedRest0_eq]
  simp only [mem0, mem1, mem2, mem3, mem4, mem5, mem6, mem7, owns_whole]
  try rfl

/-- Before the first point the scratch memory holds anything. -/
theorem held_zero (c : Dev nD) : (Pipeline.ΦA spec0 c : sProp 𝕄) ⊢ Held m c 0 := by
  rw [rest_eq]
  unfold Held Scratch
  iintro ⟨⟨⟨%X0, H0⟩, ⟨%X1, H1⟩, H2, H3, H4, H5, ⟨%X6, H6⟩, ⟨%X7, H7⟩⟩, Hg⟩
  isplitr [Hg]
  · iexists X0; iexists X1; iexists X6; iexists X7
    isplitr
    · ipureintro
      exact ⟨fun _ h => absurd h (Nat.not_lt_zero _), fun _ h => absurd h (Nat.not_lt_zero _),
        fun _ _ h => by omega, fun _ _ h => by omega⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

/-- What the scratch memory holds may be forgotten. -/
theorem held_forget (c : Dev nD) (n : ℕ) : Held m c n ⊢ (Pipeline.ΦA spec0 c : sProp 𝕄) := by
  rw [rest_eq]
  unfold Held Scratch
  iintro ⟨⟨%X0, %X1, %X6, %X7, -, H0, H1, H2, H3, H4, H5, H6, H7⟩, Hg⟩
  isplitr [Hg]
  · isplitl [H0]; · iexists _; iexact H0
    isplitl [H1]; · iexists _; iexact H1
    isplitl [H2]; · iexact H2
    isplitl [H3]; · iexact H3
    isplitl [H4]; · iexact H4
    isplitl [H5]; · iexact H5
    isplitl [H6]; · iexists _; iexact H6
    iexists _; iexact H7
  iexact Hg

/-! ## One scanning point -/

/-- Storing a block of keys, its squared norms and the new minima carries what is known past one more point. -/
theorem Inv.step (c : Dev nD) (t : Fin cfg0.N) (ht : t.val < 8) (h1 : Scans (grid0.coords t))
    (X0 : Vec F S65536x128 .bf16) (X1 : Vec F S8x8192 .f32) (X6 : Vec F S256x128 .f32) (X7 : Vec F S256x128 .i32)
    (h : Inv m c t.val X0 X1 X6 X7)
    (Y6 : Vec F S256x128 .f32) (Y7 : Vec F S256x128 .i32)
    (h6 : Y6 = (left m c t.val t.isLt).1) (h7 : Y7 = (left m c t.val t.isLt).2) :
    Inv m c (t.val + 1)
      (mem0.view.read (Elt F) (mem0.view.writes (Elt F) ((Memref.isWhole_whole cc0_scratch0).unread X0)
        [⟨Rect.unit (s := S65536x128) (k0_off1 (grid0.coords t)) S8192x128.size (k0_off1_inb (grid0.coords t) h1),
          k0_pay2 (keysAt m c t)⟩]))
      (mem1.view.read (Elt F) (mem1.view.writes (Elt F) ((Memref.isWhole_whole cc0_scratch1).unread X1)
        [⟨Rect.unit (s := S8x8192) (k0_off2 (grid0.coords t)) S1x8192.size (k0_off2_inb (grid0.coords t) h1),
          k0_pay3 (k0_pay10 (keysAt m c t))⟩]))
      Y6 Y7 where
  keys s hs hs8 y j hy0 hy1 := by
    have hj : (j 0).val < 8192 := (j 0).isLt
    rcases Nat.lt_or_ge s.val t.val with hlt | hge
    · rw [View.read_writes_cons_unit_of_not_mem mem0.view _ _ _ [] y (keysOff t) 0 (Or.inl (by
        show (y 0).val < t.val * 8192; omega)), View.writes_nil, Memref.IsWhole.read_unread]
      exact h.keys s hlt hs8 y j hy0 hy1
    · obtain rfl : s = t := Fin.ext (by omega)
      refine View.read_writes_cons_unit_of_mem mem0.view _ _ _ [] y j (keysOff s) (fun a => ?_)
      fin_cases a
      · exact hy0
      · show (y 1).val = 0 + (j 1).val
        omega
  norms s hs hs8 y j hy0 hy1 := by
    have hj : (j 0).val < 1 := (j 0).isLt
    rcases Nat.lt_or_ge s.val t.val with hlt | hge
    · rw [View.read_writes_cons_unit_of_not_mem mem1.view _ _ _ [] y (normsOff t) 0 (Or.inl (by
        show (y 0).val < t.val; omega)), View.writes_nil, Memref.IsWhole.read_unread]
      exact h.norms s hlt hs8 y j hy0 hy1
    · obtain rfl : s = t := Fin.ext (by omega)
      refine View.read_writes_cons_unit_of_mem mem1.view _ _ _ [] y j (normsOff s) (fun a => ?_)
      fin_cases a
      · show (y 0).val = s.val + (j 0).val
        omega
      · show (y 1).val = 0 + (j 1).val
        omega
  mins s hs8 hn := by
    obtain rfl : s = t := Fin.ext (by omega)
    exact h6
  args s hs8 hn := by
    obtain rfl : s = t := Fin.ext (by omega)
    exact h7

/-- A later point of the scan is one step of the running minima. -/
theorem left_step (c : Dev nD) (t : Fin cfg0.N) (hp : 0 < t.val) (X6 : Vec F S256x128 .f32) (X7 : Vec F S256x128 .i32)
    (h6 : X6 = (left m c (t.val - 1) (by omega)).1) (h7 : X7 = (left m c (t.val - 1) (by omega)).2) :
    left m c t.val t.isLt
      = (select (cmpf .olt (blockMin (queriesAt m c t) (keysAt m c t)) X6) (blockMin (queriesAt m c t) (keysAt m c t)) X6,
        select (cmpf .olt (blockMin (queriesAt m c t) (keysAt m c t)) X6)
          (blockArg (grid0.coords t) (queriesAt m c t) (keysAt m c t)) X7) := by
  obtain ⟨n, hn⟩ := t
  cases n with
  | zero => exact absurd hp (Nat.lt_irrefl 0)
  | succ n => subst h6 h7; rfl

theorem left_first (c : Dev nD) (t : Fin cfg0.N) (hz : t.val = 0) :
    blockMin (queriesAt m c t) (keysAt m c t) = (left m c t.val t.isLt).1
      ∧ blockArg (grid0.coords t) (queriesAt m c t) (keysAt m c t) = (left m c t.val t.isLt).2 := by
  obtain ⟨n, hn⟩ := t
  subst hz
  exact ⟨rfl, rfl⟩

set_option maxHeartbeats 1600000 in
/-- A scanning point: the queries and the block of keys stay, and the scratch memory gains the block. -/
theorem scan_point (c : Dev nD) (t : Fin cfg0.N) (ht : t.val < 8) (E : Set ℕ) (K : PUnit → sProp 𝕄) :
    iprop(Held m c t.val ∗ owns (c : Thread nD τ) (st0_0 t) fullShare (queriesAt m c t)
        ∗ owns (c : Thread nD τ) (st0_1 t) fullShare (keysAt m c t)
        ∗ (iprop(Held m c (t.val + 1) ∗ owns (c : Thread nD τ) (st0_0 t) fullShare (queriesAt m c t)
          ∗ owns (c : Thread nD τ) (st0_1 t) fullShare (keysAt m c t)) -∗ K ⟨⟩))
      ⊢ wp frame (wpE (defs₀ (F := F)) Variants.none c none) E (bodyAt0 t) K := by
  have h1 := (scans_iff t).mpr ht
  have h4 : ¬Finishes (grid0.coords t) := fun h => by have := (finishes_iff t).mp h; omega
  unfold Held Scratch bodyAt0
  by_cases hz : t.val = 0
  · have h2 := (starts_iff t).mpr hz
    have h3 : ¬Continues (grid0.coords t) := fun h => by have := (continues_iff t).mp h; omega
    iintro ⟨⟨⟨%X0, %X1, %X6, %X7, %hI, H0, H1, H2, H3, H4, H5, H6, H7⟩, Hg⟩, Hq, Hb, Hk⟩
    iapply (first_run c (grid0.coords t) _ _ _ _ _ _ _ _ _ _ _ _ mem0 (Memref.isWhole_whole _) mem1 (Memref.isWhole_whole _) mem2 (Memref.isWhole_whole _)
      mem3 (Memref.isWhole_whole _) mem4 (Memref.isWhole_whole _) mem5 (Memref.isWhole_whole _) mem6 (Memref.isWhole_whole _)
      mem7 (Memref.isWhole_whole _) h1 (queriesAt m c t) (keysAt m c t) h2 h3 h4 E K X0 X1 X6 X7)
    isplitl [Hq]; · iexact Hq
    isplitl [Hb]; · iexact Hb
    isplitl [H0]; · iexact H0
    isplitl [H1]; · iexact H1
    isplitl [H6]; · iexact H6
    isplitl [H7]; · iexact H7
    iintro ⟨Hq, Hb, H0, H1, H6, H7⟩
    iapply Hk
    isplitl [H0 H1 H2 H3 H4 H5 H6 H7 Hg]
    · isplitr [Hg]
      · iexists _; iexists _; iexists _; iexists _
        isplitr
        · ipureintro
          exact Inv.step m c t ht h1 X0 X1 X6 X7 hI _ _ (left_first m c t hz).1 (left_first m c t hz).2
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact Hg
    isplitl [Hq]; · iexact Hq
    iexact Hb
  · have h2 : ¬Starts (grid0.coords t) := fun h => hz ((starts_iff t).mp h)
    have h3 := (continues_iff t).mpr (Nat.pos_of_ne_zero hz)
    iintro ⟨⟨⟨%X0, %X1, %X6, %X7, %hI, H0, H1, H2, H3, H4, H5, H6, H7⟩, Hg⟩, Hq, Hb, Hk⟩
    have hs := left_step m c t (Nat.pos_of_ne_zero hz) X6 X7 (hI.mins ⟨t.val - 1, by omega⟩ (by dsimp only; omega) (by dsimp only; omega))
      (hI.args ⟨t.val - 1, by omega⟩ (by dsimp only; omega) (by dsimp only; omega))
    iapply (next_run c (grid0.coords t) _ _ _ _ _ _ _ _ _ _ _ _ mem0 (Memref.isWhole_whole _) mem1 (Memref.isWhole_whole _) mem2 (Memref.isWhole_whole _)
      mem3 (Memref.isWhole_whole _) mem4 (Memref.isWhole_whole _) mem5 (Memref.isWhole_whole _) mem6 (Memref.isWhole_whole _)
      mem7 (Memref.isWhole_whole _) h1 (queriesAt m c t) (keysAt m c t) h2 h3 h4 X6 X7 E K X0 X1)
    isplitl [Hq]; · iexact Hq
    isplitl [Hb]; · iexact Hb
    isplitl [H0]; · iexact H0
    isplitl [H1]; · iexact H1
    isplitl [H6]; · iexact H6
    isplitl [H7]; · iexact H7
    iintro ⟨Hq, Hb, H0, H1, H6, H7⟩
    iapply Hk
    isplitl [H0 H1 H2 H3 H4 H5 H6 H7 Hg]
    · isplitr [Hg]
      · iexists _; iexists _; iexists _; iexists _
        isplitr
        · ipureintro
          exact Inv.step m c t ht h1 X0 X1 X6 X7 hI _ _ (congrArg Prod.fst hs).symm (congrArg Prod.snd hs).symm
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      iexact Hg
    isplitl [Hq]; · iexact Hq
    iexact Hb

end Cert.KernelIdeal.Hand

end
-- ==== Proof.IdealRunLast.lean ====
/- The last point of the grid's run of the kernel body, at any float interpretation. -/
module

public import proofs.«01_k».proof.Proof.IdealRun

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x128 .f32) (harg1 : arg1.IsWhole)
  (arg2 : Memref sig .tc .vmem S8192x128 .f32) (harg2 : arg2.IsWhole)
  (arg3 : Memref sig .tc .vmem S256x16 .f32) (harg3 : arg3.IsWhole)
  (arg4 : Memref sig .tc .vmem S16x256 .f32) (harg4 : arg4.IsWhole)
  (arg5 : Memref sig .tc .vmem S1x1 .f32) (harg5 : arg5.IsWhole)
  (arg6 : Memref sig .tc .vmem S256x256 .f32) (harg6 : arg6.IsWhole)
  (arg7 : Memref sig .tc .vmem S65536x128 .bf16) (harg7 : arg7.IsWhole)
  (arg8 : Memref sig .tc .vmem S8x8192 .f32) (harg8 : arg8.IsWhole)
  (arg9 : Memref sig .tc .vmem S8x8192 .f32) (harg9 : arg9.IsWhole)
  (arg10 : Memref sig .tc .vmem S4x8192 .f32) (harg10 : arg10.IsWhole)
  (arg11 : Memref sig .tc .vmem S4x8192 .f32) (harg11 : arg11.IsWhole)
  (arg12 : Memref sig .tc .vmem S1x128 .f32) (harg12 : arg12.IsWhole)
  (arg13 : Memref sig .tc .vmem S256x128 .f32) (harg13 : arg13.IsWhole)
  (arg14 : Memref sig .tc .vmem S256x128 .i32) (harg14 : arg14.IsWhole)

set_option maxHeartbeats 4000000 in
/-- The last point: the two results are computed from the queries, the two interpolation matrices and what the scan
    left, given that every chunk index the scan left is in range. -/
def runLast (h1 : ¬ Scans i) (h4 : Finishes i)
    (x0 : Vec F S256x128 .f32) (x2 : Vec F S256x16 .f32) (x3 : Vec F S16x256 .f32)
    (x6 : Vec F S256x128 .f32) (x7 : Vec F S256x128 .i32) (f0 f1 f2 f3 f4 f5)
    (hx7 : ∀ j, (x7 j).toNat < 512) :
    Σ' (L4 : List (View.Piece (Elt F) S1x1 .f32)), { L5 : List (View.Piece (Elt F) S256x256 .f32) //
      ∀ (E : Set ℕ) (K : PUnit → sProp 𝕄) (g4 g5),
        iprop(owns (c : Thread nD τ) arg1 fullShare x0 ∗ owns (c : Thread nD τ) arg3 fullShare x2 ∗ owns (c : Thread nD τ) arg4 fullShare x3
            ∗ holds c arg5 g4 ∗ holds c arg6 g5
            ∗ holds c arg7 f0 ∗ holds c arg8 f1 ∗ holds c arg9 f2 ∗ holds c arg10 f3 ∗ holds c arg11 f4 ∗ holds c arg12 f5
            ∗ owns (c : Thread nD τ) arg13 fullShare x6 ∗ owns (c : Thread nD τ) arg14 fullShare x7
            ∗ (iprop(owns (c : Thread nD τ) arg1 fullShare x0 ∗ owns (c : Thread nD τ) arg3 fullShare x2 ∗ owns (c : Thread nD τ) arg4 fullShare x3
              ∗ holds c arg5 (arg5.view.writes (Elt F) g4 L4) ∗ holds c arg6 (arg6.view.writes (Elt F) g5 L5)
              ∗ holds c arg7 f0 ∗ holds c arg8 f1
              ∗ (∃ g, holds c arg9 g) ∗ (∃ g, holds c arg10 g) ∗ (∃ g, holds c arg11 g) ∗ (∃ g, holds c arg12 g)
              ∗ owns (c : Thread nD τ) arg13 fullShare x6 ∗ owns (c : Thread nD τ) arg14 fullShare x7) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K } := by
  have hv : ∀ j, (View.readAt (Elt F) arg14.view (Rect.unit (s := S256x128) ![0, 0] S256x128.size inb_S256x128_S256x128_0_0) (harg14.unread x7) j).toNat < 512 := by
    intro j; rw [View.readAt_apply, harg14.read_unread]; exact hx7 _
  refine ⟨?_, ?_, fun E K g4 g5 => ?run⟩
  case run =>
    simp only [cc0__body_eq_skeleton]; unfold cc0__body_skel
    simp only [k0_part14_eq_skeleton, k0_part15_eq_skeleton, k0_part16_eq_skeleton, k0_part17_eq_skeleton, k0_part18_eq_skeleton, k0_part19_eq_skeleton]
    unfold owns
    iintro ⟨⟨%g0, %hg0, H0⟩, ⟨%g2, %hg2, H2⟩, ⟨%g3, %hg3, H3⟩, H4, H5, HS0, HS1, HS2, HS3, HS4, HS5, ⟨%f6, %hf6, HS6⟩, ⟨%f7, %hf7, HS7⟩, Hk⟩
    obtain rfl := harg1.eq_unread hg0; obtain rfl := harg3.eq_unread hg2; obtain rfl := harg4.eq_unread hg3
    obtain rfl := harg13.eq_unread hf6; obtain rfl := harg14.eq_unread hf7
    sl_exec (disch := first | sl_exact h1 | sl_exact h4 | exact chk_of_lt i _ (keyIdx_lt _ _ _ _ _ hv))
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; · ipureintro; exact harg4.read_unread _
      iexact H3
    isplitl [H4]; · iexact H4
    isplitl [H5]; · iexact H5
    isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [HS6]
    · iexists _; isplitr; · ipureintro; exact harg13.read_unread _
      iexact HS6
    iexists _; isplitr; · ipureintro; exact harg14.read_unread _
    iexact HS7

end Cert.KernelIdeal.Hand

end
-- ==== Proof.IdealLast.lean ====
/- The last point of the grid: what it stores into the two results' buffers. -/
module

public import proofs.«01_k».proof.Proof.IdealPoint
public import proofs.«01_k».proof.Proof.IdealRunLast

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S256x128 .f32) (harg1 : arg1.IsWhole)
  (arg2 : Memref sig .tc .vmem S8192x128 .f32) (harg2 : arg2.IsWhole)
  (arg3 : Memref sig .tc .vmem S256x16 .f32) (harg3 : arg3.IsWhole)
  (arg4 : Memref sig .tc .vmem S16x256 .f32) (harg4 : arg4.IsWhole)
  (arg5 : Memref sig .tc .vmem S1x1 .f32) (harg5 : arg5.IsWhole)
  (arg6 : Memref sig .tc .vmem S256x256 .f32) (harg6 : arg6.IsWhole)
  (arg7 : Memref sig .tc .vmem S65536x128 .bf16) (harg7 : arg7.IsWhole)
  (arg8 : Memref sig .tc .vmem S8x8192 .f32) (harg8 : arg8.IsWhole)
  (arg9 : Memref sig .tc .vmem S8x8192 .f32) (harg9 : arg9.IsWhole)
  (arg10 : Memref sig .tc .vmem S4x8192 .f32) (harg10 : arg10.IsWhole)
  (arg11 : Memref sig .tc .vmem S4x8192 .f32) (harg11 : arg11.IsWhole)
  (arg12 : Memref sig .tc .vmem S1x128 .f32) (harg12 : arg12.IsWhole)
  (arg13 : Memref sig .tc .vmem S256x128 .f32) (harg13 : arg13.IsWhole)
  (arg14 : Memref sig .tc .vmem S256x128 .i32) (harg14 : arg14.IsWhole)

variable (h1 : ¬Scans i) (h4 : Finishes i) (x0 : Vec F S256x128 .f32) (x2 : Vec F S256x16 .f32) (x3 : Vec F S16x256 .f32)
  (y0 : Vec F S65536x128 .bf16) (y1 : Vec F S8x8192 .f32) (y2 : Vec F S8x8192 .f32) (y3 y4 : Vec F S4x8192 .f32)
  (y5 : Vec F S1x128 .f32) (x6 : Vec F S256x128 .f32) (x7 : Vec F S256x128 .i32) (hx7 : ∀ j, (x7 j).toNat < 512)

/-- What the last point stores into the score's buffer. -/
def lastScore : Vec F S1x1 .f32 :=
  View.canon (runLast c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 x6 x7 (harg7.unread y0) (harg8.unread y1) (harg9.unread y2)
    (harg10.unread y3) (harg11.unread y4) (harg12.unread y5) hx7).1

/-- What the last point stores into the map's buffer. -/
def lastMap : Vec F S256x256 .f32 :=
  View.canon (runLast c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 x6 x7 (harg7.unread y0) (harg8.unread y1) (harg9.unread y2)
    (harg10.unread y3) (harg11.unread y4) (harg12.unread y5) hx7).2.1

set_option maxHeartbeats 1600000 in
/-- The last point: everything it reads stays, the two results' buffers receive what it computes. -/
theorem last_run (z4 : Vec F S1x1 .f32) (z5 : Vec F S256x256 .f32) (E : Set ℕ) (K : PUnit → sProp 𝕄) :
    iprop(owns (c : Thread nD τ) arg1 fullShare x0 ∗ owns (c : Thread nD τ) arg3 fullShare x2
        ∗ owns (c : Thread nD τ) arg4 fullShare x3 ∗ owns (c : Thread nD τ) arg5 fullShare z4
        ∗ owns (c : Thread nD τ) arg6 fullShare z5 ∗ owns (c : Thread nD τ) arg7 fullShare y0
        ∗ owns (c : Thread nD τ) arg8 fullShare y1 ∗ owns (c : Thread nD τ) arg9 fullShare y2
        ∗ owns (c : Thread nD τ) arg10 fullShare y3 ∗ owns (c : Thread nD τ) arg11 fullShare y4
        ∗ owns (c : Thread nD τ) arg12 fullShare y5 ∗ owns (c : Thread nD τ) arg13 fullShare x6
        ∗ owns (c : Thread nD τ) arg14 fullShare x7
        ∗ (iprop(owns (c : Thread nD τ) arg1 fullShare x0 ∗ owns (c : Thread nD τ) arg3 fullShare x2
          ∗ owns (c : Thread nD τ) arg4 fullShare x3
          ∗ owns (c : Thread nD τ) arg5 fullShare (lastScore c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 y0 y1 y2 y3 y4 y5 x6 x7 hx7)
          ∗ owns (c : Thread nD τ) arg6 fullShare (lastMap c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 y0 y1 y2 y3 y4 y5 x6 x7 hx7)
          ∗ owns (c : Thread nD τ) arg7 fullShare y0 ∗ owns (c : Thread nD τ) arg8 fullShare y1
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)
          ∗ owns (c : Thread nD τ) arg13 fullShare x6 ∗ owns (c : Thread nD τ) arg14 fullShare x7) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  have cover4 : ∀ y, ∃ p ∈ (runLast c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 x6 x7 (harg7.unread y0) (harg8.unread y1) (harg9.unread y2)
      (harg10.unread y3) (harg11.unread y4) (harg12.unread y5) hx7).1, y ∈ p.1.set :=
    fun y => View.cover_of_tiledL _ S1x1.size (by sl_kernel_rfl) y
  have cover5 : ∀ y, ∃ p ∈ (runLast c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 x6 x7 (harg7.unread y0) (harg8.unread y1) (harg9.unread y2)
      (harg10.unread y3) (harg11.unread y4) (harg12.unread y5) hx7).2.1, y ∈ p.1.set :=
    fun y => View.cover_of_tiledL _ S256x256.size (by sl_kernel_rfl) y
  unfold lastScore lastMap
  generalize runLast c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 x6 x7 (harg7.unread y0) (harg8.unread y1) (harg9.unread y2)
      (harg10.unread y3) (harg11.unread y4) (harg12.unread y5) hx7 = r at cover4 cover5 ⊢
  obtain ⟨L4, L5, hL⟩ := r
  have hr := hL E K (harg5.unread z4) (harg6.unread z5)
  dsimp only at cover4 cover5 ⊢
  unfold owns at hr ⊢
  iintro ⟨H0, H2, H3, ⟨%g4, %e4, H4⟩, ⟨%g5, %e5, H5⟩, ⟨%f0, %e0, S0⟩, ⟨%f1, %e1, S1⟩, ⟨%f2, %e2, S2⟩, ⟨%f3, %e3, S3⟩, ⟨%f4, %a4, S4⟩, ⟨%f5, %a5, S5⟩, S6, S7, Hk⟩
  obtain rfl := harg5.eq_unread e4; obtain rfl := harg6.eq_unread e5
  obtain rfl := harg7.eq_unread e0; obtain rfl := harg8.eq_unread e1
  obtain rfl := harg9.eq_unread e2; obtain rfl := harg10.eq_unread e3
  obtain rfl := harg11.eq_unread a4; obtain rfl := harg12.eq_unread a5
  iapply hr
  isplitl [H0]; · iexact H0
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H2, H3, H4, H5, S0, S1, ⟨%d2, S2⟩, ⟨%d3, S3⟩, ⟨%d4, S4⟩, ⟨%d5, S5⟩, S6, S7⟩
  iapply Hk
  isplitl [H0]; · iexact H0
  isplitl [H2]; · iexact H2
  isplitl [H3]; · iexact H3
  isplitl [H4]
  · iexists _; isplitr
    swap; · iexact H4
    ipureintro; exact View.read_writes_eq_canon _ _ _ cover4
  isplitl [H5]
  · iexists _; isplitr
    swap; · iexact H5
    ipureintro; exact View.read_writes_eq_canon _ _ _ cover5
  isplitl [S0]
  · iexists _; isplitr
    swap; · iexact S0
    ipureintro; exact harg7.read_unread _
  isplitl [S1]
  · iexists _; isplitr
    swap; · iexact S1
    ipureintro; exact harg8.read_unread _
  isplitl [S2]
  · iexists _; iexists _; isplitr
    swap; · iexact S2
    ipureintro; rfl
  isplitl [S3]
  · iexists _; iexists _; isplitr
    swap; · iexact S3
    ipureintro; rfl
  isplitl [S4]
  · iexists _; iexists _; isplitr
    swap; · iexact S4
    ipureintro; rfl
  isplitl [S5]
  · iexists _; iexists _; isplitr
    swap; · iexact S5
    ipureintro; rfl
  isplitl [S6]; · iexact S6
  iexact S7

end Cert.KernelIdeal.Hand

end
-- ==== Proof.IdealFrame.lean ====
/- The kernel's run: it ends, its arguments are unchanged and its semaphores are at zero. -/
module

public import proofs.«01_k».proof.Proof.IdealLast

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The last point -/

/-- The two interpolation matrices that the last point reads. -/
abbrev upAt (c : Dev nD) (t : Fin cfg0.N) : Vec F S256x16 .f32 := iblk m c 2 t
abbrev downAt (c : Dev nD) (t : Fin cfg0.N) : Vec F S16x256 .f32 := iblk m c 3 t

theorem not_scans (t : Fin cfg0.N) (ht : t.val = 8) : ¬Scans (grid0.coords t) := fun h => by
  have := (scans_iff t).mp h; omega

theorem Inv.range {c : Dev nD} {X0 X1 X6 X7} (h : Inv m c 8 X0 X1 X6 X7) : ∀ j, (X7 j).toNat < 512 := fun j => by
  rw [h.args ⟨7, by have : cfg0.N = 9 := N_0; omega⟩ (by decide) (Or.inl rfl)]
  exact left_lt m c j 7 _ (by decide)

/-- What the last point leaves in the score's buffer, from what the scratch memory holds. -/
def scoreOf (c : Dev nD) (t : Fin cfg0.N) (ht : t.val = 8) (X0 : Vec F S65536x128 .bf16) (X1 X2 : Vec F S8x8192 .f32)
    (X3 X4 : Vec F S4x8192 .f32) (X5 : Vec F S1x128 .f32) (X6 : Vec F S256x128 .f32) (X7 : Vec F S256x128 .i32)
    (h : Inv m c 8 X0 X1 X6 X7) :
    Vec F S1x1 .f32 :=
  lastScore c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      mem0 (Memref.isWhole_whole _) mem1 (Memref.isWhole_whole _) mem2 (Memref.isWhole_whole _) mem3 (Memref.isWhole_whole _)
      mem4 (Memref.isWhole_whole _) mem5 (Memref.isWhole_whole _) mem6 (Memref.isWhole_whole _) mem7 (Memref.isWhole_whole _)
      (not_scans t ht) ((finishes_iff t).mpr ht) (queriesAt m c t) (upAt m c t) (downAt m c t)
      X0 X1 X2 X3 X4 X5 X6 X7 (h.range m)

/-- What the last point leaves in the map's buffer, from what the scratch memory holds. -/
def mapOf (c : Dev nD) (t : Fin cfg0.N) (ht : t.val = 8) (X0 : Vec F S65536x128 .bf16) (X1 X2 : Vec F S8x8192 .f32)
    (X3 X4 : Vec F S4x8192 .f32) (X5 : Vec F S1x128 .f32) (X6 : Vec F S256x128 .f32) (X7 : Vec F S256x128 .i32)
    (h : Inv m c 8 X0 X1 X6 X7) :
    Vec F S256x256 .f32 :=
  lastMap c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      mem0 (Memref.isWhole_whole _) mem1 (Memref.isWhole_whole _) mem2 (Memref.isWhole_whole _) mem3 (Memref.isWhole_whole _)
      mem4 (Memref.isWhole_whole _) mem5 (Memref.isWhole_whole _) mem6 (Memref.isWhole_whole _) mem7 (Memref.isWhole_whole _)
      (not_scans t ht) ((finishes_iff t).mpr ht) (queriesAt m c t) (upAt m c t) (downAt m c t)
      X0 X1 X2 X3 X4 X5 X6 X7 (h.range m)

set_option maxHeartbeats 1600000 in
/-- The last point: the two results' buffers end at contents of which `o4` and `o5` hold, where these hold of what the
    point computes from any scratch memory that the scan may have left. -/
theorem last_point (c : Dev nD) (t : Fin cfg0.N) (ht : t.val = 8) (o4 : Vec F S1x1 .f32 → Prop)
    (o5 : Vec F S256x256 .f32 → Prop)
    (ho : ∀ X0 X1 X2 X3 X4 X5 X6 X7 (h : Inv m c 8 X0 X1 X6 X7), o4 (scoreOf m c t ht X0 X1 X2 X3 X4 X5 X6 X7 h)
      ∧ o5 (mapOf m c t ht X0 X1 X2 X3 X4 X5 X6 X7 h))
    (E : Set ℕ) (K : PUnit → sProp 𝕄) :
    iprop(Held m c t.val ∗ owns (c : Thread nD τ) (st0_0 t) fullShare (queriesAt m c t)
        ∗ owns (c : Thread nD τ) (st0_2 t) fullShare (upAt m c t)
        ∗ owns (c : Thread nD τ) (st0_3 t) fullShare (downAt m c t)
        ∗ (∃ z, owns (c : Thread nD τ) (st0_4 t) fullShare z) ∗ (∃ z, owns (c : Thread nD τ) (st0_5 t) fullShare z)
        ∗ (iprop(Held m c (t.val + 1) ∗ owns (c : Thread nD τ) (st0_0 t) fullShare (queriesAt m c t)
          ∗ owns (c : Thread nD τ) (st0_2 t) fullShare (upAt m c t)
          ∗ owns (c : Thread nD τ) (st0_3 t) fullShare (downAt m c t)
          ∗ (∃ z, iprop(⌜o4 z⌝ ∗ owns (c : Thread nD τ) (st0_4 t) fullShare z))
          ∗ (∃ z, iprop(⌜o5 z⌝ ∗ owns (c : Thread nD τ) (st0_5 t) fullShare z))) -∗ K ⟨⟩))
      ⊢ wp frame (wpE (defs₀ (F := F)) Variants.none c none) E (bodyAt0 t) K := by
  unfold Held Scratch bodyAt0
  rw [ht]
  iintro ⟨⟨⟨%X0, %X1, %X6, %X7, %hI, S0, S1, ⟨%X2, S2⟩, ⟨%X3, S3⟩, ⟨%X4, S4⟩, ⟨%X5, S5⟩, S6, S7⟩, Hg⟩, H0, H2, H3, ⟨%z4, H4⟩, ⟨%z5, H5⟩, Hk⟩
  have hv := ho X0 X1 X2 X3 X4 X5 X6 X7 hI
  unfold scoreOf mapOf at hv
  iapply (last_run c (grid0.coords t) _ _ _ _ _ _ _ _ _ _ _ _ mem0 (Memref.isWhole_whole _) mem1 (Memref.isWhole_whole _) mem2 (Memref.isWhole_whole _)
    mem3 (Memref.isWhole_whole _) mem4 (Memref.isWhole_whole _) mem5 (Memref.isWhole_whole _) mem6 (Memref.isWhole_whole _)
    mem7 (Memref.isWhole_whole _) (not_scans t ht) ((finishes_iff t).mpr ht) (queriesAt m c t) (upAt m c t)
    (downAt m c t) X0 X1 X2 X3 X4 X5 X6 X7 (hI.range m) z4 z5 E K)
  isplitl [H0]; · iexact H0
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H2, H3, H4, H5, S0, S1, S2, S3, S4, S5, S6, S7⟩
  iapply Hk
  isplitl [S0 S1 S2 S3 S4 S5 S6 S7 Hg]
  · isplitr [Hg]
    · iexists X0; iexists X1; iexists X6; iexists X7
      isplitr
      · ipureintro
        exact ⟨fun s hs hs8 => hI.keys s hs8 hs8, fun s hs hs8 => hI.norms s hs8 hs8,
          fun s hs8 h => hI.mins s hs8 (by omega), fun s hs8 h => hI.args s hs8 (by omega)⟩
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [H0]; · iexact H0
  isplitl [H2]; · iexact H2
  isplitl [H3]; · iexact H3
  isplitl [H4]
  · iexists _; isplitr
    swap; · iexact H4
    ipureintro; exact hv.1
  iexists _; isplitr
  swap; · iexact H5
  ipureintro; exact hv.2

/-! ## The proof data -/

variable (v4 : Dev nD → Vec F S1x1 .f32) (v5 : Dev nD → Vec F S256x256 .f32)

/-- The pipeline's data: the inputs' buffers stay at their blocks, the results' end at `v4` and `v5`, and between the
    points the scratch memory holds what the scan has left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => v4 c
    | ⟨5, _⟩ => v5 c
  Φ t := Held m c t.val
  q _ := fullShare
  owed _ := 0

theorem dats_A (c : Dev nD) (w : Fin cfg0.W) : (dats m v4 v5 0 c).A w = V m c (Pipeline.arrRef spec0 w) := by
  dsimp only [dats]

theorem before_0 (c : Dev nD) (t : Fin cfg0.N) (d) : (dats m v4 v5 0 c).before 0 t d = iblk m c 0 t :=
  before0_0_of m (dats m v4 v5 0 c) (dats_A m v4 v5 c 0) (fun t => by dsimp only [dats]) t d
theorem before_1 (c : Dev nD) (t : Fin cfg0.N) (d) : (dats m v4 v5 0 c).before 1 t d = iblk m c 1 t :=
  before0_1_of m (dats m v4 v5 0 c) (dats_A m v4 v5 c 1) (fun t => by dsimp only [dats]) t d
theorem before_2 (c : Dev nD) (t : Fin cfg0.N) (d) : (dats m v4 v5 0 c).before 2 t d = iblk m c 2 t :=
  before0_2_of m (dats m v4 v5 0 c) (dats_A m v4 v5 c 2) (fun t => by dsimp only [dats]) t d
theorem before_3 (c : Dev nD) (t : Fin cfg0.N) (d) : (dats m v4 v5 0 c).before 3 t d = iblk m c 3 t :=
  before0_3_of m (dats m v4 v5 0 c) (dats_A m v4 v5 c 3) (fun t => by dsimp only [dats]) t d

theorem body_row (t : Fin cfg0.N) :
    defs₀ (F := F) .tc cfg0.body (cfg0.bodyArgs t (cfg0.slots t)) = bodyAt0 t := by
  unfold defs₀; rw [Defs.onTc_tc]

theorem phi_in (c : Dev nD) : Pipeline.ΦA spec0 c ⊢ (dats m v4 v5 0 c).Φ 0 := held_zero m c

theorem phi_out (c : Dev nD) : (dats m v4 v5 0 c).Φ (Fin.last cfg0.N) ⊢ Pipeline.ΦA spec0 c := held_forget m c _

/-- The results' buffers, whose contents the frame does not follow. -/
abbrev results : Fin cfg0.W → Bool := fun w => match w with
  | ⟨0, _⟩ | ⟨1, _⟩ | ⟨2, _⟩ | ⟨3, _⟩ => false
  | ⟨4, _⟩ | ⟨5, _⟩ => true

/-- What the frame needs of a point before and after it. -/
def pointPre (c : Dev nD) (t : Fin cfg0.N) : sProp 𝕄 :=
  iprop((dats m v4 v5 0 c).Φ t.castSucc ∗ (dats m v4 v5 0 c).owesAt () t.castSucc
    ∗ (∃ d, owns (c : Thread nD τ) (st0_0 t) fullShare ((dats m v4 v5 0 c).before 0 t d))
    ∗ (∃ d, owns (c : Thread nD τ) (st0_1 t) fullShare ((dats m v4 v5 0 c).before 1 t d))
    ∗ (∃ d, owns (c : Thread nD τ) (st0_2 t) fullShare ((dats m v4 v5 0 c).before 2 t d))
    ∗ (∃ d, owns (c : Thread nD τ) (st0_3 t) fullShare ((dats m v4 v5 0 c).before 3 t d))
    ∗ (∃ X, owns (c : Thread nD τ) (st0_4 t) fullShare X)
    ∗ (∃ X, owns (c : Thread nD τ) (st0_5 t) fullShare X))

def pointPost (c : Dev nD) (t : Fin cfg0.N) : sProp 𝕄 :=
  iprop((dats m v4 v5 0 c).Φ t.succ ∗ (dats m v4 v5 0 c).owesAt () t.succ
    ∗ (dats m v4 v5 0 c).leavesExact 0 t
    ∗ (dats m v4 v5 0 c).leavesExact 1 t
    ∗ (dats m v4 v5 0 c).leavesExact 2 t
    ∗ (dats m v4 v5 0 c).leavesExact 3 t
    ∗ (∃ X, owns (c : Thread nD τ) (st0_4 t) fullShare X)
    ∗ (∃ X, owns (c : Thread nD τ) (st0_5 t) fullShare X))

theorem leaves_0 (c : Dev nD) (t : Fin cfg0.N) : (dats m v4 v5 0 c).leavesExact 0 t
    = owns (c : Thread nD τ) (st0_0 t) fullShare (queriesAt m c t) := by
  unfold Dat.leavesExact; rw [show cfg0.idle 0 (grid0.coords t) = false from rfl]; dsimp only [dats]

theorem leaves_1 (c : Dev nD) (t : Fin cfg0.N) : (dats m v4 v5 0 c).leavesExact 1 t
    = owns (c : Thread nD τ) (st0_1 t) fullShare (keysAt m c t) := by
  unfold Dat.leavesExact; rw [show cfg0.idle 1 (grid0.coords t) = false from rfl]; dsimp only [dats]

theorem leaves_2 (c : Dev nD) (t : Fin cfg0.N) : (dats m v4 v5 0 c).leavesExact 2 t
    = owns (c : Thread nD τ) (st0_2 t) fullShare (upAt m c t) := by
  unfold Dat.leavesExact; rw [show cfg0.idle 2 (grid0.coords t) = false from rfl]; dsimp only [dats]

theorem leaves_3 (c : Dev nD) (t : Fin cfg0.N) : (dats m v4 v5 0 c).leavesExact 3 t
    = owns (c : Thread nD τ) (st0_3 t) fullShare (downAt m c t) := by
  unfold Dat.leavesExact; rw [show cfg0.idle 3 (grid0.coords t) = false from rfl]; dsimp only [dats]

set_option maxHeartbeats 1600000 in
theorem point (c : Dev nD) (t : Fin cfg0.N) :
    pointPre m v4 v5 c t ⊢ wp frame (wpE (defs₀ (F := F)) Variants.none c none) Set.univ (bodyAt0 t)
      (fun _ => pointPost m v4 v5 c t) := by
  unfold pointPre pointPost
  simp only [before_0, before_1, before_2, before_3, leaves_0, leaves_1, leaves_2, leaves_3]
  rw [show (dats m v4 v5 0 c).owesAt () t.succ = (dats m v4 v5 0 c).owesAt () t.castSucc from rfl,
    show (dats m v4 v5 0 c).Φ t.succ = Held m c (t.val + 1) from rfl,
    show (dats m v4 v5 0 c).Φ t.castSucc = Held m c t.val from rfl]
  have hN : t.val < 9 := lt_of_lt_of_eq t.isLt (show cfg0.N = 9 from N_0)
  iintro ⟨HΦ, Ho, ⟨%d0, H0⟩, ⟨%d1, H1⟩, ⟨%d2, H2⟩, ⟨%d3, H3⟩, H4, H5⟩
  by_cases ht : t.val < 8
  · iapply (scan_point m c t ht Set.univ _)
    isplitl [HΦ]; · iexact HΦ
    isplitl [H0]; · iexact H0
    isplitl [H1]; · iexact H1
    iintro ⟨HΦ, H0, H1⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h8 : t.val = 8 := by omega
    iapply (last_point m c t h8 (fun _ => True) (fun _ => True) (fun _ _ _ _ _ _ _ _ _ => ⟨trivial, trivial⟩) Set.univ _)
    isplitl [HΦ]; · iexact HΦ
    isplitl [H0]; · iexact H0
    isplitl [H2]; · iexact H2
    isplitl [H3]; · iexact H3
    isplitl [H4]; · iexact H4
    isplitl [H5]; · iexact H5
    iintro ⟨HΦ, H0, H2, H3, ⟨%z4, -, H4⟩, ⟨%z5, -, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists _; iexact H4
    iexists _; iexact H5

theorem points (c : Dev nD) :
    BodyObligation (dats (F := F) m v4 v5 0 c) (defs₀ (F := F)) Variants.none () Set.univ results := fun t => by
  rw [bigSep_W0, bigSep_W0, body_row]
  exact triple_restated (point m v4 v5 c t) rfl .rfl fun _ => .rfl

/-- What the lines after the call write. -/
abbrev tailRefs : Finset (Ref sig .tc) := {main_v57, main_v58}

theorem tail_writes : ∀ ops ∈ ([hostOps1] : List (List (HloOp τ sig (Elt F)))), ∀ op ∈ ops, ∀ b : Ref sig .tc,
    Proc.devRef .tc b ∈ op.writes → b ∈ tailRefs := by
  intro ops hops op hop b hb
  simp only [List.mem_cons, List.mem_nil_iff, or_false] at hops
  subst hops
  simp only [hostOps1, List.mem_cons, List.mem_nil_iff, or_false] at hop
  rcases hop with rfl | rfl
  · rw [StableHlo.reshape_writes, Finset.mem_singleton] at hb
    by_cases h : b = main_v57
    · simp [h]
    · exact absurd hb (StableHlo.devRef_ne_of_ne h)
  · rw [StableHlo.reshape_writes, Finset.mem_singleton] at hb
    by_cases h : b = main_v58
    · simp [h]
    · exact absurd hb (StableHlo.devRef_ne_of_ne h)

set_option backward.isDefEq.respectTransparency.types false in
set_option maxHeartbeats 800000 in
/-- The kernel's run leaves its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_track_forget cfgs (dats m (fun _ => constant S1x1 .f32 0#32) (fun _ => constant S256x256 .f32 0#32)) (0 : Fin 1) launch0 defs₀ Variants.none
    results tailRefs m ρ main
    (hbody := fun c => (points m _ _ c).loose) (hshare := fun c => (dats m _ _ 0 c).share_full fun _ => rfl)
    (howed := fun _ _ => rfl) (V₀ := V0 m) (opss := [hostOps1]) (hsub := sfx_sub) (hfresh := sfx_fresh)
    (hkeep := sfx_keeps) (hT := tail_writes) (hmain := hmain m Variants.none) (hA := dats_A m _ _)
    (hin := phi_in m _ _) (hout := phi_out m _ _) (Q' := _)
    (hQ' := fun r h => ⟨fun c => ⟨(h.1.arr_in c 0 rfl).trans (V_main_arg0 m c),
      (h.1.arr_in c 1 rfl).trans (V_main_arg1 m c)⟩, h.2⟩)

end Cert.KernelIdeal.Hand

end
-- ==== Proof.MapRun.lean ====
/- What the last point stores, as the kernel's own terms of what it reads. -/
module

public import proofs.«01_k».proof.Proof.IdealFrame

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

variable (c : Dev nD) (i : grid0.Coords)
  (arg1 : Memref sig .tc .vmem S256x128 .f32) (harg1 : arg1.IsWhole)
  (arg2 : Memref sig .tc .vmem S8192x128 .f32) (harg2 : arg2.IsWhole)
  (arg3 : Memref sig .tc .vmem S256x16 .f32) (harg3 : arg3.IsWhole)
  (arg4 : Memref sig .tc .vmem S16x256 .f32) (harg4 : arg4.IsWhole)
  (arg5 : Memref sig .tc .vmem S1x1 .f32) (harg5 : arg5.IsWhole)
  (arg6 : Memref sig .tc .vmem S256x256 .f32) (harg6 : arg6.IsWhole)
  (arg7 : Memref sig .tc .vmem S65536x128 .bf16) (harg7 : arg7.IsWhole)
  (arg8 : Memref sig .tc .vmem S8x8192 .f32) (harg8 : arg8.IsWhole)
  (arg9 : Memref sig .tc .vmem S8x8192 .f32) (harg9 : arg9.IsWhole)
  (arg10 : Memref sig .tc .vmem S4x8192 .f32) (harg10 : arg10.IsWhole)
  (arg11 : Memref sig .tc .vmem S4x8192 .f32) (harg11 : arg11.IsWhole)
  (arg12 : Memref sig .tc .vmem S1x128 .f32) (harg12 : arg12.IsWhole)
  (arg13 : Memref sig .tc .vmem S256x128 .f32) (harg13 : arg13.IsWhole)
  (arg14 : Memref sig .tc .vmem S256x128 .i32) (harg14 : arg14.IsWhole)

variable (h1 : ¬Scans i) (h4 : Finishes i) (x0 : Vec F S256x128 .f32) (x2 : Vec F S256x16 .f32) (x3 : Vec F S16x256 .f32)
  (y0 : Vec F S65536x128 .bf16) (y1 : Vec F S8x8192 .f32) (y2 : Vec F S8x8192 .f32) (y3 y4 : Vec F S4x8192 .f32)
  (y5 : Vec F S1x128 .f32) (x6 : Vec F S256x128 .f32) (x7 : Vec F S256x128 .i32) (hx7 : ∀ j, (x7 j).toNat < 512)

/-- The map stored by the last point. -/
theorem lastMap_eq : lastMap c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 y0 y1 y2 y3 y4 y5 x6 x7 hx7
    = k0_pay9 (k0_pay259 (k0_pay241 x0 x6)) (iota .tc S16x256 32 [0] iota_S16x256_d0_w32)
        (iota .tc S16x256 32 [1] iota_S16x256_d1_w32) 16#32 k0_pay260 k0_pay261 1#32 0#1 x2 x3 := by
  unfold lastMap runLast
  dsimp only
  sl_unfold_words
  simp only [View.readAt_eq_ld, harg1.read_unread, harg3.read_unread, harg4.read_unread, harg13.read_unread]
  rw [View.canon_unit_zero zeros2]
  erw [View.ld_unit_zero zeros2, View.ld_unit_zero zeros2, View.ld_unit_zero zeros2, View.ld_unit_zero zeros2]

end Cert.KernelIdeal.Hand

end
-- ==== Proof.ScoreRun.lean ====
/- The score stored by the last point, as the kernel's own terms of what it reads. -/
module

public import proofs.«01_k».proof.Proof.MapRun

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F] [Named F]

/-- The word of the key the score is centred on. -/
def centreWord (x0 x6 : Vec F S256x128 .f32) (x7 : Vec F S256x128 .i32) : BitVec 32 :=
  extractAt ![0, 0, 0] (k0_pay244 (k0_pay239 x6) (k0_pay240 x0 x6) (k0_pay242 x0 x6) x6 x7) inpos_S1x1x1_p0_0_0

/-- The sixteen kept keys among which key `r` is. -/
def slab (y0 : Vec F S65536x128 .bf16) (r : BitVec 32) : Vec F S16x128 .bf16 :=
  fun z => y0 (ix2 ⟨(k0_off3 r 0 + (z 0).val) % 65536, Nat.mod_lt _ (by decide)⟩ (z 1))

/-- The place of key `r` among its sixteen. -/
def inSlab (r : BitVec 32) : BitVec 32 :=
  have v95 : BitVec 32 := Scalar.select (Scalar.cmpi .eq 16#32 0#32) 1#32 16#32
  have v96 : BitVec 32 := Scalar.remsi r v95
  Scalar.select (Scalar.andi (Scalar.xori (Scalar.cmpi .slt v96 0#32) (Scalar.cmpi .slt v95 0#32)) (Scalar.cmpi .ne v96 0#32))
    (Scalar.addi v96 v95) v96

/-- The squared distances from the centre: row `y 0` is those of the keys of block `y 0`. -/
def rows (v93 : FVec F S16x128 .f32) (v103 : BitVec 32) (v128 : FVec F S1x128 .f32) (v129 : BitVec 1)
    (y0 : Vec F S65536x128 .bf16) (y1 : Vec F S8x8192 .f32) : Vec F S8x8192 .f32 :=
  fun y => k0_pay247 v93 v103 v128 v129
    (fun z : S8192x128.Idx => y0 (ix2 ⟨8192 * (y 0).val + (z 0).val, by
      have h := (y 0).isLt; have h' := (z 0).isLt
      change _ < 8 at h; change _ < 8192 at h'; omega⟩ (z 1)))
    (fun z : S1x8192.Idx => y1 (ix2 (y 0) (z 1))) (ix2 0 (y 1))

/-- Rows `0` to `3` of the distances. -/
def upper (d : Vec F S8x8192 .f32) : Vec F S4x8192 .f32 := fun z => d (ix2 ⟨(z 0).val, by
  have h := (z 0).isLt; change _ < 4 at h; omega⟩ (z 1))

/-- Rows `4` to `7` of the distances. -/
def lower (d : Vec F S8x8192 .f32) : Vec F S4x8192 .f32 := fun z => d (ix2 ⟨4 + (z 0).val, by
  have h := (z 0).isLt; change _ < 4 at h; omega⟩ (z 1))

/-- What `n` rounds of the selection leave: the two halves still to select from, and the values selected. -/
def select (a b : Vec F S4x8192 .f32) (s : Vec F S1x128 .f32) : ℕ → Vec F S4x8192 .f32 × Vec F S4x8192 .f32 × Vec F S1x128 .f32
  | 0 => (a, b, s)
  | n + 1 => if h : n < k0_t2_loop.trips then
      (k0_pay252 (select a b s n).1 (select a b s n).2.1, k0_pay253 (select a b s n).1 (select a b s n).2.1,
        k0_pay254 ⟨n, h⟩ (select a b s n).1 (select a b s n).2.2) else select a b s n

/-- The squared distances of all keys from the centre. -/
def aroundOf (x0 x6 : Vec F S256x128 .f32) (x7 : Vec F S256x128 .i32) (y0 : Vec F S65536x128 .bf16) (y1 : Vec F S8x8192 .f32) :
    Vec F S8x8192 .f32 :=
  rows (k0_pay245 (slab y0 (centreWord x0 x6 x7))) (inSlab (centreWord x0 x6 x7))
    (k0_pay246 (centreWord x0 x6 x7) (slab y0 (centreWord x0 x6 x7))) (Scalar.cmpi .eq (inSlab (centreWord x0 x6 x7)) 8#32) y0 y1

/-- The ten selected values, written over `s`. -/
def selected (d : Vec F S8x8192 .f32) (s : Vec F S1x128 .f32) : Vec F S1x128 .f32 :=
  (select (k0_pay248 (upper d) (lower d)) (k0_pay249 (upper d) (lower d)) s k0_t2_loop.trips).2.2

/-- The score out of the selected values and the patches' distances. -/
def scoreFrom (x0 x6 : Vec F S256x128 .f32) (s : Vec F S1x128 .f32) : FVec F S1x1 .f32 :=
  k0_pay258 (k0_pay243 (k0_pay242 x0 x6) (FloatOps.ofBits .f32 0#32)) (k0_pay256 s) (k0_pay257 s)

variable (c : Dev nD) (i : grid0.Coords)
  (arg1 : Memref sig .tc .vmem S256x128 .f32) (harg1 : arg1.IsWhole)
  (arg2 : Memref sig .tc .vmem S8192x128 .f32) (harg2 : arg2.IsWhole)
  (arg3 : Memref sig .tc .vmem S256x16 .f32) (harg3 : arg3.IsWhole)
  (arg4 : Memref sig .tc .vmem S16x256 .f32) (harg4 : arg4.IsWhole)
  (arg5 : Memref sig .tc .vmem S1x1 .f32) (harg5 : arg5.IsWhole)
  (arg6 : Memref sig .tc .vmem S256x256 .f32) (harg6 : arg6.IsWhole)
  (arg7 : Memref sig .tc .vmem S65536x128 .bf16) (harg7 : arg7.IsWhole)
  (arg8 : Memref sig .tc .vmem S8x8192 .f32) (harg8 : arg8.IsWhole)
  (arg9 : Memref sig .tc .vmem S8x8192 .f32) (harg9 : arg9.IsWhole)
  (arg10 : Memref sig .tc .vmem S4x8192 .f32) (harg10 : arg10.IsWhole)
  (arg11 : Memref sig .tc .vmem S4x8192 .f32) (harg11 : arg11.IsWhole)
  (arg12 : Memref sig .tc .vmem S1x128 .f32) (harg12 : arg12.IsWhole)
  (arg13 : Memref sig .tc .vmem S256x128 .f32) (harg13 : arg13.IsWhole)
  (arg14 : Memref sig .tc .vmem S256x128 .i32) (harg14 : arg14.IsWhole)

variable (h1 : ¬Scans i) (h4 : Finishes i) (x0 : Vec F S256x128 .f32) (x2 : Vec F S256x16 .f32) (x3 : Vec F S16x256 .f32)
  (y0 : Vec F S65536x128 .bf16) (y1 : Vec F S8x8192 .f32) (y2 : Vec F S8x8192 .f32) (y3 y4 : Vec F S4x8192 .f32)
  (y5 : Vec F S1x128 .f32) (x6 : Vec F S256x128 .f32) (x7 : Vec F S256x128 .i32) (hx7 : ∀ j, (x7 j).toNat < 512)

/-- A load of a unit-stride rectangle at a place, the place in the whole given. -/
theorem ld_at {S : Shape} {e : EltTy} (x : S.Idx → Elt F e) {off size : Fin S.rank → ℕ} (inb : ∀ a, off a + size a ≤ S.size a)
    (z : (Rect.unit off size inb).shape.Idx) (w : S.Idx) (h : ∀ a, (w a).val = off a + (z a).val) :
    View.ld x (Rect.unit off size inb) z = x w :=
  congrArg x (funext fun a => Fin.ext (((h a).trans (by show _ = off a + 1 * (z a).val; rw [one_mul])).symm))

theorem rows_piece (v93 : FVec F S16x128 .f32) (v103 : BitVec 32) (v128 : FVec F S1x128 .f32) (v129 : BitVec 1)
    (X7 : BufTy.Contents (Elt F) arg7.view.ty) (X8 : BufTy.Contents (Elt F) arg8.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v93 v103 v128 v129 X7 X8 k
      = [⟨Rect.unit (s := S8x8192) (k0_off5 k) S1x8192.size (k0_off5_inb i k h4), k0_pay247 v93 v103 v128 v129
          (View.readAt (Elt F) arg7.view (Rect.unit (s := S65536x128) (k0_off4 k) S8192x128.size (k0_off4_inb i k h4)).toLoadRect X7)
          (View.readAt (Elt F) arg8.view (Rect.unit (s := S8x8192) (k0_off5 k) S1x8192.size (k0_off5_inb i k h4)).toLoadRect X8)⟩] := by
  unfold tripL_k0_t1 trip_k0_t1
  dsimp only

theorem off5_eq : ∀ k : Fin k0_t1_loop.trips, k0_off5 k = ![k.val, 0] := by decide +kernel

theorem off4_eq : ∀ k : Fin k0_t1_loop.trips, k0_off4 k = ![8192 * k.val, 0] := by decide +kernel

/-- After `n` trips, the rows below `n` are written. -/
theorem rows_below (v93 : FVec F S16x128 .f32) (v103 : BitVec 32) (v128 : FVec F S1x128 .f32) (v129 : BitVec 1)
    (G : BufTy.Contents (Elt F) arg9.view.ty) (n : ℕ) (hn : n ≤ 8) (y : S8x8192.Idx) (hy : (y 0).val < n) :
    arg9.view.read (Elt F) (arg9.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v93 v103 v128 v129 (harg7.unread y0) (harg8.unread y1) n)) y
      = rows v93 v103 v128 v129 y0 y1 y := by
  induction n with
  | zero => exact absurd hy (Nat.not_lt_zero _)
  | succ n ih =>
    have ht : n < k0_t1_loop.trips := hn
    rw [pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v93 v103 v128 v129 (harg7.unread y0) (harg8.unread y1) ⟨n, ht⟩, rows_piece]
    rw [List.singleton_append]
    by_cases hlt : (y 0).val < n
    · rw [View.read_writes_cons_unit_of_not_mem (size := S1x8192.size) arg9.view G _ _ _ y (off5_eq ⟨n, ht⟩) 0 (Or.inl hlt)]
      exact ih (by omega) hlt
    · have h0 : (y 0).val = n := by omega
      have hx : ∀ a, (y a).val = (![n, 0] : Fin 2 → ℕ) a + ((ix2 (0 : Fin 1) (y 1) : S1x8192.Idx) a).val := by
        intro a; fin_cases a
        · exact h0
        · exact (Nat.zero_add _).symm
      rw [View.read_writes_cons_unit_of_mem (size := S1x8192.size) arg9.view G _ _ _ y (ix2 (0 : Fin 1) (y 1)) (off5_eq ⟨n, ht⟩) hx]
      unfold rows
      refine congrFun (congrArg₂ (k0_pay247 v93 v103 v128 v129) (funext fun z => ?_) (funext fun z => ?_)) _
      · rw [View.readAt_eq_ld, harg7.read_unread]
        refine ld_at y0 _ z _ fun a => ?_
        refine Eq.trans ?_ (congrArg (· + (z a).val) (congrFun (off4_eq ⟨n, ht⟩) a).symm)
        fin_cases a
        · exact congrArg (fun t => 8192 * t + (z 0).val) h0
        · exact (Nat.zero_add _).symm
      · rw [View.readAt_eq_ld, harg8.read_unread]
        refine ld_at y1 _ z _ fun a => ?_
        refine Eq.trans ?_ (congrArg (· + (z a).val) (congrFun (off5_eq ⟨n, ht⟩) a).symm)
        fin_cases a
        · have hz : (z 0).val = 0 := Nat.lt_one_iff.mp (z 0).isLt
          exact h0.trans (by show n = n + (z 0).val; rw [hz, Nat.add_zero])
        · exact (Nat.zero_add _).symm

/-- After all the trips, all the rows are written. -/
theorem rows_read (v93 : FVec F S16x128 .f32) (v103 : BitVec 32) (v128 : FVec F S1x128 .f32) (v129 : BitVec 1)
    (G : BufTy.Contents (Elt F) arg9.view.ty) :
    arg9.view.read (Elt F) (arg9.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v93 v103 v128 v129 (harg7.unread y0) (harg8.unread y1) k0_t1_loop.trips))
      = rows v93 v103 v128 v129 y0 y1 :=
  funext fun y => rows_below c i arg1 harg1 arg2 harg2 arg3 harg3 arg4 harg4 arg5 harg5 arg6 harg6 arg7 harg7 arg8 harg8 arg9 harg9 arg10 harg10 arg11 harg11 arg12 harg12 arg13 harg13 arg14 harg14 h4 y0 y1 v93 v103 v128 v129 G 8 le_rfl y (y 0).isLt

theorem sel_piece (v166 : Vec F S4x8192 .f32) (k : Fin k0_t2_loop.trips) (a b : Vec F S4x8192 .f32) (s : Vec F S1x128 .f32) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v166 k (harg10.unread a) (harg11.unread b) (harg12.unread s)
      = ([⟨Rect.unit ![0, 0] S4x8192.size inb_S4x8192_S4x8192_0_0, k0_pay252 a b⟩],
         [⟨Rect.unit ![0, 0] S4x8192.size inb_S4x8192_S4x8192_0_0, k0_pay253 a b⟩],
         [⟨Rect.unit ![0, 0] S1x128.size inb_S1x128_S1x128_0_0, k0_pay254 k a s⟩]) := by
  unfold tripL_k0_t2 trip_k0_t2
  dsimp only
  sl_unfold_words
  simp only [View.readAt_eq_ld, harg10.read_unread, harg11.read_unread, harg12.read_unread]
  erw [View.ld_unit_zero zeros2, View.ld_unit_zero zeros2, View.ld_unit_zero zeros2]

/-- A store of the whole leaves what it stored. -/
theorem store_whole {S : Shape} {e : EltTy} {m : Memref sig .tc .vmem S e} (hm : m.IsWhole) (f : BufTy.Contents (Elt F) m.view.ty)
    {off : Fin S.rank → ℕ} (inb : ∀ a, off a + S.size a ≤ S.size a) (w : S.Idx → Elt F e) (L : List (View.Piece (Elt F) S e)) :
    m.view.writes (Elt F) f ((⟨Rect.unit off S.size inb, w⟩ : View.Piece (Elt F) S e) :: L) = hm.unread w :=
  hm.eq_unread (funext fun y => View.read_writes_cons_unit_of_mem m.view f inb w L y y rfl fun a => by have := inb a; omega)

/-- After `n` rounds the three buffers hold what `select` says. -/
theorem select_holds (v166 : Vec F S4x8192 .f32) (a b : Vec F S4x8192 .f32) (s : Vec F S1x128 .f32) (n : ℕ) (hn : n ≤ k0_t2_loop.trips) :
    arg10.view.writes (Elt F) (harg10.unread a) (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v166 (harg10.unread a) (harg11.unread b) (harg12.unread s) n).1
        = harg10.unread (select a b s n).1
      ∧ arg11.view.writes (Elt F) (harg11.unread b) (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v166 (harg10.unread a) (harg11.unread b) (harg12.unread s) n).2.1
        = harg11.unread (select a b s n).2.1
      ∧ arg12.view.writes (Elt F) (harg12.unread s) (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v166 (harg10.unread a) (harg11.unread b) (harg12.unread s) n).2.2
        = harg12.unread (select a b s n).2.2 := by
  induction n with
  | zero => exact ⟨rfl, rfl, rfl⟩
  | succ n ih =>
    obtain ⟨e1, e2, e3⟩ := ih (by omega)
    have ht : n < k0_t2_loop.trips := hn
    rw [pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v166 (harg10.unread a) (harg11.unread b) (harg12.unread s) ⟨n, ht⟩]
    have hp := sel_piece c i arg1 harg1 arg2 harg2 arg3 harg3 arg4 harg4 arg5 harg5 arg6 harg6 arg7 harg7 arg8 harg8 arg9 harg9 arg10 harg10 arg11 harg11 arg12 harg12 arg13 harg13 arg14 harg14 h4 v166 ⟨n, ht⟩ (select a b s n).1 (select a b s n).2.1 (select a b s n).2.2
    have p1 := congrArg Prod.fst hp
    have p2 := congrArg (fun t => t.2.1) hp
    have p3 := congrArg (fun t => t.2.2) hp
    dsimp only at p1 p2 p3
    dsimp only
    rw [e1, e2, e3, p1, p2, p3]
    have hs : select a b s (n + 1) = (k0_pay252 (select a b s n).1 (select a b s n).2.1, k0_pay253 (select a b s n).1 (select a b s n).2.1,
        k0_pay254 ⟨n, ht⟩ (select a b s n).1 (select a b s n).2.2) := by
      rw [select]; exact dif_pos ht
    rw [hs]
    exact ⟨store_whole harg10 _ _ _ _, store_whole harg11 _ _ _ _, store_whole harg12 _ _ _ _⟩

theorem slab_eq (r : BitVec 32) (off : Fin 2 → ℕ) (hoff : off = k0_off3 r) (inb : ∀ a, off a + S16x128.size a ≤ S65536x128.size a) :
    View.ld y0 (Rect.unit (s := S65536x128) off S16x128.size inb) = slab y0 r := by
  subst hoff
  funext z
  have h := inb 0
  have hz := (z 0).isLt
  change _ + 16 ≤ 65536 at h
  change _ < 16 at hz
  refine ld_at y0 _ z _ fun a => ?_
  fin_cases a
  · exact Nat.mod_eq_of_lt (by omega)
  · exact (Nat.zero_add _).symm

theorem upper_eq (d : Vec F S8x8192 .f32) (inb : ∀ a, (![0, 0] : Fin 2 → ℕ) a + S4x8192.size a ≤ S8x8192.size a) :
    View.ld d (Rect.unit (s := S8x8192) ![0, 0] S4x8192.size inb) = upper d := by
  funext z
  refine ld_at d _ z _ fun a => ?_
  fin_cases a
  · exact (Nat.zero_add _).symm
  · exact (Nat.zero_add _).symm

theorem lower_eq (d : Vec F S8x8192 .f32) (inb : ∀ a, (![4, 0] : Fin 2 → ℕ) a + S4x8192.size a ≤ S8x8192.size a) :
    View.ld d (Rect.unit (s := S8x8192) ![4, 0] S4x8192.size inb) = lower d := by
  funext z
  refine ld_at d _ z _ fun a => ?_
  fin_cases a
  · rfl
  · exact (Nat.zero_add _).symm

theorem whole1 (x : Vec F S256x128 .f32) : View.ld x (Rect.unit (s := S256x128) ![0, 0] S256x128.size inb_S256x128_S256x128_0_0) = x :=
  View.ld_unit_zero zeros2 _ _

theorem whole2 (x : Vec F S256x128 .i32) : View.ld x (Rect.unit (s := S256x128) ![0, 0] S256x128.size inb_S256x128_S256x128_0_0) = x :=
  View.ld_unit_zero zeros2 _ _

theorem whole3 (x : Vec F S1x128 .f32) : View.ld x (Rect.unit (s := S1x128) ![0, 0] S1x128.size inb_S1x128_S1x128_0_0) = x :=
  View.ld_unit_zero zeros2 _ _

/-- The first loop leaves the distances from the centre. -/
theorem rows_around (q g : Vec F S256x128 .f32) (w : Vec F S256x128 .i32) (hq : q = x0) (hg : g = x6) (hw : w = x7) (r : BitVec 32)
    (hr : r = centreWord q g w) (v92 : Vec F S16x128 .bf16) (hv : v92 = slab y0 r) (v103 : BitVec 32) (h103 : v103 = inSlab r)
    (v129 : BitVec 1) (h129 : v129 = Scalar.cmpi .eq v103 8#32) (G : BufTy.Contents (Elt F) arg9.view.ty) :
    arg9.view.read (Elt F) (arg9.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 (k0_pay245 v92) v103 (k0_pay246 r v92) v129 (harg7.unread y0) (harg8.unread y1) k0_t1_loop.trips))
      = aroundOf x0 x6 x7 y0 y1 := by
  rw [h129, h103, hv, hr, hq, hg, hw]
  exact rows_read c i arg1 harg1 arg2 harg2 arg3 harg3 arg4 harg4 arg5 harg5 arg6 harg6 arg7 harg7 arg8 harg8 arg9 harg9 arg10 harg10 arg11 harg11 arg12 harg12 arg13 harg13 arg14 harg14 h4 y0 y1 _ _ _ _ G

/-- The second loop leaves the selected values. -/
theorem selected_read (v166 a b : Vec F S4x8192 .f32) (s : Vec F S1x128 .f32) (G10 : BufTy.Contents (Elt F) arg10.view.ty)
    (G11 : BufTy.Contents (Elt F) arg11.view.ty) (h10 : G10 = harg10.unread a) (h11 : G11 = harg11.unread b) :
    View.readAt (Elt F) arg12.view (Rect.unit (s := S1x128) ![0, 0] S1x128.size inb_S1x128_S1x128_0_0).toLoadRect
        (arg12.view.writes (Elt F) (harg12.unread s) (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 h4 v166 G10 G11 (harg12.unread s) k0_t2_loop.trips).2.2)
      = (select a b s k0_t2_loop.trips).2.2 := by
  subst h10 h11
  rw [(select_holds c i arg1 harg1 arg2 harg2 arg3 harg3 arg4 harg4 arg5 harg5 arg6 harg6 arg7 harg7 arg8 harg8 arg9 harg9 arg10 harg10 arg11 harg11 arg12 harg12 arg13 harg13 arg14 harg14 h4 v166 a b s k0_t2_loop.trips le_rfl).2.2, View.readAt_eq_ld, harg12.read_unread]
  exact whole3 _

theorem score_of (q g : Vec F S256x128 .f32) (hq : q = x0) (hg : g = x6) (s t : Vec F S1x128 .f32) (hs : s = t) :
    k0_pay258 (k0_pay243 (k0_pay242 q g) (FloatOps.ofBits .f32 0#32)) (k0_pay256 s) (k0_pay257 s) = scoreFrom x0 x6 t := by
  subst hq hg hs; rfl

/-- The score stored by the last point. -/
theorem lastScore_eq : lastScore c i arg1 harg1 arg2 harg2 arg3 harg3 arg4 harg4 arg5 harg5 arg6 harg6 arg7 harg7 arg8 harg8 arg9 harg9 arg10 harg10 arg11 harg11 arg12 harg12 arg13 harg13 arg14 harg14 h1 h4 x0 x2 x3 y0 y1 y2 y3 y4 y5 x6 x7 hx7
    = scoreFrom x0 x6 (selected (aroundOf x0 x6 x7 y0 y1) y5) := by
  have e0 : View.readAt (Elt F) arg1.view (Rect.unit (s := S256x128) ![0, 0] S256x128.size inb_S256x128_S256x128_0_0).toLoadRect (harg1.unread x0) = x0 := by
    rw [View.readAt_eq_ld, harg1.read_unread]; exact whole1 _
  have e6 : View.readAt (Elt F) arg13.view (Rect.unit (s := S256x128) ![0, 0] S256x128.size inb_S256x128_S256x128_0_0).toLoadRect (harg13.unread x6) = x6 := by
    rw [View.readAt_eq_ld, harg13.read_unread]; exact whole1 _
  have e7 : View.readAt (Elt F) arg14.view (Rect.unit (s := S256x128) ![0, 0] S256x128.size inb_S256x128_S256x128_0_0).toLoadRect (harg14.unread x7) = x7 := by
    rw [View.readAt_eq_ld, harg14.read_unread]; exact whole2 _
  have hv : ∀ (r : BitVec 32) (off : Fin 2 → ℕ) (hoff : off = k0_off3 r) (inb : ∀ a, off a + S16x128.size a ≤ S65536x128.size a),
      View.readAt (Elt F) arg7.view (Rect.unit (s := S65536x128) off S16x128.size inb).toLoadRect (harg7.unread y0) = slab y0 r := by
    intro r off hoff inb
    rw [View.readAt_eq_ld, harg7.read_unread]; exact slab_eq y0 r off hoff inb
  have hup : ∀ (W : BufTy.Contents (Elt F) arg9.view.ty) (d : Vec F S8x8192 .f32) (hW : arg9.view.read (Elt F) W = d),
      View.readAt (Elt F) arg9.view (Rect.unit (s := S8x8192) ![0, 0] S4x8192.size inb_S8x8192_S4x8192_0_0).toLoadRect W = upper d := by
    intro W d hW; rw [View.readAt_eq_ld, hW]; exact upper_eq d _
  have hlo : ∀ (W : BufTy.Contents (Elt F) arg9.view.ty) (d : Vec F S8x8192 .f32) (hW : arg9.view.read (Elt F) W = d),
      View.readAt (Elt F) arg9.view (Rect.unit (s := S8x8192) ![4, 0] S4x8192.size inb_S8x8192_S4x8192_4_0).toLoadRect W = lower d := by
    intro W d hW; rw [View.readAt_eq_ld, hW]; exact lower_eq d _
  unfold lastScore runLast
  dsimp only
  sl_unfold_words
  rw [View.canon_unit_zero zeros2]
  refine score_of x0 x6 _ _ e0 e6 _ _ (selected_read c i arg1 harg1 arg2 harg2 arg3 harg3 arg4 harg4 arg5 harg5 arg6 harg6 arg7 harg7 arg8 harg8 arg9 harg9 arg10 harg10 arg11 harg11 arg12 harg12 arg13 harg13 arg14 harg14 h4 _ (k0_pay248 (upper (aroundOf x0 x6 x7 y0 y1)) (lower (aroundOf x0 x6 x7 y0 y1)))
    (k0_pay249 (upper (aroundOf x0 x6 x7 y0 y1)) (lower (aroundOf x0 x6 x7 y0 y1))) y5 _ _ ?_ ?_)
  · refine (store_whole harg10 _ _ _ []).trans (congrArg harg10.unread (congrArg₂ k0_pay248 (hup _ _ ?_) (hlo _ _ ?_)))
    · exact rows_around c i arg1 harg1 arg2 harg2 arg3 harg3 arg4 harg4 arg5 harg5 arg6 harg6 arg7 harg7 arg8 harg8 arg9 harg9 arg10 harg10 arg11 harg11 arg12 harg12 arg13 harg13 arg14 harg14 h4 x0 y0 y1 x6 x7 _ _ _ e0 e6 e7 _ rfl _ (hv _ _ rfl _) _ rfl _ rfl _
    · exact rows_around c i arg1 harg1 arg2 harg2 arg3 harg3 arg4 harg4 arg5 harg5 arg6 harg6 arg7 harg7 arg8 harg8 arg9 harg9 arg10 harg10 arg11 harg11 arg12 harg12 arg13 harg13 arg14 harg14 h4 x0 y0 y1 x6 x7 _ _ _ e0 e6 e7 _ rfl _ (hv _ _ rfl _) _ rfl _ rfl _
  · refine (store_whole harg11 _ _ _ []).trans (congrArg harg11.unread (congrArg₂ k0_pay249 (hup _ _ ?_) (hlo _ _ ?_)))
    · exact rows_around c i arg1 harg1 arg2 harg2 arg3 harg3 arg4 harg4 arg5 harg5 arg6 harg6 arg7 harg7 arg8 harg8 arg9 harg9 arg10 harg10 arg11 harg11 arg12 harg12 arg13 harg13 arg14 harg14 h4 x0 y0 y1 x6 x7 _ _ _ e0 e6 e7 _ rfl _ (hv _ _ rfl _) _ rfl _ rfl _
    · exact rows_around c i arg1 harg1 arg2 harg2 arg3 harg3 arg4 harg4 arg5 harg5 arg6 harg6 arg7 harg7 arg8 harg8 arg9 harg9 arg10 harg10 arg11 harg11 arg12 harg12 arg13 harg13 arg14 harg14 h4 x0 y0 y1 x6 x7 _ _ _ e0 e6 e7 _ rfl _ (hv _ _ rfl _) _ rfl _ rfl _

end Cert.KernelIdeal.Hand

end
-- ==== Proof.Rolls.lean ====
/- Seven rotate-and-add steps over 128 lanes leave every lane at the sum over the lanes; likewise for the least. -/
module

public import Idealize.ShloMosaic.Lib.Pointwise

@[expose] public section

noncomputable section

namespace Cert.Rolls

open Idealize.ShloMosaic
open scoped Fin.CommRing

/-- One step: every lane adds the lane `s` before it, around the end. -/
def step {M : Type} [AddCommMonoid M] (s : Fin 128) (f : Fin 128 → M) : Fin 128 → M := fun l => f l + f (l - s)

theorem step_sum {M : Type} [AddCommMonoid M] (f : Fin 128 → M) (s : Fin 128) (n : ℕ) (g : Fin 128 → M)
    (h : ∀ l, g l = ∑ i ∈ Finset.range n, f (l - (s + s) * (i : Fin 128))) (l : Fin 128) :
    step s g l = ∑ i ∈ Finset.range (2 * n), f (l - s * (i : Fin 128)) := by
  unfold step
  rw [h, h]
  clear h
  induction n with
  | zero => simp
  | succ n ih =>
    rw [show 2 * (n + 1) = 2 * n + 1 + 1 by ring, Finset.sum_range_succ, Finset.sum_range_succ,
      Finset.sum_range_succ, Finset.sum_range_succ, ← ih]
    have e1 : l - (s + s) * (n : Fin 128) = l - s * ((2 * n : ℕ) : Fin 128) := by push_cast; ring
    have e2 : l - s - (s + s) * (n : Fin 128) = l - s * ((2 * n + 1 : ℕ) : Fin 128) := by push_cast; ring
    rw [e1, e2]
    abel

theorem all {M : Type} [AddCommMonoid M] (f : Fin 128 → M) (l : Fin 128) :
    step 1 (step 2 (step 4 (step 8 (step 16 (step 32 (step 64 f)))))) l = ∑ i, f i := by
  have h0 : ∀ l, f l = ∑ i ∈ Finset.range 1, f (l - (64 + 64) * (i : Fin 128)) := fun l => by simp
  have h := step_sum f 1 64 _ (step_sum f 2 32 _ (step_sum f 4 16 _ (step_sum f 8 8 _ (step_sum f 16 4 _
    (step_sum f 32 2 _ (step_sum f 64 1 f h0)))))) l
  rw [h, show 2 * 64 = 128 from rfl, Finset.sum_range]
  refine (Finset.sum_congr rfl fun i _ => ?_).trans (Equiv.sum_comp (Equiv.subLeft l) f)
  simp [Equiv.subLeft]

/-- The same of the least, its steps taking the lesser. -/
def stepMin (s : Fin 128) (f : Fin 128 → EReal) : Fin 128 → EReal := fun l => min (f l) (f (l - s))

/-- The extended reals under `min`. -/
def Low : Type := EReal

instance : Zero Low := ⟨(⊤ : EReal)⟩
instance : Add Low := ⟨fun a b => (min (a : EReal) (b : EReal) : EReal)⟩

instance : AddCommMonoid Low where
  add_assoc a b c := min_assoc (α := EReal) a b c
  zero_add a := min_eq_right (α := EReal) le_top
  add_zero a := min_eq_left (α := EReal) le_top
  add_comm a b := min_comm (α := EReal) a b
  nsmul := nsmulRec

theorem low_sum {ι : Type} (s : Finset ι) (f : ι → EReal) : Finset.sum (M := Low) s f = s.inf f := by
  classical
  induction s using Finset.induction_on with
  | empty => rfl
  | insert a s h ih =>
    refine (Finset.sum_insert (M := Low) (f := f) h).trans ?_
    rw [Finset.inf_insert]
    exact congrArg (min (f a)) ih

theorem allMin (f : Fin 128 → EReal) (l : Fin 128) :
    stepMin 1 (stepMin 2 (stepMin 4 (stepMin 8 (stepMin 16 (stepMin 32 (stepMin 64 f)))))) l = Finset.univ.inf f :=
  (all (M := Low) f l).trans (low_sum Finset.univ f)

end Cert.Rolls

end
-- ==== Proof.MapValue.lean ====
/- What the last point computes for the map, over the extended reals. -/
module

public import proofs.«01_k».proof.Proof.Gen.KernelIdeal.Skeleton
public import proofs.«01_k».proof.Proof.Rolls
public import Idealize.ShloMosaic.Lib.Pointwise

@[expose] public section

set_option maxRecDepth 16384

noncomputable section

namespace Cert.KernelIdeal.Hand

open Cert.KernelIdeal.Gen
open Idealize.ShloMosaic Idealize.ShloMosaic.TcCoe

theorem roll_add (v : FVec Ideal S256x128 .f32) (w : BitVec 32) (h) (s : Fin 128) (hs : w.toNat = s.val) (r : Fin 256) :
    (fun l => addf v (dynamicRotate 1 w none v h) (ix2 r l)) = Rolls.step s (fun l => v (ix2 r l)) := by
  funext l
  pointwise []
  unfold Rolls.step
  congr 3
  apply Fin.ext
  rw [Fin.sub_def]
  have hl : s.val < 128 := s.isLt
  simp only [hs, Nat.mod_eq_of_lt hl]
  congr 1
  omega

theorem roll_min (v : FVec Ideal S256x128 .f32) (w : BitVec 32) (h) (s : Fin 128) (hs : w.toNat = s.val) (r : Fin 256) :
    (fun l => minimumf v (dynamicRotate 1 w none v h) (ix2 r l)) = Rolls.stepMin s (fun l => v (ix2 r l)) := by
  funext l
  pointwise []
  unfold Rolls.stepMin
  congr 3
  apply Fin.ext
  rw [Fin.sub_def]
  have hl : s.val < 128 := s.isLt
  simp only [hs, Nat.mod_eq_of_lt hl]
  congr 1
  omega

/-- The rotate-and-add of the squared queries, plus the rotate-and-least of the lanes' minima. -/
theorem pay240_apply (q g : FVec Ideal S256x128 .f32) (r : Fin 256) (l : Fin 128) :
    k0_pay240 (F := Ideal) q g (ix2 r l) = (∑ d : Fin 128, q (ix2 r d) * q (ix2 r d)) + Finset.univ.inf (fun l => g (ix2 r l)) := by
  have hs := Rolls.all (fun l => mulf q q (ix2 r l)) l
  have hm := Rolls.allMin (fun l => g (ix2 r l)) l
  rw [← roll_add _ 64#32 rotates_S256x128_d1 64 rfl, ← roll_add _ 32#32 rotates_S256x128_d1 32 rfl,
    ← roll_add _ 16#32 rotates_S256x128_d1 16 rfl, ← roll_add _ 8#32 rotates_S256x128_d1 8 rfl,
    ← roll_add _ 4#32 rotates_S256x128_d1 4 rfl, ← roll_add _ 2#32 rotates_S256x128_d1 2 rfl,
    ← roll_add _ 1#32 rotates_S256x128_d1 1 rfl] at hs
  rw [← roll_min _ 64#32 rotates_S256x128_d1 64 rfl, ← roll_min _ 32#32 rotates_S256x128_d1 32 rfl,
    ← roll_min _ 16#32 rotates_S256x128_d1 16 rfl, ← roll_min _ 8#32 rotates_S256x128_d1 8 rfl,
    ← roll_min _ 4#32 rotates_S256x128_d1 4 rfl, ← roll_min _ 2#32 rotates_S256x128_d1 2 rfl,
    ← roll_min _ 1#32 rotates_S256x128_d1 1 rfl] at hm
  exact congrArg₂ (· + ·) hs hm

theorem pay239_apply (g : FVec Ideal S256x128 .f32) (r : Fin 256) (l : Fin 128) :
    k0_pay239 (F := Ideal) g (ix2 r l) = Finset.univ.inf (fun l => g (ix2 r l)) := by
  have hm := Rolls.allMin (fun l => g (ix2 r l)) l
  rw [← roll_min _ 64#32 rotates_S256x128_d1 64 rfl, ← roll_min _ 32#32 rotates_S256x128_d1 32 rfl,
    ← roll_min _ 16#32 rotates_S256x128_d1 16 rfl, ← roll_min _ 8#32 rotates_S256x128_d1 8 rfl,
    ← roll_min _ 4#32 rotates_S256x128_d1 4 rfl, ← roll_min _ 2#32 rotates_S256x128_d1 2 rfl,
    ← roll_min _ 1#32 rotates_S256x128_d1 1 rfl] at hm
  exact hm

theorem pay241_apply (q g : FVec Ideal S256x128 .f32) (r : Fin 256) (l : Fin 128) :
    k0_pay241 (F := Ideal) q g (ix2 r l) = Ideal.sqrt (max ((∑ d : Fin 128, q (ix2 r d) * q (ix2 r d))
      + Finset.univ.inf (fun l => g (ix2 r l))) 0) := by
  rw [← pay240_apply q g r l]
  pointwise [k0_pay241]

theorem word_mod (q : Fin 256) : Scalar.select
      (IntOp.andi
        (IntOp.xori
          (IntOp.cmpi CmpIPredicate.slt
            (IntOp.remsi ArithUnit.vector (BitVec.ofNat 32 q.val)
              (Scalar.select (Scalar.cmpi CmpIPredicate.eq 16#32 0#32) 1#32 16#32))
            0#32)
          (Scalar.cmpi CmpIPredicate.slt
            (Scalar.select (Scalar.cmpi CmpIPredicate.eq 16#32 0#32) 1#32 16#32) 0#32))
        (IntOp.cmpi CmpIPredicate.ne
          (IntOp.remsi ArithUnit.vector (BitVec.ofNat 32 q.val)
            (Scalar.select (Scalar.cmpi CmpIPredicate.eq 16#32 0#32) 1#32 16#32))
          0#32))
      (IntOp.addi
        (IntOp.remsi ArithUnit.vector (BitVec.ofNat 32 q.val)
          (Scalar.select (Scalar.cmpi CmpIPredicate.eq 16#32 0#32) 1#32 16#32))
        (Scalar.select (Scalar.cmpi CmpIPredicate.eq 16#32 0#32) 1#32 16#32))
      (IntOp.remsi ArithUnit.vector (BitVec.ofNat 32 q.val)
        (Scalar.select (Scalar.cmpi CmpIPredicate.eq 16#32 0#32) 1#32 16#32)) = BitVec.ofNat 32 (q.val % 16) :=
  by decide +kernel +revert

theorem word_div (q : Fin 256) : Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (1#32) (Scalar.extui 0#1)))
        (IntOp.cmpi CmpIPredicate.ne (IntOp.remsi ArithUnit.vector (BitVec.ofNat 32 q.val) 16#32) 0#32))
      (IntOp.subi (IntOp.divsi ArithUnit.vector (BitVec.ofNat 32 q.val) 16#32) 1#32)
      (IntOp.divsi ArithUnit.vector (BitVec.ofNat 32 q.val) 16#32) = BitVec.ofNat 32 (q.val / 16) :=
  by decide +kernel +revert

theorem select_eq {α : Type} (a b : ℕ) (ha : a < 16) (hb : b < 16) (x y : α) :
    Scalar.select (IntOp.cmpi CmpIPredicate.eq (BitVec.ofNat 32 a) (BitVec.ofNat 32 b)) x y = if a = b then x else y := by
  have h : ∀ a b : Fin 16, IntOp.cmpi CmpIPredicate.eq (BitVec.ofNat 32 a.val) (BitVec.ofNat 32 b.val)
      = if a.val = b.val then 1#1 else 0#1 := by decide +kernel
  rw [h ⟨a, ha⟩ ⟨b, hb⟩]
  dsimp only
  split <;> rfl

theorem map_apply (u : FVec Ideal S256x128 .f32) (M : Vec Ideal S256x16 .f32) (N : Vec Ideal S16x256 .f32)
   (i : Fin 256) (j : Fin 256) :
   k0_pay9 (k0_pay259 u) (iota .tc S16x256 32 [0] iota_S16x256_d0_w32) (iota .tc S16x256 32 [1] iota_S16x256_d1_w32) 16#32
    k0_pay260 k0_pay261 1#32 0#1 M N (ix2 i j) = ∑ b : Fin 16, (∑ a : Fin 16, M (ix2 i a) * u (ix2 ⟨16*a.val+b.val, by omega⟩ ⟨b.val, by omega⟩)) * N (ix2 b j) := by
  pointwise [k0_pay9, k0_pay259, k0_pay260, k0_pay261]
  simp only [word_mod, word_div]
  refine Finset.sum_congr rfl fun b _ => ?_
  congr 1
  refine Finset.sum_congr rfl fun a _ => ?_
  congr 1
  have hterm : ∀ q : Fin 256, Scalar.select (IntOp.cmpi CmpIPredicate.eq (BitVec.ofNat 32 (q.val % 16)) (BitVec.ofNat 32 b.val))
      (Scalar.select (IntOp.cmpi CmpIPredicate.eq (BitVec.ofNat 32 (q.val / 16)) (BitVec.ofNat 32 a.val))
        (u (ix2 q ⟨b.val, by omega⟩)) 0) 0
      = if q = ⟨16 * a.val + b.val, by omega⟩ then u (ix2 q ⟨b.val, by omega⟩) else 0 := fun q => by
    rw [select_eq _ _ (by omega) b.isLt, select_eq _ _ (by omega) a.isLt]
    by_cases h : q = ⟨16 * a.val + b.val, by omega⟩
    · subst h
      rw [if_pos (by show (16 * a.val + b.val) % 16 = _; omega), if_pos (by show (16 * a.val + b.val) / 16 = _; omega),
        if_pos rfl]
    · rw [if_neg h]
      by_cases h1 : q.val % 16 = b.val
      · rw [if_pos h1, if_neg (fun h2 => h (Fin.ext (by show q.val = 16 * a.val + b.val; omega)))]
      · rw [if_neg h1]
  refine (Finset.sum_congr rfl fun q _ => hterm q).trans ?_
  rw [Finset.sum_ite_eq' Finset.univ, if_pos (Finset.mem_univ _)]

end Cert.KernelIdeal.Hand

end
-- ==== Proof.Consts.lean ====
/- The float constants of the programs, as the extended reals that they denote, and the operations on reals. -/
module

public import Idealize.ShloMosaic.PureOps.Ideal

@[expose] public section

noncomputable section

namespace Cert.Consts

open Idealize.ShloMosaic

theorem two_coe : Ideal.ofBits .f32 0x40000000#32 = ((2 : ℝ) : EReal) := by
  simp [Ideal.ofBits, Ideal.ieee, -EReal.coe_mul]; norm_num

theorem two : Ideal.ofBits .f32 0x40000000#32 = 2 := two_coe

theorem half : Ideal.ofBits .f32 0x3F000000#32 = ((1 / 2 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem minus_sixteen : Ideal.ofBits .f32 0xC1800000#32 = ((-16 : ℝ) : EReal) := by
  simp [Ideal.ofBits, Ideal.ieee, -EReal.coe_mul]; norm_num

theorem infinity : Ideal.ofBits .f32 0x7F800000#32 = ⊤ := by
  simp [Ideal.ofBits, Ideal.ieee]

theorem minus_infinity : Ideal.ofBits .f32 0xFF800000#32 = ⊥ := by
  simp [Ideal.ofBits, Ideal.ieee]

theorem absf_coe (x : ℝ) : FloatOps.absf (F := Ideal) (φ := .f32) (x : EReal) = ((|x| : ℝ) : EReal) := by
  show ((max (x : EReal) (-x) : EReal)) = _
  rw [← EReal.coe_neg]
  exact (EReal.coe_strictMono.monotone.map_max (a := x) (b := -x)).symm

theorem sitofp_nat (n : ℕ) (h : n < 2 ^ 31) :
    FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_of_lt (by rw [BitVec.toNat_ofNat]; omega), BitVec.toNat_ofNat]
    omega
  rw [this]
  simp

theorem div_coe (x y : ℝ) (h : y ≠ 0) : Ideal.div (x : EReal) (y : EReal) = ((x / y : ℝ) : EReal) := by
  rw [Ideal.div_coe h, ← EReal.coe_mul, mul_one_div]

theorem sum_coe {ι : Type} [Fintype ι] (f : ι → ℝ) : (∑ i, ((f i : ℝ) : EReal)) = ((∑ i, f i : ℝ) : EReal) := by
  classical
  refine Finset.induction_on Finset.univ (by simp) fun a s ha ih => ?_
  rw [Finset.sum_insert ha, Finset.sum_insert ha, EReal.coe_add, ih]

theorem max_coe (x y : ℝ) : max (x : EReal) (y : EReal) = ((max x y : ℝ) : EReal) :=
  (EReal.coe_strictMono.monotone.map_max (a := x) (b := y)).symm

theorem sqrt_coe (x : ℝ) (h : 0 ≤ x) : Ideal.sqrt (x : EReal) = ((Real.sqrt x : ℝ) : EReal) := by
  rw [Ideal.sqrt_coe, if_neg (not_lt.mpr h)]

end Cert.Consts

end
-- ==== Proof.Weights.lean ====
/- The upsampling and blurring weights, as real numbers, and the entries of the programs that denote them. -/
module

public import proofs.«01_k».proof.Proof.Consts
public import Mathlib.Data.Matrix.Mul
public import Mathlib.Analysis.SpecialFunctions.Exp

@[expose] public section

noncomputable section

namespace Cert.Weights

open Idealize.ShloMosaic

/-- How far patch coordinate `a` is from pixel `i`'s centre, as a bilinear weight before it is normalised. -/
def tent (i a : ℕ) : ℝ := max 0 (1 - |((i : ℝ) + 1 / 2) * (1 / 16) - 1 / 2 - (a : ℝ)|)

/-- A pixel's bilinear weights, summed. -/
def tentSum (i : ℕ) : ℝ := ∑ a : Fin 16, tent i a

/-- The bilinear weight of patch coordinate `a` at pixel `i`. -/
def hat (i a : ℕ) : ℝ := tent i a / tentSum i

/-- The Gaussian of sigma four, before it is normalised. -/
def bell (x : ℝ) : ℝ := Real.exp (-(1 / 2) * (x / 4 * (x / 4)))

/-- The Gaussian summed over the window of radius sixteen. -/
def mass : ℝ := ∑ t : Fin 33, bell (-16 + (t.val : ℝ))

/-- The blur's weight of pixel `k` at pixel `i`. -/
def blur (i k : ℕ) : ℝ := if |(k : ℝ) - (i : ℝ)| ≤ 16 then bell ((k : ℝ) - (i : ℝ)) / mass else 0

theorem tentSum_ne (i : Fin 256) : tentSum i.val ≠ 0 := by
  have hnn : ∀ a : Fin 16, 0 ≤ tent i.val a.val := fun a => le_max_left _ _
  have hpos : 0 < tent i.val (i.val / 16) := by
    refine lt_max_of_lt_right ?_
    have h1 : ((i.val / 16 * 16 + i.val % 16 : ℕ) : ℝ) = (i.val : ℝ) := by
      congr 1; omega
    push_cast at h1
    have h2 : ((i.val % 16 : ℕ) : ℝ) < 16 := by exact_mod_cast Nat.mod_lt _ (by omega)
    have h3 : (0 : ℝ) ≤ ((i.val % 16 : ℕ) : ℝ) := Nat.cast_nonneg _
    rw [sub_pos, abs_lt]
    push_cast at h2 h3 ⊢
    constructor <;> linarith
  have : 0 < tentSum i.val :=
    Finset.sum_pos' (fun a _ => hnn a) ⟨⟨i.val / 16, by omega⟩, Finset.mem_univ _, hpos⟩
  exact this.ne'

theorem mass_ne : mass ≠ 0 :=
  (Finset.sum_pos (fun t _ => Real.exp_pos _) ⟨0, Finset.mem_univ _⟩).ne'

/-- The programs' text for `tent`. -/
theorem tent_read (i a : ℕ) (hi : i < 256) (ha : a < 16) :
    max 0 (1 - FloatOps.absf (F := Ideal) (φ := .f32)
      ((FloatOps.sitofp (F := Ideal) .f32 (BitVec.ofNat 32 i) + Ideal.ofBits .f32 0x3F000000#32) * Ideal.ofBits .f32 0x3D800000#32
        - Ideal.ofBits .f32 0x3F000000#32 - FloatOps.sitofp (F := Ideal) .f32 (BitVec.ofNat 32 a)))
      = ((tent i a : ℝ) : EReal) := by
  rw [Consts.sitofp_nat i (by omega), Consts.sitofp_nat a (by omega), Consts.half, Consts.sixteenth,
    ← EReal.coe_add, ← EReal.coe_mul, ← EReal.coe_sub, ← EReal.coe_sub, Consts.absf_coe]
  rw [← EReal.coe_one, ← EReal.coe_sub, ← EReal.coe_zero, Consts.max_coe]
  rfl

/-- The programs' text for `hat`. -/
theorem hat_read (i : Fin 256) (a : ℕ) :
    Ideal.div ((tent i.val a : ℝ) : EReal) (∑ x : Fin 16, ((tent i.val x.val : ℝ) : EReal)) = ((hat i.val a : ℝ) : EReal) := by
  rw [Consts.sum_coe]
  exact Consts.div_coe _ _ (tentSum_ne i)

/-- The programs' text for the unnormalised Gaussian. -/
theorem bell_read (x : ℝ) :
    Ideal.exp (Ideal.ofBits .f32 0xBF000000#32 *
      (Ideal.div (x : EReal) (Ideal.ofBits .f32 0x40800000#32) * Ideal.div (x : EReal) (Ideal.ofBits .f32 0x40800000#32)))
      = ((bell x : ℝ) : EReal) := by
  rw [Consts.four, Consts.minus_half, Consts.div_coe _ _ (by norm_num), ← EReal.coe_mul, ← EReal.coe_mul, Ideal.exp_coe]
  rfl

theorem offset_read (k i : ℕ) (hk : k < 256) (hi : i < 256) :
    (FloatOps.sitofp (F := Ideal) .f32 (BitVec.ofNat 32 k) : EReal) - FloatOps.sitofp (F := Ideal) .f32 (BitVec.ofNat 32 i)
      = (((k : ℝ) - (i : ℝ) : ℝ) : EReal) := by
  rw [Consts.sitofp_nat k (by omega), Consts.sitofp_nat i (by omega), EReal.coe_sub]

theorem tap_read (t : ℕ) (h : t < 33) :
    Ideal.ofBits .f32 0xC1800000#32 + (FloatOps.sitofp (F := Ideal) .f32 (BitVec.ofNat 32 t) : EReal)
      = ((-16 + (t : ℝ) : ℝ) : EReal) := by
  rw [Consts.sitofp_nat t (by omega), Consts.minus_sixteen, EReal.coe_add]

/-- The programs' text for `blur`: the quotient first, then the window. -/
theorem blur_read (i k : ℕ) (z : EReal) (hz : z = 0) :
    (if FloatOps.absf (F := Ideal) (φ := .f32) (((k : ℝ) - (i : ℝ) : ℝ) : EReal) ≤ Ideal.ofBits .f32 0x41800000#32 then
      Ideal.div ((bell ((k : ℝ) - (i : ℝ)) : ℝ) : EReal) (∑ t : Fin 33, ((bell (-16 + (t.val : ℝ)) : ℝ) : EReal)) else z)
      = ((blur i k : ℝ) : EReal) := by
  have hm : Ideal.div ((bell ((k : ℝ) - (i : ℝ)) : ℝ) : EReal) (∑ t : Fin 33, ((bell (-16 + (t.val : ℝ)) : ℝ) : EReal))
      = ((bell ((k : ℝ) - (i : ℝ)) / mass : ℝ) : EReal) := by
    rw [Consts.sum_coe]
    exact Consts.div_coe _ _ mass_ne
  rw [hm, Consts.absf_coe, Consts.sixteen, hz, blur]
  by_cases h : |(k : ℝ) - (i : ℝ)| ≤ 16
  · rw [if_pos h, if_pos (EReal.coe_le_coe_iff.mpr h)]
  · rw [if_neg h, if_neg (fun h' => h (EReal.coe_le_coe_iff.mp h')), EReal.coe_zero]

/-- The programs' text for `blur`: the window first, then the quotient. -/
theorem blur_read' (i k : ℕ) (z : EReal) (hz : z = 0) :
    Ideal.div (if FloatOps.absf (F := Ideal) (φ := .f32) (((k : ℝ) - (i : ℝ) : ℝ) : EReal) ≤ Ideal.ofBits .f32 0x41800000#32 then
      ((bell ((k : ℝ) - (i : ℝ)) : ℝ) : EReal) else z) (∑ t : Fin 33, ((bell (-16 + (t.val : ℝ)) : ℝ) : EReal))
      = ((blur i k : ℝ) : EReal) := by
  rw [Consts.absf_coe, Consts.sixteen, hz, blur, Consts.sum_coe, ← EReal.coe_zero]
  by_cases h : |(k : ℝ) - (i : ℝ)| ≤ 16
  · rw [if_pos h, if_pos (EReal.coe_le_coe_iff.mpr h)]
    exact Consts.div_coe _ _ mass_ne
  · rw [if_neg h, if_neg (fun h' => h (EReal.coe_le_coe_iff.mp h'))]
    exact (Consts.div_coe 0 _ mass_ne).trans (by rw [zero_div])

/-- Upsampling then blurring along each axis, in the order of the reference, is the product with one matrix on each
side, in the order of the kernel. -/
theorem chain {R : Type} [CommSemiring R] (g : Fin 256 → Fin 256 → R) (u : Fin 256 → Fin 16 → R) (p : Fin 16 → Fin 16 → R) (i j : Fin 256) :
    (∑ b : Fin 16, (∑ a : Fin 16, (∑ k : Fin 256, g i k * u k a) * p a b) * (∑ k : Fin 256, g j k * u k b))
      = ∑ l : Fin 256, g j l * (∑ k : Fin 256, g i k * (∑ b : Fin 16, (∑ a : Fin 16, u k a * p a b) * u l b)) := by
  let G : Matrix (Fin 256) (Fin 256) R := g
  let H : Matrix (Fin 256) (Fin 16) R := u
  let Q : Matrix (Fin 16) (Fin 16) R := p
  have hl : (∑ b : Fin 16, (∑ a : Fin 16, (∑ k : Fin 256, g i k * u k a) * p a b) * (∑ k : Fin 256, g j k * u k b))
      = (((G * H) * Q) * (G * H).transpose) i j := rfl
  have hr : (∑ l : Fin 256, g j l * (∑ k : Fin 256, g i k * (∑ b : Fin 16, (∑ a : Fin 16, u k a * p a b) * u l b)))
      = (G * (G * ((H * Q) * H.transpose)).transpose).transpose i j := rfl
  rw [hl, hr]
  simp only [Matrix.transpose_mul, Matrix.transpose_transpose, Matrix.mul_assoc]

theorem tent_nonneg (i a : ℕ) : 0 ≤ tent i a := le_max_left _ _

theorem hat_nonneg (i a : ℕ) : 0 ≤ hat i a := div_nonneg (tent_nonneg _ _) (Finset.sum_nonneg fun _ _ => tent_nonneg _ _)

theorem blur_nonneg (i k : ℕ) : 0 ≤ blur i k := by
  unfold blur
  split
  · exact div_nonneg (Real.exp_pos _).le (Finset.sum_nonneg fun _ _ => (Real.exp_pos _).le)
  · exact le_rfl

theorem coe_nonneg_real {x : ℝ} (h : 0 ≤ x) : (x : EReal) = ((ENNReal.ofReal x : ENNReal) : EReal) := by
  rw [EReal.coe_ennreal_ofReal, max_eq_left h]

theorem coe_sum_ennreal {ι : Type} [Fintype ι] (f : ι → ENNReal) : (∑ i, ((f i : ENNReal) : EReal)) = ((∑ i, f i : ENNReal) : EReal) := by
  classical
  refine Finset.induction_on Finset.univ (by simp) fun a s ha ih => ?_
  rw [Finset.sum_insert ha, Finset.sum_insert ha, ih, EReal.coe_ennreal_add]

theorem chain_all (p : Fin 16 → Fin 16 → EReal) (hp : ∀ a b, 0 ≤ p a b) (i j : Fin 256) :
    (∑ b : Fin 16, (∑ a : Fin 16, ((∑ k : Fin 256, blur i.val k.val * hat k.val a.val : ℝ) : EReal) * p a b)
        * ((∑ k : Fin 256, blur j.val k.val * hat k.val b.val : ℝ) : EReal))
      = ∑ l : Fin 256, ((blur j.val l.val : ℝ) : EReal) * (∑ k : Fin 256, ((blur i.val k.val : ℝ) : EReal)
          * (∑ b : Fin 16, (∑ a : Fin 16, ((hat k.val a.val : ℝ) : EReal) * p a b) * ((hat l.val b.val : ℝ) : EReal))) := by
  have e : ∀ a b, p a b = (((p a b).toENNReal : ENNReal) : EReal) := fun a b => (EReal.coe_toENNReal (hp a b)).symm
  have hb : ∀ i k, ((blur i k : ℝ) : EReal) = ((ENNReal.ofReal (blur i k) : ENNReal) : EReal) := fun i k => coe_nonneg_real (blur_nonneg i k)
  have hh : ∀ i k, ((hat i k : ℝ) : EReal) = ((ENNReal.ofReal (hat i k) : ENNReal) : EReal) := fun i k => coe_nonneg_real (hat_nonneg i k)
  have h := chain (fun i k : Fin 256 => ENNReal.ofReal (blur i.val k.val)) (fun (k : Fin 256) (a : Fin 16) => ENNReal.ofReal (hat k.val a.val))
    (fun a b => (p a b).toENNReal) i j
  have h' := congrArg (fun x : ENNReal => (x : EReal)) h
  simp only [← coe_sum_ennreal, EReal.coe_ennreal_mul, ← hb, ← hh, ← e] at h'
  simp only [← Consts.sum_coe, EReal.coe_mul]
  exact h'

end Cert.Weights

end
-- ==== Proof.Matrices.lean ====
/- The two constant matrices of the kernel's host code, read entry by entry. -/
module

public import proofs.«01_k».proof.Proof.Gen.KernelIdeal.Frame
public import proofs.«01_k».proof.Proof.Weights
public import Idealize.ShloMosaic.Lib.Pointwise
public import Idealize.ShloMosaic.Lib.StableHlo.RunClose

@[expose] public section

open Idealize.ShloMosaic Idealize.ShloMosaic.TcCoe

namespace Cert.KernelIdeal.Hand

open Cert.KernelIdeal Cert.KernelIdeal.Gen

variable (m : (ℓ : Loc nD τ sig) → Buf (Elt Ideal) ℓ) (c : Dev nD)

set_option maxRecDepth 8192 in
set_option maxHeartbeats 2000000 in
theorem V_weights (i : Fin 256) (j : Fin 16) : (V m c main_v54 : FVec Ideal S256x16 .f32) (ix2 i j)
    = ((∑ k : Fin 256, Weights.blur i.val k.val * Weights.hat k.val j.val : ℝ) : EReal) := by
  unfold V V0
  simp only [hostOps0, hostOps0_1, hostOps0_2, StableHlo.TRef.ternary, StableHlo.TRef.unary, StableHlo.TRef.toBuf,
    StableHlo.TRef.ofBuf, cast_eq, List.flatten_cons, List.flatten_nil, List.append_nil, List.cons_append, List.nil_append]
  after_results_simp
  pointwise []
  have htent := fun (k : Fin 256) (a : Fin 16) => Weights.tent_read k.val a.val k.isLt a.isLt
  have hoff := fun k : Fin 256 => Weights.offset_read k.val i.val k.isLt i.isLt
  have htap := fun t : Fin 33 => Weights.tap_read t.val t.isLt
  simp only [htent, hoff, htap, Weights.hat_read, Weights.bell_read,
    show (id (constant (F := Ideal) S_ FTy.f32 0#32) ix0 : EReal) = 0 from Ideal.ofBits_zero_f32,
    fun k : ℕ => Weights.blur_read i.val k 0 rfl]
  rw [← Consts.sum_coe]
  simp only [EReal.coe_mul]

set_option maxRecDepth 8192 in
set_option maxHeartbeats 2000000 in
theorem V_transposed (i : Fin 16) (j : Fin 256) : (V m c main_v55 : FVec Ideal S16x256 .f32) (ix2 i j)
    = (V m c main_v54 : FVec Ideal S256x16 .f32) (ix2 j i) := by
  unfold V V0
  simp only [hostOps0, hostOps0_1, hostOps0_2, StableHlo.TRef.ternary, StableHlo.TRef.unary, StableHlo.TRef.toBuf,
    StableHlo.TRef.ofBuf, cast_eq, List.flatten_cons, List.flatten_nil, List.append_nil, List.cons_append, List.nil_append]
  after_results_simp
  exact transpose_apply _ _ _ _ _ (by intro b; fin_cases b <;> rfl)

end Cert.KernelIdeal.Hand
-- ==== Proof.Distances.lean ====
/- Squared distances over the reals: the nearest key of a patch, the farthest patch, and their first positions. -/
module

public import proofs.«01_k».proof.Proof.Consts
public import Mathlib.Analysis.SpecialFunctions.Pow.NNReal
public import Mathlib.Data.Finset.Fold

@[expose] public section

noncomputable section

namespace Cert.Distances

/-- `j` is the first position at which `f` is least. -/
def First {n : ℕ} (f : Fin n → ℝ) (j : Fin n) : Prop := (∀ i, f j ≤ f i) ∧ ∀ i, i < j → f j < f i

theorem First.exists {n : ℕ} (f : Fin (n + 1) → ℝ) : ∃ j, First f j := by
  classical
  obtain ⟨k, -, hk⟩ := Finset.exists_min_image Finset.univ f ⟨0, Finset.mem_univ _⟩
  let S := Finset.univ.filter fun j => ∀ i, f j ≤ f i
  have hS : S.Nonempty := ⟨k, Finset.mem_filter.mpr ⟨Finset.mem_univ _, fun i => hk i (Finset.mem_univ _)⟩⟩
  have hm := (Finset.mem_filter.mp (S.min'_mem hS)).2
  refine ⟨S.min' hS, hm, fun i hi => ?_⟩
  by_contra hc
  have : i ∈ S := Finset.mem_filter.mpr ⟨Finset.mem_univ _, fun x => (not_lt.mp hc).trans (hm x)⟩
  exact absurd hi (not_lt.mpr (S.min'_le i this))

/-- A strictly increasing change of the values keeps the first position. -/
theorem First.of_lt_iff {n : ℕ} {f g : Fin n → ℝ} {j : Fin n} (h : First f j) (hfg : ∀ i k, f i < f k ↔ g i < g k) :
    First g j :=
  ⟨fun i => not_lt.mp fun hc => absurd ((hfg _ _).mpr hc) (not_lt.mpr (h.1 i)), fun i hi => (hfg _ _).mp (h.2 i hi)⟩

theorem First.eq {n : ℕ} {f : Fin n → ℝ} {i j : Fin n} (h : First f i) (g : First f j) : i = j := by
  rcases lt_trichotomy i j with hc | hc | hc
  · exact absurd (g.2 i hc) (not_lt.mpr (h.1 j))
  · exact hc
  · exact absurd (h.2 j hc) (not_lt.mpr (g.1 i))

/-- The first position is at or before every position that attains the least. -/
theorem First.le {n : ℕ} {f : Fin n → ℝ} {i j : Fin n} (h : First f j) (hi : f i = f j) : j ≤ i :=
  not_lt.mp fun hc => absurd (h.2 i hc) (by rw [hi]; exact lt_irrefl _)

/-- A minimum folded over a set is the value that one member attains and none undercuts. -/
theorem fold_min_eq {ι α : Type} [LinearOrder α] (S : Finset ι) (f : ι → α) (b v : α) (hb : v ≤ b)
    (hv : ∃ i ∈ S, f i = v) (hle : ∀ i ∈ S, v ≤ f i) : S.fold min b f = v := by
  obtain ⟨i, hi, rfl⟩ := hv
  exact le_antisymm ((Finset.fold_min_le _).mpr (Or.inr ⟨i, hi, le_rfl⟩)) ((Finset.le_fold_min _).mpr ⟨hb, hle⟩)

theorem fold_max_eq {ι α : Type} [LinearOrder α] (S : Finset ι) (f : ι → α) (b v : α) (hb : b ≤ v)
    (hv : ∃ i ∈ S, f i = v) (hle : ∀ i ∈ S, f i ≤ v) : S.fold max b f = v := by
  obtain ⟨i, hi, rfl⟩ := hv
  exact le_antisymm ((Finset.fold_max_le _).mpr ⟨hb, hle⟩) ((Finset.le_fold_max _).mpr (Or.inr ⟨i, hi, le_rfl⟩))

variable (Q : Fin 256 → Fin 128 → ℝ) (K : Fin 65536 → Fin 128 → ℝ)

/-- A key's squared norm less twice its product with a vector. -/
def gapTo (v : Fin 128 → ℝ) (j : Fin 65536) : ℝ := (∑ d, K j d * K j d) - 2 * ∑ d, v d * K j d

def sqOf (v : Fin 128 → ℝ) : ℝ := ∑ d, v d * v d

theorem sq_gap (v : Fin 128 → ℝ) (j : Fin 65536) : 0 ≤ sqOf v + gapTo K v j := by
  have : sqOf v + gapTo K v j = ∑ d, (v d - K j d) ^ 2 := by
    unfold sqOf gapTo
    rw [Finset.mul_sum, ← Finset.sum_sub_distrib, ← Finset.sum_add_distrib]
    exact Finset.sum_congr rfl fun d _ => by ring
  rw [this]
  exact Finset.sum_nonneg fun d _ => sq_nonneg _

/-- The first key nearest to patch `r`. -/
def closest (r : Fin 256) : Fin 65536 := Classical.choose (First.exists (gapTo K (Q r)))

theorem closest_first (r : Fin 256) : First (gapTo K (Q r)) (closest Q K r) :=
  Classical.choose_spec (First.exists (gapTo K (Q r)))

/-- Patch `r`'s squared distance to its nearest key. -/
def near2 (r : Fin 256) : ℝ := sqOf (Q r) + gapTo K (Q r) (closest Q K r)

theorem near2_nonneg (r : Fin 256) : 0 ≤ near2 Q K r := sq_gap K (Q r) _

/-- Patch `r`'s score: its distance to its nearest key. -/
def patch (r : Fin 256) : ℝ := Real.sqrt (near2 Q K r)

/-- The first patch that is farthest from its nearest key. -/
def farthest : Fin 256 := Classical.choose (First.exists fun r => -near2 Q K r)

theorem farthest_first : First (fun r => -near2 Q K r) (farthest Q K) :=
  Classical.choose_spec (First.exists fun r => -near2 Q K r)

/-- The largest patch score. -/
def top : ℝ := patch Q K (farthest Q K)

theorem patch_le (r : Fin 256) : patch Q K r ≤ top Q K :=
  Real.sqrt_le_sqrt (neg_le_neg_iff.mp ((farthest_first Q K).1 r))

theorem patch_eq_iff (r : Fin 256) : patch Q K r = top Q K ↔ near2 Q K r = near2 Q K (farthest Q K) :=
  Real.sqrt_inj (near2_nonneg Q K _) (near2_nonneg Q K _)

/-- The key that the score looks around: the nearest key of the farthest patch. -/
def centre : Fin 65536 := closest Q K (farthest Q K)

/-- Key `j`'s squared distance from the centre. -/
def around (j : Fin 65536) : ℝ := sqOf (K (centre Q K)) + gapTo K (K (centre Q K)) j

theorem around_nonneg (j : Fin 65536) : 0 ≤ around Q K j := sq_gap K _ j

end Cert.Distances

end
-- ==== Proof.ScanValue.lean ====
/- What the scan leaves in the scratch memory, over the extended reals: each lane's least squared distance (less the
   query's own norm) over the keys of the lane, and the chunk that attains it first. -/
module

public import proofs.«01_k».proof.Proof.IdealPoint
public import proofs.«01_k».proof.Proof.Consts
public import Idealize.ShloMosaic.Lib.Pointwise

@[expose] public section

set_option maxRecDepth 16384

noncomputable section

namespace Cert.KernelIdeal.Hand

open Cert.KernelIdeal.Gen
open Idealize.ShloMosaic Idealize.ShloMosaic.TcCoe

/-! ## The first position at which a least value is attained -/

/-- `v` is the least of `f` over the positions from `lo` to `hi`, and the word `w` the first position that attains it. -/
def Best (f : ℕ → EReal) (lo hi : ℕ) (v : EReal) (w : BitVec 32) : Prop :=
  ∃ a, lo ≤ a ∧ a < hi ∧ w = BitVec.ofNat 32 a ∧ v = f a ∧ (∀ b, lo ≤ b → b < hi → f a ≤ f b)
    ∧ ∀ b, lo ≤ b → b < a → f a < f b

theorem Best.single (f : ℕ → EReal) (n : ℕ) : Best f n (n + 1) (f n) (BitVec.ofNat 32 n) :=
  ⟨n, le_rfl, by omega, rfl, rfl, fun b h h' => by rw [show b = n by omega], fun b h h' => by omega⟩

theorem Best.join {f : ℕ → EReal} {lo mid hi : ℕ} {v d : EReal} {w u : BitVec 32} (h : Best f lo mid v w)
    (g : Best f mid hi d u) : Best f lo hi (if d < v then d else v) (if d < v then u else w) := by
  obtain ⟨a, ha, ha', rfl, rfl, hl, hf⟩ := h
  obtain ⟨b, hb, hb', rfl, rfl, gl, gf⟩ := g
  by_cases hc : f b < f a
  · rw [if_pos hc, if_pos hc]
    refine ⟨b, by omega, hb', rfl, rfl, fun x hx hx' => ?_, fun x hx hx' => ?_⟩
    · by_cases hm : x < mid
      · exact hc.le.trans (hl x hx hm)
      · exact gl x (by omega) hx'
    · by_cases hm : x < mid
      · exact hc.trans_le (hl x hx hm)
      · exact gf x (by omega) hx'
  · rw [if_neg hc, if_neg hc]
    refine ⟨a, ha, by omega, rfl, rfl, fun x hx hx' => ?_, hf⟩
    by_cases hm : x < mid
    · exact hl x hx hm
    · exact (not_lt.mp hc).trans (gl x (by omega) hx')

theorem Best.shift {f : ℕ → EReal} {lo hi k : ℕ} {v : EReal} {w : BitVec 32} (h : Best (fun a => f (k + a)) lo hi v w) :
    Best f (k + lo) (k + hi) v (w + BitVec.ofNat 32 k) := by
  obtain ⟨a, ha, ha', rfl, rfl, hl, hf⟩ := h
  refine ⟨k + a, by omega, by omega, ?_, rfl, fun x hx hx' => ?_, fun x hx hx' => ?_⟩
  · rw [Nat.add_comm k a, BitVec.ofNat_add]
  · have := hl (x - k) (by omega) (by omega)
    dsimp only at this ⊢
    rwa [show k + (x - k) = x by omega] at this
  · have := hf (x - k) (by omega) (by omega)
    dsimp only at this ⊢
    rwa [show k + (x - k) = x by omega] at this

/-! ## One block -/

/-- The squared norm of key `j` less twice its product with query `r`. -/
def gap (Q : S256x128.Idx → EReal) (K : ℕ → Fin 128 → EReal) (r : Fin 256) (j : ℕ) : EReal :=
  (∑ d : Fin 128, K j d * K j d) - 2 * ∑ d : Fin 128, Q (ix2 r d) * K j d

theorem chunk_apply (x0 : Vec Ideal S256x128 .f32) (x1 : Vec Ideal S8192x128 .f32) (n : ℕ) (h : n < 64) (r : Fin 256)
    (l : Fin 128) (K : ℕ → Fin 128 → EReal) (hK : ∀ (j : Fin 8192) d, x1 (ix2 j d) = K j.val d) :
    chunk (F := Ideal) (k0_pay10 x1) (k0_pay11 x1 x0) n h (ix2 r l) = gap x0 K r (n * 128 + l.val) := by
  unfold chunk gap
  pointwise [k0_pay10, k0_pay11]
  simp only [hK, Consts.two]

theorem olt_apply (d v : Ideal .f32) {α : Type} (x y : α) :
    Scalar.select (FloatOps.cmpf .olt d v) x y = if d < v then x else y := by
  unfold Scalar.select
  by_cases h : d < v <;> simp [Ideal.cmpf_def, Ideal.cmp, h]

theorem Best.step {f : ℕ → EReal} {lo mid hi : ℕ} {v d : Ideal .f32} {w u : BitVec 32} (h : Best f lo mid v w)
    (g : Best f mid hi d u) : Best f lo hi (Scalar.select (FloatOps.cmpf .olt d v) d v)
      (Scalar.select (FloatOps.cmpf .olt d v) u w) := by
  rw [olt_apply, olt_apply]
  exact h.join g

/-- The scan of a block: each lane's least gap over the chunks, with the chunk that attains it first. -/
theorem scan_best (x0 : Vec Ideal S256x128 .f32) (x1 : Vec Ideal S8192x128 .f32) (r : Fin 256)
    (l : Fin 128) (K : ℕ → Fin 128 → EReal) (hK : ∀ (j : Fin 8192) d, x1 (ix2 j d) = K j.val d) : ∀ (n : ℕ) (h : n < 64),
    Best (fun a => gap x0 K r (a * 128 + l.val)) 0 (n + 1)
      ((scan (F := Ideal) (k0_pay10 x1) (k0_pay11 x1 x0) n h).1 (ix2 r l)) ((scan (F := Ideal) (k0_pay10 x1) (k0_pay11 x1 x0) n h).2 (ix2 r l))
  | 0, h => by
    unfold scan
    dsimp only
    rw [chunk_apply x0 x1 0 h r l K hK]
    exact Best.single (fun a => gap x0 K r (a * 128 + l.val)) 0
  | n + 1, h => by
    have hs := Best.single (fun a => gap x0 K r (a * 128 + l.val)) (n + 1)
    rw [← chunk_apply x0 x1 (n + 1) h r l K hK] at hs
    exact (scan_best x0 x1 r l K hK n (by omega)).step hs

/-! ## The whole scan -/

variable (m : (ℓ : Loc nD τ sig) → Buf (Elt Ideal) ℓ)

/-- The queries, and the keys by their number. -/
def queries (c : Dev nD) : S256x128.Idx → EReal := m ((c.tc : Thread nD τ).loc main_arg0)
def keys (c : Dev nD) : ℕ → Fin 128 → EReal := fun j d =>
  (m ((c.tc : Thread nD τ).loc main_arg1) : S65536x128.Idx → EReal) (ix2 ⟨j % 65536, Nat.mod_lt _ (by decide)⟩ d)

theorem queriesAt_eq (c : Dev nD) (t : Fin cfg0.N) : queriesAt m c t = queries m c := by
  funext y
  have hi : ∀ t : Fin grid0.N, (cfg0.win 0).index t 0 = 0 ∧ (cfg0.win 0).index t 1 = 0 := by decide +kernel
  show V m c main_arg0 (((cfg0.win 0).rect t).emb y) = _
  rw [V_main_arg0]
  unfold queries
  congr 1
  funext a
  apply Fin.ext
  fin_cases a
  · exact Pipeline.Window.rect_emb_val_of_index_zero (cfg0.win 0) t 0 (hi t).1 y
  · exact Pipeline.Window.rect_emb_val_of_index_zero (cfg0.win 0) t 1 (hi t).2 y

theorem keysAt_apply (c : Dev nD) (t : Fin cfg0.N) (ht : t.val < 8) (j : Fin 8192) (d : Fin 128) :
    keysAt m c t (ix2 j d) = keys m c (t.val * 8192 + j.val) d := by
  have hi : ∀ t : Fin grid0.N, t.val < 8 → (cfg0.win 1).index t 0 = t.val ∧ (cfg0.win 1).index t 1 = 0 := by
    decide +kernel
  show V m c main_arg1 (((cfg0.win 1).rect t).emb (ix2 j d)) = _
  rw [V_main_arg1]
  unfold keys
  congr 1
  funext a
  apply Fin.ext
  fin_cases a
  · refine ((cfg0.win 1).rect_emb_val t (ix2 j d) 0).trans ?_
    rw [(hi t ht).1]
    show t.val * 8192 + j.val = (t.val * 8192 + j.val) % 65536
    omega
  · exact Pipeline.Window.rect_emb_val_of_index_zero (cfg0.win 1) t 1 (hi t ht).2 (ix2 j d)

theorem block_best (c : Dev nD) (r : Fin 256) (l : Fin 128) (n : ℕ) (h : n < cfg0.N) (h8 : n < 8) :
    Best (fun a => gap (queries m c) (keys m c) r (a * 128 + l.val)) (n * 64) (n * 64 + 64)
      (blockMin (queriesAt m c ⟨n, h⟩) (keysAt m c ⟨n, h⟩) (ix2 r l))
      (blockArg (grid0.coords ⟨n, h⟩) (queriesAt m c ⟨n, h⟩) (keysAt m c ⟨n, h⟩) (ix2 r l)) := by
  have hb := scan_best (queriesAt m c ⟨n, h⟩) (keysAt m c ⟨n, h⟩) r l (fun j => keys m c (n * 8192 + j))
    (fun j d => keysAt_apply m c ⟨n, h⟩ h8 j d) 63 (by decide)
  rw [queriesAt_eq] at hb ⊢
  have e : (fun a => gap (queries m c) (fun j => keys m c (n * 8192 + j)) r (a * 128 + l.val))
      = fun a => (fun a => gap (queries m c) (keys m c) r (a * 128 + l.val)) (n * 64 + a) := by
    funext a
    simp only [gap]
    rw [show (n * 64 + a) * 128 + l.val = n * 8192 + (a * 128 + l.val) by ring]
  rw [e] at hb
  have hs := Best.shift (f := fun a => gap (queries m c) (keys m c) r (a * 128 + l.val)) (k := n * 64) hb
  have hw : (BitVec.ofNat 32 (n * 64)) = Scalar.muli (BitVec.ofNat 32 ((grid0.coords ⟨n, h⟩) 0).val) 64#32 :=
    (by decide +kernel : ∀ t : Fin grid0.N, BitVec.ofNat 32 (t.val * 64) = Scalar.muli (BitVec.ofNat 32 ((grid0.coords t) 0).val) 64#32) ⟨n, h⟩
  rw [hw] at hs
  exact hs

theorem left_best (c : Dev nD) (r : Fin 256) (l : Fin 128) (n : ℕ) : ∀ (h : n < cfg0.N), n < 8 →
    Best (fun a => gap (queries m c) (keys m c) r (a * 128 + l.val)) 0 ((n + 1) * 64)
      ((left m c n h).1 (ix2 r l)) ((left m c n h).2 (ix2 r l)) := by
  induction n with
  | zero =>
    intro h h8
    have e1 : (left m c 0 h).1 (ix2 r l) = blockMin (queriesAt m c ⟨0, h⟩) (keysAt m c ⟨0, h⟩) (ix2 r l) := by rw [left]
    have e2 : (left m c 0 h).2 (ix2 r l)
        = blockArg (grid0.coords ⟨0, h⟩) (queriesAt m c ⟨0, h⟩) (keysAt m c ⟨0, h⟩) (ix2 r l) := by rw [left]
    have hb := block_best m c r l 0 h h8
    rw [Nat.zero_mul, Nat.zero_add] at hb
    rw [e1, e2, Nat.zero_add, Nat.one_mul]
    exact hb
  | succ n ih =>
    intro h h8
    have e1 : (left m c (n + 1) h).1 (ix2 r l) = Scalar.select
        (FloatOps.cmpf .olt (blockMin (queriesAt m c ⟨n + 1, h⟩) (keysAt m c ⟨n + 1, h⟩) (ix2 r l))
          ((left m c n (by omega)).1 (ix2 r l)))
        (blockMin (queriesAt m c ⟨n + 1, h⟩) (keysAt m c ⟨n + 1, h⟩) (ix2 r l)) ((left m c n (by omega)).1 (ix2 r l)) := by
      rw [left]; rfl
    have e2 : (left m c (n + 1) h).2 (ix2 r l) = Scalar.select
        (FloatOps.cmpf .olt (blockMin (queriesAt m c ⟨n + 1, h⟩) (keysAt m c ⟨n + 1, h⟩) (ix2 r l))
          ((left m c n (by omega)).1 (ix2 r l)))
        (blockArg (grid0.coords ⟨n + 1, h⟩) (queriesAt m c ⟨n + 1, h⟩) (keysAt m c ⟨n + 1, h⟩) (ix2 r l))
        ((left m c n (by omega)).2 (ix2 r l)) := by
      rw [left]; rfl
    rw [e1, e2, show (n + 1 + 1) * 64 = (n + 1) * 64 + 64 by ring]
    exact Best.step (ih (by omega) (by omega)) (block_best m c r l (n + 1) h h8)

end Cert.KernelIdeal.Hand

end
-- ==== Proof.MapExact.lean ====
/- What the scan leaves in the lanes, from real arguments. -/
module

public import proofs.«01_k».proof.Proof.MapRun
public import proofs.«01_k».proof.Proof.MapValue
public import proofs.«01_k».proof.Proof.Matrices
public import proofs.«01_k».proof.Proof.Distances
public import proofs.«01_k».proof.Proof.ScanValue

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ) (c : Dev nD)
  (Q : Fin 256 → Fin 128 → ℝ) (K : Fin 65536 → Fin 128 → ℝ)

/-- The arguments are these real numbers. -/
structure Real : Prop where
  q : ∀ r d, queries m c (ix2 r d) = ((Q r d : ℝ) : EReal)
  k : ∀ (j : Fin 65536) d, keys m c j.val d = ((K j d : ℝ) : EReal)

theorem upAt_eq (t : Fin cfg0.N) : upAt m c t = (V m c main_v54 : FVec Ideal S256x16 .f32) := by
  funext y
  have hi : ∀ t : Fin grid0.N, (cfg0.win 2).index t 0 = 0 ∧ (cfg0.win 2).index t 1 = 0 := by decide +kernel
  show V m c main_v54 (((cfg0.win 2).rect t).emb y) = _
  congr 1
  funext a
  apply Fin.ext
  fin_cases a
  · exact Pipeline.Window.rect_emb_val_of_index_zero (cfg0.win 2) t 0 (hi t).1 y
  · exact Pipeline.Window.rect_emb_val_of_index_zero (cfg0.win 2) t 1 (hi t).2 y

theorem downAt_eq (t : Fin cfg0.N) : downAt m c t = (V m c main_v55 : FVec Ideal S16x256 .f32) := by
  funext y
  have hi : ∀ t : Fin grid0.N, (cfg0.win 3).index t 0 = 0 ∧ (cfg0.win 3).index t 1 = 0 := by decide +kernel
  show V m c main_v55 (((cfg0.win 3).rect t).emb y) = _
  congr 1
  funext a
  apply Fin.ext
  fin_cases a
  · exact Pipeline.Window.rect_emb_val_of_index_zero (cfg0.win 3) t 0 (hi t).1 y
  · exact Pipeline.Window.rect_emb_val_of_index_zero (cfg0.win 3) t 1 (hi t).2 y

variable {m c Q K} (h : Real m c Q K)
include h

theorem gap_real (r : Fin 256) (j : Fin 65536) :
    gap (queries m c) (keys m c) r j.val = ((Distances.gapTo K (Q r) j : ℝ) : EReal) := by
  unfold gap Distances.gapTo
  simp only [h.q, h.k, show (2 : EReal) = ((2 : ℝ) : EReal) from rfl, ← EReal.coe_mul, Consts.sum_coe, ← EReal.coe_sub]

/-- What a lane holds when the scan has ended: the least of its keys' values, and the number of the first chunk of its. -/
theorem lane {X0 X1 X6 X7} (hI : Inv m c 8 X0 X1 X6 X7) (r : Fin 256) (l : Fin 128) :
    ∃ a : Fin 512, X7 (ix2 r l) = BitVec.ofNat 32 a.val
      ∧ X6 (ix2 r l) = ((Distances.gapTo K (Q r) ⟨a.val * 128 + l.val, by omega⟩ : ℝ) : EReal)
      ∧ (∀ b : Fin 512, Distances.gapTo K (Q r) ⟨a.val * 128 + l.val, by omega⟩ ≤ Distances.gapTo K (Q r) ⟨b.val * 128 + l.val, by omega⟩)
      ∧ ∀ b : Fin 512, b < a → Distances.gapTo K (Q r) ⟨a.val * 128 + l.val, by omega⟩ < Distances.gapTo K (Q r) ⟨b.val * 128 + l.val, by omega⟩ := by
  have h7 : 7 < cfg0.N := by rw [show cfg0.N = 9 from N_0]; decide
  obtain ⟨a, -, ha, hw, hv, hl, hf⟩ := left_best m c r l 7 h7 (by decide)
  have hr : ∀ b : Fin 512, gap (queries m c) (keys m c) r (b.val * 128 + l.val)
      = ((Distances.gapTo K (Q r) ⟨b.val * 128 + l.val, by omega⟩ : ℝ) : EReal) := fun b => gap_real h r ⟨b.val * 128 + l.val, by omega⟩
  refine ⟨⟨a, ha⟩, ?_, ?_, fun b => ?_, fun b hb => ?_⟩
  · rw [hI.args ⟨7, h7⟩ (show 7 < 8 by decide) (Or.inr ⟨le_rfl, rfl⟩)]; exact hw
  · rw [hI.mins ⟨7, h7⟩ (show 7 < 8 by decide) (Or.inr ⟨le_rfl, rfl⟩)]; exact hv.trans (hr ⟨a, ha⟩)
  · have := hl b.val (Nat.zero_le _) b.isLt
    dsimp only at this
    rw [hr b, hr ⟨a, ha⟩] at this
    exact EReal.coe_le_coe_iff.mp this
  · have := hf b.val (Nat.zero_le _) hb
    dsimp only at this
    rw [hr b, hr ⟨a, ha⟩] at this
    exact EReal.coe_lt_coe_iff.mp this

/-- The lanes' least is the least over every key. -/
theorem lanes_least {X0 X1 X6 X7} (hI : Inv m c 8 X0 X1 X6 X7) (r : Fin 256) :
    Finset.univ.inf (fun l : Fin 128 => (X6 (ix2 r l) : EReal))
      = ((Distances.gapTo K (Q r) (Distances.closest Q K r) : ℝ) : EReal) := by
  refine le_antisymm ?_ (Finset.le_inf fun l _ => ?_)
  · have hc := (Distances.closest Q K r).isLt
    refine (Finset.inf_le (Finset.mem_univ ⟨(Distances.closest Q K r).val % 128, Nat.mod_lt _ (by decide)⟩)).trans ?_
    obtain ⟨a, -, hv, hl, -⟩ := lane h hI r ⟨(Distances.closest Q K r).val % 128, Nat.mod_lt _ (by decide)⟩
    rw [hv]
    refine EReal.coe_le_coe_iff.mpr ((hl ⟨(Distances.closest Q K r).val / 128, by omega⟩).trans (le_of_eq ?_))
    congr 1
    exact Fin.ext (Nat.div_add_mod' _ 128)
  · obtain ⟨a, -, hv, -, -⟩ := lane h hI r l
    rw [hv]
    exact EReal.coe_le_coe_iff.mpr ((Distances.closest_first Q K r).1 _)

end Cert.KernelIdeal.Hand

end
-- ==== Proof.ScoreValue.lean ====
/- The score of the last point, out of the ten selected values. -/
module

public import proofs.«01_k».proof.Proof.ScoreRun
public import proofs.«01_k».proof.Proof.MapExact

@[expose] public section

set_option maxRecDepth 16384

noncomputable section

namespace Cert.KernelIdeal.Hand

open Cert.KernelIdeal.Gen
open Idealize.ShloMosaic Idealize.ShloMosaic.TcCoe Idealize.ShloMosaic.Tactic

/-- The two halves still to select from after `n` rounds. -/
def halves (a b : Vec Ideal S4x8192 .f32) : ℕ → Vec Ideal S4x8192 .f32 × Vec Ideal S4x8192 .f32
  | 0 => (a, b)
  | n + 1 => (k0_pay252 (halves a b n).1 (halves a b n).2, k0_pay253 (halves a b n).1 (halves a b n).2)

theorem trips_eq : k0_t2_loop.trips = 10 := by decide +kernel

theorem select_halves (a b : Vec Ideal S4x8192 .f32) (s : Vec Ideal S1x128 .f32) (n : ℕ) (hn : n ≤ 10) :
    (select a b s n).1 = (halves a b n).1 ∧ (select a b s n).2.1 = (halves a b n).2 := by
  induction n with
  | zero => exact ⟨rfl, rfl⟩
  | succ n ih =>
    obtain ⟨e1, e2⟩ := ih (by omega)
    rw [select, dif_pos (show n < k0_t2_loop.trips by rw [trips_eq]; omega)]
    rw [halves, ← e1, ← e2]
    exact ⟨rfl, rfl⟩

theorem pay254_apply (k : Fin k0_t2_loop.trips) (x : Vec Ideal S4x8192 .f32) (s : Vec Ideal S1x128 .f32) (l : Fin 128) :
    k0_pay254 (F := Ideal) k x s (ix2 0 l) = if l.val = k.val then (k0_pay250 (F := Ideal) x : EReal) else s (ix2 0 l) := by
  have hw : ∀ (k : Fin k0_t2_loop.trips) (l : Fin 128),
      IntOp.cmpi CmpIPredicate.eq (BitVec.ofNat 32 l.val) (Scf.iv 0#32 1#32 k.val) = if l.val = k.val then 1#1 else 0#1 := by decide +kernel
  pointwise [k0_pay254]
  rw [hw]
  by_cases h : l.val = k.val
  · rw [if_pos h, if_pos h]; rfl
  · rw [if_neg h, if_neg h]; rfl

/-- Round `l` selects the least value of the first half then. -/
theorem select_lane (a b : Vec Ideal S4x8192 .f32) (s : Vec Ideal S1x128 .f32) (l : Fin 128) (n : ℕ) (hn : n ≤ 10) (hl : l.val < n) :
    (select a b s n).2.2 (ix2 0 l) = (k0_pay250 (F := Ideal) (halves a b l.val).1 : EReal) := by
  induction n with
  | zero => exact absurd hl (Nat.not_lt_zero _)
  | succ n ih =>
    rw [select, dif_pos (show n < k0_t2_loop.trips by rw [trips_eq]; omega)]
    refine (pay254_apply _ _ _ l).trans ?_
    by_cases h : l.val = n
    · rw [if_pos h, (select_halves a b s n (by omega)).1, ← h]
    · rw [if_neg h]; exact ih (by omega) (by omega)

/-- The value that round `t` selects among the distances `d`. -/
def chosen (d : Vec Ideal S8x8192 .f32) (t : ℕ) : EReal :=
  k0_pay250 (F := Ideal) (halves (k0_pay248 (F := Ideal) (upper d) (lower d)) (k0_pay249 (F := Ideal) (upper d) (lower d)) t).1

theorem selected_apply (d : Vec Ideal S8x8192 .f32) (s : Vec Ideal S1x128 .f32) (l : Fin 128) (hl : l.val < 10) :
    selected d s (ix2 0 l) = chosen d l.val :=
  select_lane _ _ s l k0_t2_loop.trips (le_of_eq trips_eq) (by rw [trips_eq]; exact hl)

theorem sum_lane (f : Fin 128 → EReal) (w : BitVec 32) (k : Fin 128) (hw : w = BitVec.ofNat 32 k.val) :
    (∑ x : Fin 128, Scalar.select (IntOp.cmpi CmpIPredicate.eq (BitVec.ofNat 32 x.val) w) (f x) 0) = f k := by
  subst hw
  have hm : ∀ x k : Fin 128, IntOp.cmpi CmpIPredicate.eq (BitVec.ofNat 32 x.val) (BitVec.ofNat 32 k.val) = if x = k then 1#1 else 0#1 := by
    intro x k
    by_cases h : x = k
    · subst h; rw [if_pos rfl]; simp [IntOp.cmpi]
    · rw [if_neg h]
      have : BitVec.ofNat 32 x.val ≠ BitVec.ofNat 32 k.val := fun e => h (Fin.ext (by
        have := congrArg BitVec.toNat e
        rw [BitVec.toNat_ofNat, BitVec.toNat_ofNat, Nat.mod_eq_of_lt (by omega), Nat.mod_eq_of_lt (by omega)] at this
        exact this))
      show BitVec.ofBool (BitVec.ofNat 32 x.val == BitVec.ofNat 32 k.val) = 0#1
      rw [beq_eq_false_iff_ne.mpr this]; rfl
  rw [Finset.sum_eq_single k]
  · rw [hm, if_pos rfl]; rfl
  · intro x _ hx
    rw [hm, if_neg hx]; rfl
  · intro h; exact absurd (Finset.mem_univ _) h

/-- Lane `t + 1`. -/
def lane9 : Fin 9 ↪ Fin 128 := ⟨fun t => ⟨t.val + 1, by omega⟩, fun a b h => Fin.ext (by simpa using congrArg Fin.val h)⟩

theorem sum_lanes (f : Fin 128 → EReal) :
    (∑ x : Fin 128, Scalar.select (IntOp.andi (IntOp.cmpi CmpIPredicate.sge (BitVec.ofNat 32 x.val) 1#32)
      (IntOp.cmpi CmpIPredicate.sle (BitVec.ofNat 32 x.val) 9#32)) (f x) 0) = ∑ t : Fin 9, f (lane9 t) := by
  have hm : ∀ x : Fin 128, IntOp.andi (IntOp.cmpi CmpIPredicate.sge (BitVec.ofNat 32 x.val) 1#32)
      (IntOp.cmpi CmpIPredicate.sle (BitVec.ofNat 32 x.val) 9#32) = if 1 ≤ x.val ∧ x.val ≤ 9 then 1#1 else 0#1 := by decide +kernel
  rw [← Finset.sum_map Finset.univ lane9 f]
  have hs : Finset.univ.map lane9 = Finset.univ.filter fun x : Fin 128 => 1 ≤ x.val ∧ x.val ≤ 9 := by
    ext x
    simp only [Finset.mem_map, Finset.mem_univ, true_and, Finset.mem_filter]
    constructor
    · rintro ⟨t, rfl⟩; exact ⟨Nat.le_add_left _ _, by show t.val + 1 ≤ 9; omega⟩
    · rintro ⟨h1, h2⟩; exact ⟨⟨x.val - 1, by omega⟩, Fin.ext (by show x.val - 1 + 1 = x.val; omega)⟩
  rw [hs, Finset.sum_filter]
  refine Finset.sum_congr rfl fun x _ => ?_
  rw [hm]
  by_cases h : 1 ≤ x.val ∧ x.val ≤ 9
  · rw [if_pos h, if_pos h]; rfl
  · rw [if_neg h, if_neg h]; rfl

/-- The weight's term of the selected value `v`, the last one being `u`. -/
def weightOf (v u : EReal) : EReal := Ideal.exp (Ideal.sqrt (max v 0) - Ideal.sqrt (max u 0))

theorem pay255_apply (s : Vec Ideal S1x128 .f32) (l : Fin 128) :
    k0_pay255 (F := Ideal) s (ix2 0 l) = weightOf (s (ix2 0 l)) (s (ix2 0 9)) := by
  pointwise [k0_pay255]
  rw [Fintype.sum_unique]
  unfold weightOf
  rw [sum_lane (fun x => Ideal.sqrt (max (s (ix2 0 x)) 0)) 9#32 9 rfl]

theorem pay256_apply (s : Vec Ideal S1x128 .f32) :
    k0_pay256 (F := Ideal) s = ∑ t : Fin 9, weightOf (s (ix2 0 (lane9 t))) (s (ix2 0 9)) := by
  pointwise [k0_pay256]
  rw [Fintype.sum_unique, sum_lanes fun x => k0_pay255 (F := Ideal) s (ix2 0 x)]
  exact Finset.sum_congr rfl fun t _ => pay255_apply s _

theorem pay258_apply (a b : EReal) (s : Vec Ideal S1x128 .f32) :
    k0_pay258 (F := Ideal) a b (k0_pay257 s) (ix2 0 0) = (1 - Ideal.div (weightOf (s (ix2 0 1)) (s (ix2 0 9))) b) * a := by
  pointwise [k0_pay258, k0_pay257]
  rw [Fintype.sum_unique, sum_lane (fun x => k0_pay255 (F := Ideal) s (ix2 0 x)) 1#32 1 rfl, pay255_apply]

theorem pay243_apply (a z : EReal) : k0_pay243 (F := Ideal) a z = Ideal.sqrt (max a z) := rfl

/-- The score, out of the values the rounds select. -/
theorem scoreFrom_apply (x0 x6 : Vec Ideal S256x128 .f32) (d : Vec Ideal S8x8192 .f32) (s : Vec Ideal S1x128 .f32) :
    scoreFrom x0 x6 (selected d s) (ix2 0 0)
      = (1 - Ideal.div (weightOf (chosen d 1) (chosen d 9)) (∑ t : Fin 9, weightOf (chosen d (t.val + 1)) (chosen d 9)))
          * Ideal.sqrt (max (k0_pay242 (F := Ideal) x0 x6) 0) := by
  unfold scoreFrom
  refine (pay258_apply _ _ _).trans ?_
  rw [pay256_apply, selected_apply d s 1 (by decide), selected_apply d s 9 (by decide)]
  have hs : ∀ t : Fin 9, selected d s (ix2 0 (lane9 t)) = chosen d (t.val + 1) := fun t => selected_apply d s (lane9 t) (by
    show t.val + 1 < 10; omega)
  simp only [hs]
  rw [show (FloatOps.ofBits .f32 0#32 : Ideal .f32) = (0 : EReal) from Ideal.ofBits_zero_f32]
  exact congrArg _ (pay243_apply _ _)

end Cert.KernelIdeal.Hand

end
-- ==== Proof.Patches.lean ====
/- The patches' scores and their map, over the extended reals. -/
module

public import proofs.«01_k».proof.Proof.Weights

@[expose] public section

noncomputable section

namespace Cert.Patches

open Idealize.ShloMosaic

/-- The square root keeps order. -/
theorem sqrt_mono {x y : EReal} (hx : 0 ≤ x) (h : x ≤ y) : Ideal.sqrt x ≤ Ideal.sqrt y := by
  induction y with
  | top => exact le_top
  | bot => exact absurd (hx.trans h) (by simp)
  | coe y =>
    induction x with
    | top => exact absurd h (by simp)
    | bot => exact absurd hx (by simp)
    | coe x =>
      have hx' : 0 ≤ x := EReal.coe_nonneg.mp hx
      have h' : x ≤ y := EReal.coe_le_coe_iff.mp h
      rw [Consts.sqrt_coe x hx', Consts.sqrt_coe y (hx'.trans h')]
      exact EReal.coe_le_coe_iff.mpr (Real.sqrt_le_sqrt h')

theorem sqrt_nonneg {x : EReal} (hx : 0 ≤ x) : 0 ≤ Ideal.sqrt x := by
  have h := sqrt_mono le_rfl hx
  rwa [← EReal.coe_zero, Consts.sqrt_coe 0 le_rfl, Real.sqrt_zero, EReal.coe_zero] at h

variable (q : Fin 256 → Fin 128 → EReal) (k : Fin 65536 → Fin 128 → EReal)

def normOf (r : Fin 256) : EReal := ∑ d : Fin 128, q r d * q r d

/-- The squared norm of key `j` less twice its product with query `r`. -/
def toKey (r : Fin 256) (j : Fin 65536) : EReal := (∑ d : Fin 128, k j d * k j d) - 2 * ∑ d : Fin 128, q r d * k j d

def root (s x : EReal) : EReal := Ideal.sqrt (max (s + x) 0)

theorem root_mono (s : EReal) {x y : EReal} (h : x ≤ y) : root s x ≤ root s y :=
  sqrt_mono (le_max_right _ _) (max_le_max (add_le_add_right h s) le_rfl)

/-- A patch's distance to its nearest key. -/
def patch (r : Fin 256) : EReal := Finset.univ.inf fun j : Fin 65536 => root (normOf q r) (toKey q k r j)

theorem patch_nonneg (r : Fin 256) : 0 ≤ patch q k r := Finset.le_inf fun _ _ => sqrt_nonneg (le_max_right _ _)

theorem patch_attained (r : Fin 256) : ∃ j, root (normOf q r) (toKey q k r j) = patch q k r := by
  obtain ⟨j, -, e⟩ := Finset.exists_mem_eq_inf (Finset.univ : Finset (Fin 65536)) ⟨0, Finset.mem_univ _⟩ fun j => root (normOf q r) (toKey q k r j)
  exact ⟨j, e.symm⟩

/-- The least under the root is the root of the least. -/
theorem patch_of_least (r : Fin 256) (j : Fin 65536) (h : ∀ i, toKey q k r j ≤ toKey q k r i) :
    root (normOf q r) (toKey q k r j) = patch q k r :=
  le_antisymm (Finset.le_inf fun i _ => root_mono _ (h i)) (Finset.inf_le (Finset.mem_univ j))

/-- The map, from the patches' scores. -/
def mapFrom (p : Fin 256 → EReal) (i j : Fin 256) : EReal :=
  ∑ l : Fin 256, ((Weights.blur j.val l.val : ℝ) : EReal) * (∑ k : Fin 256, ((Weights.blur i.val k.val : ℝ) : EReal)
    * (∑ b : Fin 16, (∑ a : Fin 16, ((Weights.hat k.val a.val : ℝ) : EReal) * p ⟨a.val * 16 + b.val, by omega⟩) * ((Weights.hat l.val b.val : ℝ) : EReal)))

end Cert.Patches

end
-- ==== Proof.MapAll.lean ====
/- The map that the kernel stores, from any arguments. -/
module

public import proofs.«01_k».proof.Proof.MapExact
public import proofs.«01_k».proof.Proof.Patches

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ) (c : Dev nD)

/-- The queries' entries. -/
def entryQ (r : Fin 256) (d : Fin 128) : EReal := queries m c (ix2 r d)

/-- The keys' entries. -/
def entryK (j : Fin 65536) (d : Fin 128) : EReal := keys m c j.val d

/-- A patch's distance to its nearest key. -/
def patchAt (r : Fin 256) : EReal := Patches.patch (entryQ m c) (entryK m c) r

variable {m c}

theorem lane_any {X0 X1 X6 X7} (hI : Inv m c 8 X0 X1 X6 X7) (r : Fin 256) (l : Fin 128) :
    ∃ a : Fin 512, X6 (ix2 r l) = Patches.toKey (entryQ m c) (entryK m c) r ⟨a.val * 128 + l.val, by omega⟩
      ∧ ∀ b : Fin 512, X6 (ix2 r l) ≤ Patches.toKey (entryQ m c) (entryK m c) r ⟨b.val * 128 + l.val, by omega⟩ := by
  have h7 : 7 < cfg0.N := by rw [show cfg0.N = 9 from N_0]; decide
  obtain ⟨a, -, ha, hw, hv, hl, hf⟩ := left_best m c r l 7 h7 (by decide)
  rw [hI.mins ⟨7, h7⟩ (show 7 < 8 by decide) (Or.inr ⟨le_rfl, rfl⟩)]
  exact ⟨⟨a, ha⟩, hv, fun b => hv.trans_le (hl b.val (Nat.zero_le _) b.isLt)⟩

/-- The lanes' least is the least over every key. -/
theorem lanes_any {X0 X1 X6 X7} (hI : Inv m c 8 X0 X1 X6 X7) (r : Fin 256) :
    ∃ j : Fin 65536, Finset.univ.inf (fun l : Fin 128 => (X6 (ix2 r l) : EReal)) = Patches.toKey (entryQ m c) (entryK m c) r j
      ∧ ∀ i, Patches.toKey (entryQ m c) (entryK m c) r j ≤ Patches.toKey (entryQ m c) (entryK m c) r i := by
  obtain ⟨l, -, e⟩ := Finset.exists_mem_eq_inf (Finset.univ : Finset (Fin 128)) ⟨0, Finset.mem_univ _⟩ (fun l : Fin 128 => (X6 (ix2 r l) : EReal))
  obtain ⟨a, hv, -⟩ := lane_any hI r l
  refine ⟨⟨a.val * 128 + l.val, by omega⟩, e.trans hv, fun i => ?_⟩
  rw [← hv]
  refine e.symm.trans_le ((Finset.inf_le (Finset.mem_univ ⟨i.val % 128, Nat.mod_lt _ (by decide)⟩)).trans ?_)
  obtain ⟨-, -, hl⟩ := lane_any hI r ⟨i.val % 128, Nat.mod_lt _ (by decide)⟩
  refine (hl ⟨i.val / 128, by omega⟩).trans (le_of_eq ?_)
  congr 1
  exact Fin.ext (Nat.div_add_mod' _ 128)

theorem score_apply {X0 X1 X6 X7} (hI : Inv m c 8 X0 X1 X6 X7) (r : Fin 256) (l : Fin 128) :
    k0_pay241 (F := Ideal) (queries m c) X6 (ix2 r l) = patchAt m c r := by
  obtain ⟨j, e, hj⟩ := lanes_any hI r
  rw [pay241_apply, e]
  exact Patches.patch_of_least _ _ r j hj

theorem mapOf_apply (t : Fin cfg0.N) (ht : t.val = 8) (X0 X1 X2 X3 X4 X5 X6 X7) (hI : Inv m c 8 X0 X1 X6 X7) (i j : Fin 256) :
    mapOf m c t ht X0 X1 X2 X3 X4 X5 X6 X7 hI (ix2 i j) = Patches.mapFrom (patchAt m c) i j := by
  unfold mapOf
  rw [lastMap_eq, queriesAt_eq, upAt_eq, downAt_eq]
  refine (map_apply _ _ _ i j).trans ?_
  refine (Finset.sum_congr rfl fun b _ => congrArg₂ (α := EReal) (β := EReal) (· * ·) (Finset.sum_congr rfl fun a _ =>
    congrArg₂ (α := EReal) (β := EReal) (· * ·) (V_weights m c i a) (score_apply hI _ _))
    ((V_transposed m c b j).trans (V_weights m c j b))).trans ?_
  refine (Weights.chain_all (fun a b => patchAt m c ⟨16 * a.val + b.val, by omega⟩) (fun a b => Patches.patch_nonneg _ _ _) i j).trans ?_
  unfold Patches.mapFrom
  simp only [Nat.mul_comm 16]

end Cert.KernelIdeal.Hand

end
-- ==== Proof.IdealExact.lean ====
/- The kernel's run with its two results named: where the last point's contents do not depend on the scratch memory
   it starts from, the results end at these contents. -/
module

public import proofs.«01_k».proof.Proof.IdealFrame

@[expose] public section

set_option maxRecDepth 16384

noncomputable section

namespace Cert.KernelIdeal.Exact

open Cert.KernelIdeal Cert.KernelIdeal.Gen
open Cert.KernelIdeal.Hand hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (v4 : Dev nD → Vec F S1x1 .f32) (v5 : Dev nD → Vec F S256x256 .f32)

/-- The last point leaves `v4` and `v5`, whatever the scratch memory that the scan does not write. -/
def Leaves : Prop := ∀ (c : Dev nD) (t : Fin cfg0.N) (ht : t.val = 8) X0 X1 X2 X3 X4 X5 X6 X7 (h : Inv m c 8 X0 X1 X6 X7),
  scoreOf m c t ht X0 X1 X2 X3 X4 X5 X6 X7 h = v4 c ∧ mapOf m c t ht X0 X1 X2 X3 X4 X5 X6 X7 h = v5 c

theorem idle_4 (t : Fin cfg0.N) (ht : t.val < 8) : cfg0.idle 4 (grid0.coords t) = true :=
  (by decide +kernel : ∀ t : Fin cfg0.N, t.val < 8 → cfg0.idle 4 (grid0.coords t) = true) t ht
theorem idle_5 (t : Fin cfg0.N) (ht : t.val < 8) : cfg0.idle 5 (grid0.coords t) = true :=
  (by decide +kernel : ∀ t : Fin cfg0.N, t.val < 8 → cfg0.idle 5 (grid0.coords t) = true) t ht
theorem stays_4 (t : Fin cfg0.N) (ht : t.val < 8) : (cfg0.win 4).flush t = false :=
  (by decide +kernel : ∀ t : Fin cfg0.N, t.val < 8 → (cfg0.win 4).flush t = false) t ht
theorem stays_5 (t : Fin cfg0.N) (ht : t.val < 8) : (cfg0.win 5).flush t = false :=
  (by decide +kernel : ∀ t : Fin cfg0.N, t.val < 8 → (cfg0.win 5).flush t = false) t ht
theorem live_4 (t : Fin cfg0.N) (ht : t.val = 8) : cfg0.idle 4 (grid0.coords t) = false :=
  (by decide +kernel : ∀ t : Fin cfg0.N, t.val = 8 → cfg0.idle 4 (grid0.coords t) = false) t ht
theorem live_5 (t : Fin cfg0.N) (ht : t.val = 8) : cfg0.idle 5 (grid0.coords t) = false :=
  (by decide +kernel : ∀ t : Fin cfg0.N, t.val = 8 → cfg0.idle 5 (grid0.coords t) = false) t ht

theorem left_4 (c : Dev nD) (t : Fin cfg0.N) (ht : t.val = 8) : (dats m v4 v5 0 c).leavesExact 4 t
    = owns (c : Thread nD τ) (st0_4 t) fullShare (v4 c) := by
  unfold Dat.leavesExact; rw [live_4 t ht]; dsimp only [dats]

theorem left_5 (c : Dev nD) (t : Fin cfg0.N) (ht : t.val = 8) : (dats m v4 v5 0 c).leavesExact 5 t
    = owns (c : Thread nD τ) (st0_5 t) fullShare (v5 c) := by
  unfold Dat.leavesExact; rw [live_5 t ht]; dsimp only [dats]

/-- A point's precondition and postcondition, the results' buffers followed. -/
def exactPre (c : Dev nD) (t : Fin cfg0.N) : sProp 𝕄 :=
  iprop((dats m v4 v5 0 c).Φ t.castSucc ∗ (dats m v4 v5 0 c).owesAt () t.castSucc
    ∗ (∃ d, owns (c : Thread nD τ) (st0_0 t) fullShare ((dats m v4 v5 0 c).before 0 t d))
    ∗ (∃ d, owns (c : Thread nD τ) (st0_1 t) fullShare ((dats m v4 v5 0 c).before 1 t d))
    ∗ (∃ d, owns (c : Thread nD τ) (st0_2 t) fullShare ((dats m v4 v5 0 c).before 2 t d))
    ∗ (∃ d, owns (c : Thread nD τ) (st0_3 t) fullShare ((dats m v4 v5 0 c).before 3 t d))
    ∗ (∃ d, owns (c : Thread nD τ) (st0_4 t) fullShare ((dats m v4 v5 0 c).before 4 t d))
    ∗ (∃ d, owns (c : Thread nD τ) (st0_5 t) fullShare ((dats m v4 v5 0 c).before 5 t d)))

def exactPost (c : Dev nD) (t : Fin cfg0.N) : sProp 𝕄 :=
  iprop((dats m v4 v5 0 c).Φ t.succ ∗ (dats m v4 v5 0 c).owesAt () t.succ
    ∗ (dats m v4 v5 0 c).leavesExact 0 t
    ∗ (dats m v4 v5 0 c).leavesExact 1 t
    ∗ (dats m v4 v5 0 c).leavesExact 2 t
    ∗ (dats m v4 v5 0 c).leavesExact 3 t
    ∗ (dats m v4 v5 0 c).leavesExact 4 t
    ∗ (dats m v4 v5 0 c).leavesExact 5 t)

variable {m v4 v5} (hl : Leaves m v4 v5)
include hl

set_option maxHeartbeats 1600000 in
theorem exact_point (c : Dev nD) (t : Fin cfg0.N) :
    exactPre m v4 v5 c t ⊢ wp frame (wpE (defs₀ (F := F)) Variants.none c none) Set.univ (bodyAt0 t)
      (fun _ => exactPost m v4 v5 c t) := by
  unfold exactPre exactPost
  simp only [before_0, before_1, before_2, before_3, leaves_0, leaves_1, leaves_2, leaves_3]
  rw [show (dats m v4 v5 0 c).owesAt () t.succ = (dats m v4 v5 0 c).owesAt () t.castSucc from rfl,
    show (dats m v4 v5 0 c).Φ t.succ = Held m c (t.val + 1) from rfl,
    show (dats m v4 v5 0 c).Φ t.castSucc = Held m c t.val from rfl]
  have hN : t.val < 9 := lt_of_lt_of_eq t.isLt (show cfg0.N = 9 from N_0)
  by_cases ht : t.val < 8
  · rw [Dat.leavesExact_idle (dats m v4 v5 0 c) 4 t (idle_4 t ht) (stays_4 t ht),
      Dat.leavesExact_idle (dats m v4 v5 0 c) 5 t (idle_5 t ht) (stays_5 t ht)]
    iintro ⟨HΦ, Ho, ⟨%d0, H0⟩, ⟨%d1, H1⟩, ⟨%d2, H2⟩, ⟨%d3, H3⟩, H4, H5⟩
    iapply (scan_point m c t ht Set.univ _)
    isplitl [HΦ]; · iexact HΦ
    isplitl [H0]; · iexact H0
    isplitl [H1]; · iexact H1
    iintro ⟨HΦ, H0, H1⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h8 : t.val = 8 := by omega
    rw [left_4 m v4 v5 c t h8, left_5 m v4 v5 c t h8]
    iintro ⟨HΦ, Ho, ⟨%d0, H0⟩, ⟨%d1, H1⟩, ⟨%d2, H2⟩, ⟨%d3, H3⟩, ⟨%d4, H4⟩, ⟨%d5, H5⟩⟩
    iapply (last_point m c t h8 (· = v4 c) (· = v5 c) (hl c t h8) Set.univ _)
    isplitl [HΦ]; · iexact HΦ
    isplitl [H0]; · iexact H0
    isplitl [H2]; · iexact H2
    isplitl [H3]; · iexact H3
    isplitl [H4]; · iexists _; iexact H4
    isplitl [H5]; · iexists _; iexact H5
    iintro ⟨HΦ, H0, H2, H3, ⟨%z4, %e4, H4⟩, ⟨%z5, %e5, H5⟩⟩
    subst e4 e5
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem exact_points (c : Dev nD) :
    BodyObligation (dats (F := F) m v4 v5 0 c) (defs₀ (F := F)) Variants.none () Set.univ := fun t => by
  rw [bigSep_W0, bigSep_W0, body_row]
  exact triple_restated (exact_point hl c t) rfl .rfl fun _ => .rfl

omit hl in
/-- The last point. -/
abbrev lastAt : Fin cfg0.N := ⟨8, by rw [show cfg0.N = 9 from N_0]; decide⟩

omit hl in
/-- The last point writes the whole of each result. -/
theorem array_4 (c : Dev nD) : (dats m v4 v5 0 c).arrAt 4 cfg0.N = (v4 c : Buf (Elt F) ((c.tc : Thread nD τ).loc main_v56_0)) := by
  have hi : ∀ t : Fin cfg0.N, (cfg0.win 4).index t 0 = 0 ∧ (cfg0.win 4).index t 1 = 0 := by decide +kernel
  refine (dats m v4 v5 0 c).arrAt_eq_of_cover 4 (v4 c) (fun t hf => ?_) fun i =>
    ⟨lastAt, by decide +kernel, ?_⟩
  · show (cfg0.win 4).cut (grid0.coords t) (v4 c) = _
    have hz : (fun a => win0_4.index t a * main_v56_0.ty.shape.size a) = fun _ => 0 :=
      funext fun a => by fin_cases a <;> [exact (congrArg (· * _) (hi t).1).trans (Nat.zero_mul _); exact (congrArg (· * _) (hi t).2).trans (Nat.zero_mul _)]
    exact (Memref.read_access_unit_zero (Elt F) main_v56_0 hz (fun a => by rw [congrFun hz a]; simp) (v4 c)).symm
  · show i ∈ ((View.whole main_v56_0).slice (win0_4.rect lastAt)).set
    rw [View.set_slice_whole, Rect.mem_set_unit]
    intro a
    have h0 : (i 0 : Nat) < 1 := (i 0).isLt
    have h1 : (i 1 : Nat) < 1 := (i 1).isLt
    fin_cases a
    · exact ⟨by show 0 * 1 ≤ _; omega, by show (i 0 : ℕ) < 0 * 1 + 1; omega⟩
    · exact ⟨by show 0 * 1 ≤ _; omega, by show (i 1 : ℕ) < 0 * 1 + 1; omega⟩

omit hl in
theorem array_5 (c : Dev nD) : (dats m v4 v5 0 c).arrAt 5 cfg0.N = (v5 c : Buf (Elt F) ((c.tc : Thread nD τ).loc main_v56_1)) := by
  have hi : ∀ t : Fin cfg0.N, (cfg0.win 5).index t 0 = 0 ∧ (cfg0.win 5).index t 1 = 0 := by decide +kernel
  refine (dats m v4 v5 0 c).arrAt_eq_of_cover 5 (v5 c) (fun t hf => ?_) fun i =>
    ⟨lastAt, by decide +kernel, ?_⟩
  · show (cfg0.win 5).cut (grid0.coords t) (v5 c) = _
    have hz : (fun a => win0_5.index t a * main_v56_1.ty.shape.size a) = fun _ => 0 :=
      funext fun a => by fin_cases a <;> [exact (congrArg (· * _) (hi t).1).trans (Nat.zero_mul _); exact (congrArg (· * _) (hi t).2).trans (Nat.zero_mul _)]
    exact (Memref.read_access_unit_zero (Elt F) main_v56_1 hz (fun a => by rw [congrFun hz a]; simp) (v5 c)).symm
  · show i ∈ ((View.whole main_v56_1).slice (win0_5.rect lastAt)).set
    rw [View.set_slice_whole, Rect.mem_set_unit]
    intro a
    have h0 : (i 0 : Nat) < 256 := (i 0).isLt
    have h1 : (i 1 : Nat) < 256 := (i 1).isLt
    fin_cases a
    · exact ⟨by show 0 * 256 ≤ _; omega, by show (i 0 : ℕ) < 0 * 256 + 256; omega⟩
    · exact ⟨by show 0 * 256 ≤ _; omega, by show (i 1 : ℕ) < 0 * 256 + 256; omega⟩

omit hl in
/-- The results after the lines that follow the call: the same contents in the results' shapes. -/
theorem tail_scores (c : Dev nD) : Pipeline.afterTail₀ cfgs (dats m v4 v5) 0 (V0 m) [hostOps1] c main_v57
    = (shapeCast S1 (v4 c) shapeCasts_S1x1_S1 : FVec F S1 .f32) := by
  unfold Pipeline.afterTail₀
  rw [List.flatten_singleton]
  unfold hostOps1
  after_results
  have e := (Pipeline.withArrays_arr spec0 launch0.win.arr_inj c (V0 m c) (fun w => (dats m v4 v5 0 c).arrAt w cfg0.N) 4).trans (array_4 c)
  exact congrArg (fun x : FVec F S1x1 .f32 => (shapeCast S1 x shapeCasts_S1x1_S1 : FVec F S1 .f32)) e

omit hl in
theorem tail_map (c : Dev nD) : Pipeline.afterTail₀ cfgs (dats m v4 v5) 0 (V0 m) [hostOps1] c main_v58
    = (shapeCast S1x256x256 (v5 c) shapeCasts_S256x256_S1x256x256 : FVec F S1x256x256 .f32) := by
  unfold Pipeline.afterTail₀
  rw [List.flatten_singleton]
  unfold hostOps1
  after_results
  have e := (Pipeline.withArrays_arr spec0 launch0.win.arr_inj c (V0 m c) (fun w => (dats m v4 v5 0 c).arrAt w cfg0.N) 5).trans (array_5 c)
  exact congrArg (fun x : FVec F S256x256 .f32 => (shapeCast S1x256x256 x shapeCasts_S256x256_S1x256x256 : FVec F S1x256x256 .f32)) e

set_option backward.isDefEq.respectTransparency.types false in
set_option maxHeartbeats 800000 in
/-- The run's end: every array of the call, and every other buffer, as the proof data and the last lines say. -/
theorem exact_run : θ_run defs (onTc (τ := τ) (main (F := F))) ⟨m, fun _ => 0, ρ⟩
    (fun r => (Pipeline.FramePost cfgs (dats m v4 v5) 0 (Pipeline.afterTail₀ cfgs (dats m v4 v5) 0 (V0 m) [hostOps1])) r
      ∧ r.2.sem = fun _ => 0) :=
  Pipeline.θ_run_frame_around_track (Q' := _) cfgs (dats m v4 v5) (0 : Fin 1) launch0 defs₀ Variants.none m ρ main
    (hbody := fun c => (exact_points hl c).loose) (hshare := fun c => (dats m v4 v5 0 c).share_full fun _ => rfl)
    (howed := fun _ _ => rfl) (V₀ := V0 m) (opss := [hostOps1]) (hsub := sfx_sub) (hfresh := sfx_fresh) (hkeep := sfx_keeps)
    (hmain := hmain m Variants.none) (hA := dats_A m v4 v5) (hin := phi_in m v4 v5) (hout := phi_out m v4 v5)

/-- The run ends with the results at `v4` and `v5`, in the results' shapes, and the arguments unchanged. -/
theorem run : θ_run defs (onTc (τ := τ) (main (F := F))) ⟨m, fun _ => 0, ρ⟩ (fun r => ∀ c : Dev nD,
      r.2.mem ((c.tc : Thread nD τ).loc main_v57) = (shapeCast S1 (v4 c) shapeCasts_S1x1_S1 : FVec F S1 .f32)
      ∧ r.2.mem ((c.tc : Thread nD τ).loc main_v58) = (shapeCast S1x256x256 (v5 c) shapeCasts_S256x256_S1x256x256 : FVec F S1x256x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v57 (Pipeline.mem_restRefs_of main_v57 (by decide) (by decide))).trans (tail_scores c),
    ((h.1 c).2 main_v58 (Pipeline.mem_restRefs_of main_v58 (by decide) (by decide))).trans (tail_map c),
    (((h.1 c).1 0).trans ((dats m v4 v5 0 c).arrAt_in 0 rfl _)).trans (V_main_arg0 m c),
    (((h.1 c).1 1).trans ((dats m v4 v5 0 c).arrAt_in 1 rfl _)).trans (V_main_arg1 m c)⟩) (exact_run ρ hl)

end Cert.KernelIdeal.Exact

end
-- ==== Proof.Leaves.lean ====
/- What the last point leaves in the two results' buffers, whatever the other scratch buffers held. -/
module

public import proofs.«01_k».proof.Proof.ScoreValue
public import proofs.«01_k».proof.Proof.MapAll
public import proofs.«01_k».proof.Proof.IdealExact

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (c : Dev nD)

theorem seven_lt : 7 < cfg0.N := by rw [show cfg0.N = 9 from N_0]; decide

theorem block_lt (n : ℕ) (h : n < 8) : n < cfg0.N := by rw [show cfg0.N = 9 from N_0]; omega

/-- All the keys, as kept. -/
def keptKeys : Vec Ideal S65536x128 .bf16 := fun y =>
  k0_pay2 (keysAt m c ⟨(y 0).val / 8192, block_lt _ (by have h := (y 0).isLt; change _ < 65536 at h; omega)⟩)
    (ix2 ⟨(y 0).val % 8192, Nat.mod_lt _ (by decide)⟩ (y 1))

/-- All the keys' squared norms, as kept. -/
def keptNorms : Vec Ideal S8x8192 .f32 := fun y =>
  k0_pay3 (k0_pay10 (keysAt m c ⟨(y 0).val, block_lt _ (y 0).isLt⟩)) (ix2 0 (y 1))

/-- The lanes' least values. -/
def laneMins : Vec Ideal S256x128 .f32 := (left m c 7 seven_lt).1

/-- The lanes' chunks of their least values. -/
def laneArgs : Vec Ideal S256x128 .i32 := (left m c 7 seven_lt).2

variable {m c}

theorem kept {X0 X1 X6 X7} (hI : Inv m c 8 X0 X1 X6 X7) :
    X0 = keptKeys m c ∧ X1 = keptNorms m c ∧ X6 = laneMins m c ∧ X7 = laneArgs m c := by
  refine ⟨funext fun y => ?_, funext fun y => ?_, hI.mins ⟨7, seven_lt⟩ (show 7 < 8 by decide) (Or.inr ⟨le_rfl, rfl⟩),
    hI.args ⟨7, seven_lt⟩ (show 7 < 8 by decide) (Or.inr ⟨le_rfl, rfl⟩)⟩
  · have h := (y 0).isLt
    change _ < 65536 at h
    exact hI.keys ⟨(y 0).val / 8192, block_lt _ (by omega)⟩ (by show _ / 8192 < 8; omega) (by show _ / 8192 < 8; omega) y
      (ix2 ⟨(y 0).val % 8192, Nat.mod_lt _ (by decide)⟩ (y 1)) (by show _ = _ / 8192 * 8192 + _ % 8192; omega) rfl
  · exact hI.norms ⟨(y 0).val, block_lt _ (y 0).isLt⟩ (y 0).isLt (y 0).isLt y (ix2 0 (y 1)) rfl rfl

variable (m c)

/-- The squared distances from the centre, as the kernel computes them. -/
def aroundAt : Vec Ideal S8x8192 .f32 := aroundOf (queries m c) (laneMins m c) (laneArgs m c) (keptKeys m c) (keptNorms m c)

/-- The score, as the kernel computes it. -/
def scoreAt : EReal :=
  (1 - Ideal.div (weightOf (chosen (aroundAt m c) 1) (chosen (aroundAt m c) 9))
      (∑ t : Fin 9, weightOf (chosen (aroundAt m c) (t.val + 1)) (chosen (aroundAt m c) 9)))
    * Ideal.sqrt (max (k0_pay242 (F := Ideal) (queries m c) (laneMins m c)) 0)

variable {m c}

theorem scoreOf_eq (t : Fin cfg0.N) (ht : t.val = 8) (X0 X1 X2 X3 X4 X5 X6 X7) (hI : Inv m c 8 X0 X1 X6 X7) :
    scoreOf m c t ht X0 X1 X2 X3 X4 X5 X6 X7 hI = fun _ => scoreAt m c := by
  unfold scoreOf
  rw [lastScore_eq, queriesAt_eq]
  obtain ⟨e0, e1, e6, e7⟩ := kept hI
  rw [e0, e1, e6, e7]
  funext y
  have hy : y = ix2 0 0 := by
    rw [ValueIdx.eq_ix2 y]
    congr 1
    · exact Subsingleton.elim (α := Fin 1) _ _
    · exact Subsingleton.elim (α := Fin 1) _ _
  rw [hy]
  exact scoreFrom_apply _ _ _ _

variable (m) in
/-- The map of the patches' scores, as the kernel's program leaves it. -/
def mapAt (c : Dev nD) : S256x256.Idx → EReal := fun y => Patches.mapFrom (patchAt m c) (y 0) (y 1)

variable (m) in
/-- Both results. -/
theorem leaves : Exact.Leaves m (fun c _ => scoreAt m c) (mapAt m) := fun c t ht X0 X1 X2 X3 X4 X5 X6 X7 hI =>
  ⟨scoreOf_eq t ht X0 X1 X2 X3 X4 X5 X6 X7 hI, funext fun y => by
    rw [ValueIdx.eq_ix2 y]
    exact mapOf_apply t ht X0 X1 X2 X3 X4 X5 X6 X7 hI (y 0) (y 1)⟩

end Cert.KernelIdeal.Hand

end
-- ==== Proof.RefMap.lean ====
/- The reference's map, read entry by entry from its patch scores. -/
module

public import proofs.«01_k».proof.Proof.Gen.ReferenceIdeal.Run
public import proofs.«01_k».proof.Proof.Patches
public import Idealize.ShloMosaic.Lib.Pointwise

@[expose] public section

noncomputable section

open Idealize.ShloMosaic Idealize.ShloMosaic.TcCoe Idealize.ShloMosaic.StableHlo

namespace Cert.ReferenceIdeal.Hand

open Cert.ReferenceIdeal Cert.ReferenceIdeal.Gen Cert.ReferenceIdeal.Value

variable (V : Valuation τ sig (Elt Ideal))

set_option maxRecDepth 8192 in
theorem hat_apply (i : Fin 256) (a : Fin 16) : res_main_v79 V (ix2 i a) = ((Weights.hat i.val a.val : ℝ) : EReal) := by
  pointwise [res_main_v79, res_main_v75]
  simp only [fun a : Fin 16 => Weights.tent_read i.val a.val i.isLt a.isLt, Weights.hat_read]

theorem offset_apply (i k : Fin 256) : res_main_v99 V (ix2 i k) = (((k.val : ℝ) - (i.val : ℝ) : ℝ) : EReal) := by
  pointwise [res_main_v99, res_main_v94]
  exact Weights.offset_read k.val i.val k.isLt i.isLt

theorem offset_apply' (i k : Fin 256) : res_main_v129 V (ix2 i k) = (((k.val : ℝ) - (i.val : ℝ) : ℝ) : EReal) :=
  offset_apply V i k

set_option maxRecDepth 8192 in
set_option maxHeartbeats 2000000 in
/-- The map's entry: the patch scores, upsampled along each axis and then blurred along each axis. -/
theorem map_read (p : Fin 256 → EReal) (hp : ∀ r, res_main_v17 V (ix1 r) = p r) (i j : Fin 256) :
    (val4 V (Proc.devRef .tc main_v155)) (ix3 (0 : Fin 1) i j) = Patches.mapFrom p i j := by
  unfold Patches.mapFrom
  rw [val4_main_v155]
  pointwise [res_main_v104, res_main_v134, res_main_v88, res_main_v118]
  simp only [hat_apply, offset_apply, offset_apply', hp, fun t : Fin 33 => Weights.tap_read t.val t.isLt, Weights.bell_read,
    show (id (constant (F := Ideal) S_ FTy.f32 0#32) ix0 : EReal) = 0 from Ideal.ofBits_zero_f32,
    fun i k : ℕ => Weights.blur_read' i k 0 rfl]

end Cert.ReferenceIdeal.Hand

end
-- ==== Proof.Words.lean ====
/- Integer words that hold positions: their minima. -/
module

public import Idealize.ShloMosaic.PureOps.Reduce
public import Idealize.ShloMosaic.PureOps.Ideal
public import Mathlib.Data.Finset.Fold

@[expose] public section

namespace Cert.Words

open Idealize.ShloMosaic

theorem toInt_ofNat (n : ℕ) (h : n < 2 ^ 31) : (BitVec.ofNat 32 n).toInt = n := by
  rw [BitVec.toInt_eq_toNat_of_lt (by rw [BitVec.toNat_ofNat]; omega), BitVec.toNat_ofNat]
  omega

theorem toInt_minsi (x y : BitVec 32) : (IntOp.minsi x y).toInt = min x.toInt y.toInt := by
  unfold IntOp.minsi
  by_cases h : x.slt y = true
  · rw [if_pos h, min_eq_left (BitVec.slt_iff_toInt_lt.mp h).le]
  · rw [if_neg h, min_eq_right (not_lt.mp fun hc => h (BitVec.slt_iff_toInt_lt.mpr hc))]

/-- A signed minimum folded over a set is the word that one member attains and none undercuts. -/
theorem fold_minsi_eq {ι : Type} (S : Finset ι) (f : ι → BitVec 32) (b v : BitVec 32) (hb : v.toInt ≤ b.toInt)
    (hv : ∃ i ∈ S, f i = v) (hle : ∀ i ∈ S, v.toInt ≤ (f i).toInt) : S.fold IntOp.minsi b f = v := by
  apply BitVec.eq_of_toInt_eq
  rw [← Finset.fold_hom (op' := min) (m := BitVec.toInt) toInt_minsi]
  obtain ⟨i, hi, rfl⟩ := hv
  exact le_antisymm ((Finset.fold_min_le _).mpr (Or.inr ⟨i, hi, le_rfl⟩)) ((Finset.le_fold_min _).mpr ⟨hb, hle⟩)

end Cert.Words
-- ==== Proof.RefScore.lean ====
/- The reference's distances, patch scores and positions, from real arguments. -/
module

public import proofs.«01_k».proof.Proof.RefMap
public import proofs.«01_k».proof.Proof.Distances
public import proofs.«01_k».proof.Proof.Words

@[expose] public section

noncomputable section

open Idealize.ShloMosaic Idealize.ShloMosaic.TcCoe Idealize.ShloMosaic.StableHlo

namespace Cert.ReferenceIdeal.Hand

open Cert.ReferenceIdeal Cert.ReferenceIdeal.Gen Cert.ReferenceIdeal.Value

variable (V : Valuation τ sig (Elt Ideal)) (Q : Fin 256 → Fin 128 → ℝ) (K : Fin 65536 → Fin 128 → ℝ)

/-- The arguments are these real numbers. -/
structure Real : Prop where
  q : ∀ r d, (V (Proc.devRef .tc main_arg0)) (ix2 r d) = ((Q r d : ℝ) : EReal)
  k : ∀ j d, (V (Proc.devRef .tc main_arg1)) (ix2 j d) = ((K j d : ℝ) : EReal)

/-- The queries' entries. -/
def entryQ (r : Fin 256) (d : Fin 128) : EReal := (V (Proc.devRef .tc main_arg0)) (ix2 r d)

/-- The keys' entries. -/
def entryK (j : Fin 65536) (d : Fin 128) : EReal := (V (Proc.devRef .tc main_arg1)) (ix2 j d)

variable {V Q K} (h : Real V Q K)
include h

set_option maxRecDepth 8192 in
theorem dist_apply (r : Fin 256) (j : Fin 65536) :
    res_main_v16 V (ix2 r j) = ((√(Distances.sqOf (Q r) + Distances.gapTo K (Q r) j) : ℝ) : EReal) := by
  pointwise [res_main_v16]
  simp only [h.q, h.k, Consts.two_coe, ← EReal.coe_mul, Consts.sum_coe, ← EReal.coe_add, ← EReal.coe_sub]
  rw [← EReal.coe_zero, Consts.max_coe, Consts.sqrt_coe _ (le_max_right _ _)]
  have e : (∑ x, Q r x * Q r x + ∑ x, K j x * K j x - 2 * ∑ x, Q r x * K j x)
      = Distances.sqOf (Q r) + Distances.gapTo K (Q r) j := add_sub_assoc _ _ _
  rw [e, max_eq_left (Distances.sq_gap K (Q r) j)]

omit h in
theorem drop_row (r : Fin 256) (j : Fin 65536) : reducesTo_S256x65536_S256_d1.drop (ix2 r j) = ix1 r := by
  funext b
  fin_cases b
  rfl

omit h in
theorem mem_row (r : Fin 256) (y : S256x65536.Idx) (hy : y ∈ ({i | reducesTo_S256x65536_S256_d1.drop i = ix1 r} : Finset _)) :
    ∃ j : Fin 65536, y = ix2 r j := by
  have e := (Finset.mem_filter.mp hy).2
  have e0 : y = ix2 (n0 := 256) (n1 := 65536) (y 0) (y 1) := ValueIdx.eq_ix2 y
  rw [e0] at e
  have hr : y 0 = r := congrFun ((drop_row (y 0) (y 1)).symm.trans e) 0
  exact ⟨y 1, e0.trans (congrArg (fun r : Fin 256 => ix2 r (y 1)) hr)⟩

omit h in
theorem row_mem (r : Fin 256) (j : Fin 65536) :
    (ix2 r j : S256x65536.Idx) ∈ ({i | reducesTo_S256x65536_S256_d1.drop i = ix1 r} : Finset _) :=
  Finset.mem_filter.mpr ⟨Finset.mem_univ _, drop_row r j⟩

theorem dist_ge (r : Fin 256) (j : Fin 65536) :
    Distances.patch Q K r ≤ √(Distances.sqOf (Q r) + Distances.gapTo K (Q r) j) :=
  Real.sqrt_le_sqrt (add_le_add_right ((Distances.closest_first Q K r).1 j) _)

set_option maxRecDepth 8192 in
theorem patch_apply (r : Fin 256)  :
    res_main_v17 V (ix1 r) = ((Distances.patch Q K r : ℝ) : EReal) := by
  pointwise [res_main_v17]
  rw [Consts.infinity]
  refine Distances.fold_min_eq (α := EReal) _ _ _ _ le_top ⟨_, row_mem r (Distances.closest Q K r), dist_apply h r _⟩ fun y hy => ?_
  obtain ⟨j, rfl⟩ := mem_row r y hy
  rw [dist_apply h]
  exact EReal.coe_le_coe_iff.mpr (dist_ge h r j)

omit h in
theorem dist_any (V : Valuation τ sig (Elt Ideal)) (r : Fin 256) (j : Fin 65536) :
    res_main_v16 V (ix2 r j) = Patches.root (Patches.normOf (entryQ V) r) (Patches.toKey (entryQ V) (entryK V) r j) := by
  pointwise [res_main_v16]
  simp only [Consts.two_coe]
  unfold Patches.root Patches.normOf Patches.toKey entryQ entryK
  rw [sub_eq_add_neg, sub_eq_add_neg, add_assoc]
  rfl

omit h in
set_option maxRecDepth 8192 in
/-- The patches' scores, from any arguments. -/
theorem patch_any (V : Valuation τ sig (Elt Ideal)) (r : Fin 256) : res_main_v17 V (ix1 r) = Patches.patch (entryQ V) (entryK V) r := by
  obtain ⟨j, hj⟩ := Patches.patch_attained (entryQ V) (entryK V) r
  pointwise [res_main_v17]
  rw [Consts.infinity]
  refine Distances.fold_min_eq (α := EReal) _ _ _ _ le_top ⟨_, row_mem r j, (dist_any V r j).trans hj⟩ fun y hy => ?_
  obtain ⟨i, rfl⟩ := mem_row r y hy
  rw [dist_any]
  exact Finset.inf_le (Finset.mem_univ i)

theorem top_fold : Finset.fold max (Ideal.ofBits .f32 0xFF800000#32 : EReal) (res_main_v17 V : S256.Idx → EReal)
    {i | reducesTo_S256_S_d0.drop i = ix0} = ((Distances.top Q K : ℝ) : EReal) := by
  refine Distances.fold_max_eq (α := EReal) _ _ _ _ (Consts.minus_infinity.trans_le bot_le)
    ⟨ix1 (Distances.farthest Q K), Finset.mem_filter.mpr ⟨Finset.mem_univ _, Subsingleton.elim _ _⟩, patch_apply h _⟩ fun y _ => ?_
  rw [ValueIdx.eq_ix1 y]
  exact le_of_eq_of_le (α := EReal) (patch_apply h (y 0)) (EReal.coe_le_coe_iff.mpr (Distances.patch_le Q K _))

omit h in
/-- A minimum of words over the patches. -/
theorem least_patch (x : IVec S256 32) (r : Fin 256) (hv : x (ix1 r) = BitVec.ofNat 32 r.val)
    (hle : ∀ i, (r.val : ℤ) ≤ (x (ix1 i)).toInt) :
    Host.reduce IntOp.minsi x (constantI S_ 32 2147483647#32) reducesTo_S256_S_d0 h_S_ ix0 = BitVec.ofNat 32 r.val := by
  have hr := Words.toInt_ofNat r.val (by omega)
  rw [Host.reduce_eq_fold]
  refine Words.fold_minsi_eq _ _ _ _ (by rw [hr, constantI_apply]; exact (by omega : (r.val : ℤ) ≤ 2147483647))
    ⟨ix1 r, Finset.mem_filter.mpr ⟨Finset.mem_univ _, Subsingleton.elim _ _⟩, hv⟩ fun y _ => ?_
  rw [ValueIdx.eq_ix1 y, hr]
  exact hle (y 0)

omit h in
/-- A minimum of words over the keys, in one patch's row. -/
theorem least_key (x : IVec S256x65536 32) (r : Fin 256) (j : Fin 65536) (hv : x (ix2 r j) = BitVec.ofNat 32 j.val)
    (hle : ∀ i, (j.val : ℤ) ≤ (x (ix2 r i)).toInt) :
    Host.reduce IntOp.minsi x (constantI S_ 32 2147483647#32) reducesTo_S256x65536_S256_d1 h_S_ (ix1 r) = BitVec.ofNat 32 j.val := by
  have hr := Words.toInt_ofNat j.val (by omega)
  rw [Host.reduce_eq_fold]
  refine Words.fold_minsi_eq _ _ _ _ (by rw [hr, constantI_apply]; exact (by omega : (j.val : ℤ) ≤ 2147483647))
    ⟨ix2 r j, row_mem r j, hv⟩ fun y hy => ?_
  obtain ⟨i, rfl⟩ := mem_row r y hy
  rw [hr]
  exact hle i

end Cert.ReferenceIdeal.Hand

end
-- ==== Proof.RefChoice.lean ====
/- The reference's choice of the key that the score looks around, and the distances from it. -/
module

public import proofs.«01_k».proof.Proof.RefScore
public import Idealize.ShloMosaic.Lib.DynamicIndex
public import Idealize.ShloMosaic.Lib.SortFacts

@[expose] public section

noncomputable section

open Idealize.ShloMosaic Idealize.ShloMosaic.TcCoe Idealize.ShloMosaic.StableHlo

namespace Cert.ReferenceIdeal.Hand

open Cert.ReferenceIdeal Cert.ReferenceIdeal.Gen Cert.ReferenceIdeal.Value

variable {V : Valuation τ sig (Elt Ideal)} {Q : Fin 256 → Fin 128 → ℝ} {K : Fin 65536 → Fin 128 → ℝ} (h : Real V Q K)
include h

omit h in
/-- The patches' positions where a score is the largest, the last position elsewhere. -/
def markPatch (p : FVec Ideal S256 .f32) : IVec S256 32 :=
  select (cmpf .oeq p (broadcastInDim S256 ![] bcast_S_S256 (Host.reduce FloatOps.maximumf p (constant S_ .f32 0xFF800000#32) reducesTo_S256_S_d0 h_S_)))
    (iotaInDim S256 32 0) (broadcastInDim S256 ![] bcast_S_S256 (id (constantI S_ 32 255#32)))

omit h in
/-- The keys' positions where a distance is its row's least, the last position elsewhere. -/
def markKey (d : FVec Ideal S256x65536 .f32) (p : FVec Ideal S256 .f32) : IVec S256x65536 32 :=
  select (cmpf .oeq d (broadcastInDim S256x65536 ![0, 1] bcast_S256x1_S256x65536_0_1 (broadcastInDim S256x1 ![0] bcast_S256_S256x1_0 p)))
    (broadcastInDim S256x65536 ![0, 1] bcast_S1x65536_S256x65536_0_1 (broadcastInDim S1x65536 ![1] bcast_S65536_S1x65536_1 (iotaInDim S65536 32 0)))
    (broadcastInDim S256x65536 ![] bcast_S_S256x65536 (id (constantI S_ 32 65535#32)))

omit h in
theorem markPatch_read (p : FVec Ideal S256 .f32) (r : Fin 256) : markPatch p (ix1 r)
    = if (p (ix1 r) : EReal) = Finset.fold max (Ideal.ofBits .f32 0xFF800000#32 : EReal) (fun k => (p (ix1 k) : EReal)) Finset.univ
      then BitVec.ofNat 32 r.val else 255#32 := by
  pointwise [markPatch]
  rfl

omit h in
theorem markKey_read (d : FVec Ideal S256x65536 .f32) (p : FVec Ideal S256 .f32) (r : Fin 256) (j : Fin 65536) : markKey d p (ix2 r j)
    = if (d (ix2 r j) : EReal) = p (ix1 r) then BitVec.ofNat 32 j.val else 65535#32 := by
  pointwise [markKey]
  rfl

theorem top_fold' : Finset.fold max (Ideal.ofBits .f32 0xFF800000#32 : EReal) (fun k => (res_main_v17 V (ix1 k) : EReal)) Finset.univ
    = ((Distances.top Q K : ℝ) : EReal) :=
  Distances.fold_max_eq (α := EReal) _ _ _ _ (Consts.minus_infinity.trans_le bot_le)
    ⟨Distances.farthest Q K, Finset.mem_univ _, patch_apply h _⟩ fun y _ =>
    le_of_eq_of_le (α := EReal) (patch_apply h y) (EReal.coe_le_coe_iff.mpr (Distances.patch_le Q K _))

theorem markPatch_apply (r : Fin 256) : markPatch (res_main_v17 V) (ix1 r)
    = if Distances.patch Q K r = Distances.top Q K then BitVec.ofNat 32 r.val else 255#32 := by
  rw [markPatch_read, top_fold' h, patch_apply h]
  by_cases e : Distances.patch Q K r = Distances.top Q K
  · rw [if_pos e, if_pos (congrArg _ e)]
  · rw [if_neg e, if_neg (fun e' => e (EReal.coe_eq_coe_iff.mp e'))]

theorem markKey_apply (r : Fin 256) (j : Fin 65536) : markKey (res_main_v16 V) (res_main_v17 V) (ix2 r j)
    = if Distances.gapTo K (Q r) j = Distances.gapTo K (Q r) (Distances.closest Q K r) then BitVec.ofNat 32 j.val else 65535#32 := by
  rw [markKey_read, dist_apply h, patch_apply h]
  have hiff : ((√(Distances.sqOf (Q r) + Distances.gapTo K (Q r) j) : ℝ) : EReal) = ((Distances.patch Q K r : ℝ) : EReal)
      ↔ Distances.gapTo K (Q r) j = Distances.gapTo K (Q r) (Distances.closest Q K r) := by
    rw [EReal.coe_eq_coe_iff]
    exact (Real.sqrt_inj (Distances.sq_gap K (Q r) j) (Distances.near2_nonneg Q K r)).trans (add_right_inj _)
  by_cases e : Distances.gapTo K (Q r) j = Distances.gapTo K (Q r) (Distances.closest Q K r)
  · rw [if_pos e, if_pos (hiff.mpr e)]
  · rw [if_neg e, if_neg (fun e' => e (hiff.mp e'))]

theorem farthest_apply : res_main_v30 V ix0 = BitVec.ofNat 32 (Distances.farthest Q K).val := by
  refine least_patch (markPatch (res_main_v17 V)) _ ((markPatch_apply h _).trans (if_pos rfl)) fun i => ?_
  rw [markPatch_apply h i]
  split
  · rename_i hi
    rw [Words.toInt_ofNat _ (by omega)]
    have := (Distances.farthest_first Q K).le (i := i) (congrArg Neg.neg ((Distances.patch_eq_iff Q K i).mp hi))
    exact_mod_cast this
  · exact (by omega : ((Distances.farthest Q K).val : ℤ) ≤ 255)

theorem closest_apply (r : Fin 256) : Host.reduce IntOp.minsi (markKey (res_main_v16 V) (res_main_v17 V))
    (constantI S_ 32 2147483647#32) reducesTo_S256x65536_S256_d1 h_S_ (ix1 r) = BitVec.ofNat 32 (Distances.closest Q K r).val := by
  refine least_key (markKey (res_main_v16 V) (res_main_v17 V)) r _ ((markKey_apply h _ _).trans (if_pos rfl)) fun i => ?_
  rw [markKey_apply h r i]
  split
  · rename_i hi
    rw [Words.toInt_ofNat _ (by omega)]
    have := (Distances.closest_first Q K r).le (i := i) hi
    exact_mod_cast this
  · exact (by omega : ((Distances.closest Q K r).val : ℤ) ≤ 65535)

omit h in
/-- The word a start index is read from: the word itself when it is not negative. -/
theorem start_word (n k : ℕ) (hn : n < 2 ^ 31) (z : BitVec 32) (hz : z = BitVec.ofNat 32 n) :
    (Scalar.select (IntOp.cmpi .slt z 0#32) (IntOp.addi z (BitVec.ofNat 32 k)) z).toInt = n := by
  subst hz
  have hs : IntOp.cmpi .slt (BitVec.ofNat 32 n) 0#32 = 0#1 := by
    unfold IntOp.cmpi
    have : (BitVec.ofNat 32 n).slt 0#32 = false := by
      rw [BitVec.slt_eq_decide, decide_eq_false_iff_not, Words.toInt_ofNat n hn]
      exact not_lt.mpr (Int.natCast_nonneg n)
    simp [this]
  rw [hs]
  exact Words.toInt_ofNat n hn

omit h in
/-- The word of one patch, taken at a word. -/
theorem at_patch (w : IVec S256 32) (z : IVec S_ 32) (n : Fin 256) (hz : z ix0 = BitVec.ofNat 32 n.val) :
    shapeCast S_ (Host.dynamicSlice S1 w (fun k => (((![select (cmpi .slt z (constantI S_ 32 0#32)) (addi z (constantI S_ 32 256#32)) z] :
      Fin 1 → IVec S_ 32)) k (Shape.Idx.first h_S_)).toInt) sliceFits_S256_S1) shapeCasts_S1_S_ ix0 = w (ix1 n) := by
  refine (shapeCast_apply _ _ (ix0 : S_.Idx) (ix1 (0 : Fin 1) : S1.Idx) rfl).trans ?_
  rw [Host.dynamicSlice_eq_extractStridedSlice S1 w _ (fun _ => n.val) sliceFits_S256_S1
    ⟨rfl, fun a => by fin_cases a; show n.val + 1 ≤ 256; omega⟩ fun a => by
      fin_cases a
      exact start_word n.val 256 (by omega) _ ((congrArg z (funext fun a => a.elim0)).trans hz)]
  exact congrArg w (by funext a; fin_cases a; rfl)

omit h in
/-- The row of one key, taken at a word. -/
theorem at_key (x : FVec Ideal S65536x128 .f32) (z : IVec S_ 32) (n : Fin 65536) (hz : z ix0 = BitVec.ofNat 32 n.val) (d : Fin 128) :
    Host.dynamicSlice S1x128 x (fun k => (((![select (cmpi .slt z (constantI S_ 32 0#32)) (addi z (constantI S_ 32 65536#32)) z,
      constantI S_ 32 0#32] : Fin 2 → IVec S_ 32)) k (Shape.Idx.first h_S_)).toInt) sliceFits_S65536x128_S1x128 (ix2 (0 : Fin 1) d) = x (ix2 n d) := by
  rw [Host.dynamicSlice_eq_extractStridedSlice S1x128 x _ (![n.val, 0]) sliceFits_S65536x128_S1x128
    ⟨rfl, fun a => by
      fin_cases a
      · show n.val + 1 ≤ 65536; omega
      · show 0 + 128 ≤ 128; omega⟩ fun a => by
      fin_cases a
      · exact start_word n.val 65536 (by omega) _ ((congrArg z (funext fun a => a.elim0)).trans hz)
      · rfl]
  refine congrArg x ?_
  funext a
  fin_cases a
  · rfl
  · exact Fin.ext (Nat.zero_add _)

theorem centre_apply : res_main_v35 V ix0 = BitVec.ofNat 32 (Distances.centre Q K).val :=
  (at_patch (Host.reduce IntOp.minsi (markKey (res_main_v16 V) (res_main_v17 V))
    (constantI S_ 32 2147483647#32) reducesTo_S256x65536_S256_d1 h_S_) (res_main_v30 V) (Distances.farthest Q K) (farthest_apply h)).trans
    (closest_apply h _)

theorem row_apply (d : Fin 128) : res_main_v39 V (ix2 (0 : Fin 1) d) = ((K (Distances.centre Q K) d : ℝ) : EReal) :=
  (at_key (V (Proc.devRef .tc main_arg1)) (res_main_v35 V) (Distances.centre Q K) (centre_apply h) d).trans (h.k _ d)

set_option maxRecDepth 8192 in
omit h in
theorem around_read (r : Fin 128 → ℝ) (hr : ∀ d, res_main_v39 V (ix2 (0 : Fin 1) d) = ((r d : ℝ) : EReal))
    (hk : ∀ j d, (V (Proc.devRef .tc main_arg1)) (ix2 j d) = ((K j d : ℝ) : EReal)) (j : Fin 65536) :
    res_main_v56 V (ix2 (0 : Fin 1) j) = ((-√(Distances.sqOf r + Distances.gapTo K r j) : ℝ) : EReal) := by
  pointwise [res_main_v56]
  simp only [hr, hk, Consts.two_coe, ← EReal.coe_mul, Consts.sum_coe, ← EReal.coe_add, ← EReal.coe_sub]
  rw [← EReal.coe_zero, Consts.max_coe, Consts.sqrt_coe _ (le_max_right _ _)]
  have e : (∑ x, r x * r x + ∑ x, K j x * K j x - 2 * ∑ x, r x * K j x)
      = Distances.sqOf r + Distances.gapTo K r j := add_sub_assoc _ _ _
  rw [e, max_eq_left (Distances.sq_gap K r j)]
  rfl

theorem around_apply (j : Fin 65536) : res_main_v56 V (ix2 (0 : Fin 1) j) = ((-√(Distances.around Q K j) : ℝ) : EReal) :=
  around_read _ (row_apply h) h.k j

omit h in
/-- The order in which the largest come first. -/
def order (x : FVec Ideal S1x65536 .f32) : Fin 65536 → Fin 65536 :=
  sortedFrom fun k k' => FloatOps.cmpfTotal (F := Ideal) (φ := .f32) .gt (x (ix2 (0 : Fin 1) k)) (x (ix2 (0 : Fin 1) k')) == 1#1

omit h in
theorem top_read (x : FVec Ideal S1x65536 .f32) (t : Fin 10) :
    (Host.topK S1x10 1 (FloatOps.cmpfTotal (F := Ideal) (φ := .f32) .gt) x sliceFits_S1x65536_S1x10).1 (ix2 (0 : Fin 1) t)
      = x (ix2 (0 : Fin 1) (order x ⟨t.val, by omega⟩)) := by
  have hu : ∀ (l k : Fin 65536), Shape.Idx.along (s := S1x65536) (ix2 (0 : Fin 1) l) 1 k = ix2 (0 : Fin 1) k := by
    intro l k
    funext a
    fin_cases a
    · rfl
    · exact Function.update_self _ _ _
  have he : ∀ (f : FVec Ideal S1x65536 .f32) (hs), extractStridedSlice S1x10 (fun _ => 0) f hs (ix2 (0 : Fin 1) t) = f (ix2 (0 : Fin 1) ⟨t.val, by omega⟩) := by
    intro f hs
    refine congrArg f ?_
    funext a
    fin_cases a
    · rfl
    · exact Fin.ext (Nat.zero_add _)
  unfold Host.topK
  refine (he (Host.sort2 S1x65536 1 (fun l r => FloatOps.cmpfTotal (F := Ideal) (φ := .f32) .gt l.1 r.1) x
    (fun i => if hd : 1 < S1x65536.rank then iotaInDim S1x65536 32 ⟨1, hd⟩ i else 0#32)).1 sliceFits_S1x65536_S1x10).trans ?_
  unfold Host.sort2
  rw [dif_pos (show 1 < S1x65536.rank by decide)]
  have hx : ∀ k, x (Shape.Idx.along (s := S1x65536) (ix2 (0 : Fin 1) (⟨t.val, by omega⟩ : Fin 65536)) 1 k) = x (ix2 (0 : Fin 1) k) := fun k => congrArg x (hu _ k)
  refine (hx _).trans (congrArg (fun f : Fin 65536 → Fin 65536 → Bool => x (ix2 (0 : Fin 1) (sortedFrom f ⟨t.val, by omega⟩))) ?_)
  funext k k'
  exact congrArg₂ (fun a b : EReal => FloatOps.cmpfTotal (F := Ideal) (φ := .f32) .gt a b == 1#1) (hx k) (hx k')

omit h in
theorem greater (a b : ℝ) : (FloatOps.cmpfTotal (F := Ideal) (φ := .f32) .gt ((a : ℝ) : EReal) ((b : ℝ) : EReal) == 1#1) = decide (b < a) := by
  have e : FloatOps.cmpfTotal (F := Ideal) (φ := .f32) .gt ((a : ℝ) : EReal) ((b : ℝ) : EReal) = BitVec.ofBool (decide (((b : ℝ) : EReal) < ((a : ℝ) : EReal))) := rfl
  rw [e]
  simp only [EReal.coe_lt_coe_iff]
  by_cases hc : b < a <;> simp [hc]

/-- The keys in order of their distance from the centre. -/
theorem order_sorted : Function.Bijective (order (res_main_v56 V))
    ∧ ∀ i j : Fin 65536, i < j → Distances.around Q K (order (res_main_v56 V) i) ≤ Distances.around Q K (order (res_main_v56 V) j) := by
  refine ⟨⟨sortedFrom_injective _, sortedFrom_surjective _⟩, fun i j hij => ?_⟩
  have hB : ∀ k k', (FloatOps.cmpfTotal (F := Ideal) (φ := .f32) .gt (res_main_v56 V (ix2 (0 : Fin 1) k)) (res_main_v56 V (ix2 (0 : Fin 1) k')) == 1#1)
      = decide (-√(Distances.around Q K k') < -√(Distances.around Q K k)) := by
    intro k k'
    rw [around_apply h, around_apply h, greater]
  let R : Fin 65536 → Fin 65536 → Bool := fun k k' => decide (-√(Distances.around Q K k') < -√(Distances.around Q K k))
  have hR : order (res_main_v56 V) = sortedFrom R := congrArg sortedFrom (funext fun k => funext fun k' => hB k k')
  have hn : R (sortedFrom R j) (sortedFrom R i) = false := by
    refine sortedFrom_noInversion R R (fun a b e => ?_) (fun a b e => e) (fun a b c e1 e2 => ?_) i j hij
    · exact decide_eq_false (not_lt.mpr (of_decide_eq_true e).le)
    · exact decide_eq_false (not_lt.mpr ((not_lt.mp (of_decide_eq_false e1)).trans (not_lt.mp (of_decide_eq_false e2))))
  rw [hR]
  have := not_lt.mp (of_decide_eq_false hn)
  exact (Real.sqrt_le_sqrt_iff (Distances.around_nonneg Q K _)).mp (neg_le_neg_iff.mp this)

end Cert.ReferenceIdeal.Hand

end
-- ==== Proof.RefWeight.lean ====
/- The reference's weight and score, from the distances in order. -/
module

public import proofs.«01_k».proof.Proof.RefChoice

@[expose] public section

noncomputable section

open Idealize.ShloMosaic Idealize.ShloMosaic.TcCoe Idealize.ShloMosaic.StableHlo

namespace Cert.ReferenceIdeal.Hand

open Cert.ReferenceIdeal Cert.ReferenceIdeal.Gen Cert.ReferenceIdeal.Value

variable {V : Valuation τ sig (Elt Ideal)} {Q : Fin 256 → Fin 128 → ℝ} {K : Fin 65536 → Fin 128 → ℝ}

theorem neg_read (f : FVec Ideal S1x10 .f32) (t : Fin 10) (v : ℝ) (hv : (f (ix2 (0 : Fin 1) t) : EReal) = ((-v : ℝ) : EReal)) :
    (Host.negf (F := Ideal) (φ := .f32) f) (ix2 (0 : Fin 1) t) = ((v : ℝ) : EReal) := by
  have : (Host.negf (F := Ideal) (φ := .f32) f) (ix2 (0 : Fin 1) t) = (-(f (ix2 (0 : Fin 1) t)) : EReal) := rfl
  rw [this, hv, ← EReal.coe_neg, neg_neg]

theorem exp_read (f : FVec Ideal S1x10 .f32) (t : Fin 9) (v : ℝ) (hv : (f (ix2 (0 : Fin 1) (⟨t.val + 1, by omega⟩ : Fin 10)) : EReal) = ((v : ℝ) : EReal)) :
    (Host.exp (F := Ideal) (φ := .f32) (extractStridedSlice S1x9 ![0, 1] f slices_S1x10_S1x9_0_1)) (ix2 (0 : Fin 1) t) = ((Real.exp v : ℝ) : EReal) := by
  have he : (Host.exp (F := Ideal) (φ := .f32) (extractStridedSlice S1x9 ![0, 1] f slices_S1x10_S1x9_0_1)) (ix2 (0 : Fin 1) t)
      = Ideal.exp (f (ix2 (0 : Fin 1) (⟨t.val + 1, by omega⟩ : Fin 10))) := by
    refine congrArg (fun z => Ideal.exp (f z)) ?_
    funext a
    fin_cases a
    · rfl
    · exact Fin.ext (Nat.add_comm _ _)
  rw [he, hv]
  rfl

theorem weigh (e : FVec Ideal S1x9 .f32) (p : FVec Ideal S256 .f32) :
    (mulf (F := Ideal) (φ := .f32) (subf (broadcastInDim S1 ![] bcast_S_S1 (constant S_ .f32 0x3F800000#32)) (Host.divf (shapeCast S1 (extractStridedSlice S1x1 ![0, 0] e slices_S1x9_S1x1_0_0) shapeCasts_S1x1_S1) (Host.reduceAdd e (constant S_ .f32 0x00000000#32) reducesTo_S1x9_S1_d1 h_S_))) (broadcastInDim S1 ![] bcast_S_S1 (Host.reduce FloatOps.maximumf p (constant S_ .f32 0xFF800000#32) reducesTo_S256_S_d0 h_S_))) (ix1 (0 : Fin 1))
      = (1 - Ideal.div (e (ix2 (0 : Fin 1) (0 : Fin 9))) (∑ t : Fin 9, (e (ix2 (0 : Fin 1) t) : EReal)))
        * Finset.fold max (Ideal.ofBits .f32 0xFF800000#32 : EReal) (fun k => (p (ix1 k) : EReal)) Finset.univ := by
  pointwise []

variable (h : Real V Q K)
include h

/-- The `t`-th of the distances from the centre, least first, as the reference takes it. -/
theorem near_apply (t : Fin 10) :
    (Host.negf (F := Ideal) (φ := .f32) (Host.topK S1x10 1 (FloatOps.cmpfTotal (F := Ideal) (φ := .f32) .gt) (res_main_v56 V) sliceFits_S1x65536_S1x10).1) (ix2 (0 : Fin 1) t)
      = ((√(Distances.around Q K (order (res_main_v56 V) ⟨t.val, by omega⟩)) : ℝ) : EReal) :=
  neg_read _ t _ ((top_read _ t).trans (around_apply h _))

theorem exps_apply (t : Fin 9) : res_main_v145 V (ix2 (0 : Fin 1) t)
    = ((Real.exp √(Distances.around Q K (order (res_main_v56 V) ⟨t.val + 1, by omega⟩)) : ℝ) : EReal) :=
  exp_read _ t _ (near_apply h ⟨t.val + 1, by omega⟩)

/-- The reference's score. -/
theorem score_read : (val4 V (Proc.devRef .tc main_v154)) (ix1 (0 : Fin 1))
    = (1 - Ideal.div ((Real.exp √(Distances.around Q K (order (res_main_v56 V) ⟨1, by omega⟩)) : ℝ) : EReal)
        (∑ t : Fin 9, ((Real.exp √(Distances.around Q K (order (res_main_v56 V) ⟨t.val + 1, by omega⟩)) : ℝ) : EReal)))
      * ((Distances.top Q K : ℝ) : EReal) := by
  rw [val4_main_v154]
  refine (weigh (res_main_v145 V) (res_main_v17 V)).trans ?_
  rw [top_fold' h, exps_apply h 0]
  simp only [exps_apply h]
  rfl

end Cert.ReferenceIdeal.Hand

end
-- ==== Proof.Centre.lean ====
/- The key the score looks around: the first nearest key of the first farthest patch. -/
module

public import proofs.«01_k».proof.Proof.Leaves
public import proofs.«01_k».proof.Proof.Words

@[expose] public section

set_option maxRecDepth 16384

noncomputable section

namespace Cert.KernelIdeal.Hand

open Cert.KernelIdeal.Gen
open Idealize.ShloMosaic Idealize.ShloMosaic.TcCoe

theorem max_all (y : FVec Ideal S256x128 .f32) :
    (extractAt ![0, 0, 0] (shapeCast S1x1x1 (multiReduction .maximumf [1, 2] S1 (shapeCast S1x256x128 y shapeCasts_S256x128_S1x256x128) 0xFF800000#32 reduces_S1x256x128_S1 (.inl rfl) rfl) shapeCasts_S1_S1x1x1) inpos_S1x1x1_p0_0_0 : Ideal .f32)
      = Finset.fold max (Ideal.ofBits FTy.f32 4286578688#32 : EReal) (fun x : Fin 256 × Fin 128 => (y (ix2 x.1 x.2) : EReal)) Finset.univ := by
  pointwise []

theorem min_all (y : IVec S256x128 32) :
    extractAt ![0, 0, 0] (shapeCast S1x1x1 (multiReductionI .minsi [1, 2] S1 (shapeCast S1x256x128 y shapeCasts_S256x128_S1x256x128) 2147483647#32 reduces_S1x256x128_S1 rfl) shapeCasts_S1_S1x1x1) inpos_S1x1x1_p0_0_0
      = Finset.fold IntOp.minsi (2147483647#32) (fun x : Fin 256 × Fin 128 => y (ix2 x.1 x.2)) Finset.univ := by
  pointwise []

theorem min_all_eq (y : IVec S256x128 32) (n : ℕ) (hn : n < 65536) (hv : ∃ r l, y (ix2 r l) = BitVec.ofNat 32 n)
    (hle : ∀ r l, (n : ℤ) ≤ (y (ix2 r l)).toInt) :
    extractAt ![0, 0, 0] (shapeCast S1x1x1 (multiReductionI .minsi [1, 2] S1 (shapeCast S1x256x128 y shapeCasts_S256x128_S1x256x128) 2147483647#32 reduces_S1x256x128_S1 rfl) shapeCasts_S1_S1x1x1) inpos_S1x1x1_p0_0_0
      = BitVec.ofNat 32 n := by
  rw [min_all]
  obtain ⟨r, l, e⟩ := hv
  have hr := Words.toInt_ofNat n (by omega)
  refine Words.fold_minsi_eq _ _ _ _ (by rw [hr]; exact (by omega : (n : ℤ) ≤ 2147483647)) ⟨(r, l), Finset.mem_univ _, e⟩ fun p _ => ?_
  rw [hr]
  exact hle _ _

theorem row_words (s : FVec Ideal S256x128 .f32) (v : Ideal .f32) (r : Fin 256) (l : Fin 128) :
    (Idealize.ShloMosaic.select (cmpf .oeq s (broadcast S256x128 v)) (iota .tc S256x128 32 [0] iota_S256x128_d0_w32) (broadcast S256x128 256#32) : IVec S256x128 32) (ix2 r l)
      = if (s (ix2 r l) : EReal) = v then BitVec.ofNat 32 r.val else 256#32 := by
  pointwise []

theorem select_both (r f : Fin 256) (q : Prop) [Decidable q] (x y : BitVec 32) :
    Scalar.select (IntOp.andi (IntOp.cmpi CmpIPredicate.eq (BitVec.ofNat 32 r.val) (BitVec.ofNat 32 f.val)) (BitVec.ofBool (decide q))) x y
      = if r = f ∧ q then x else y := by
  have h : ∀ r f : Fin 256, IntOp.cmpi CmpIPredicate.eq (BitVec.ofNat 32 r.val) (BitVec.ofNat 32 f.val) = if r = f then 1#1 else 0#1 := by
    intro r f
    by_cases e : r = f
    · subst e; rw [if_pos rfl]; simp [IntOp.cmpi]
    · rw [if_neg e]
      have : BitVec.ofNat 32 r.val ≠ BitVec.ofNat 32 f.val := fun e' => e (Fin.ext (by
        have := congrArg BitVec.toNat e'
        rw [BitVec.toNat_ofNat, BitVec.toNat_ofNat, Nat.mod_eq_of_lt (by omega), Nat.mod_eq_of_lt (by omega)] at this
        exact this))
      show BitVec.ofBool (BitVec.ofNat 32 r.val == BitVec.ofNat 32 f.val) = 0#1
      rw [beq_eq_false_iff_ne.mpr this]; rfl
  rw [h]
  by_cases e : r = f <;> by_cases hq : q <;> simp [e, hq] <;> rfl

theorem key_words (a g : FVec Ideal S256x128 .f32) (w : IVec S256x128 32) (f : Fin 256) (r : Fin 256) (l : Fin 128) :
    (Idealize.ShloMosaic.select (andi (cmpi .eq (iota .tc S256x128 32 [0] iota_S256x128_d0_w32) (broadcast S256x128 (BitVec.ofNat 32 f.val))) (cmpf .oeq g a))
      (addi (muli w (broadcast S256x128 128#32)) (iota .tc S256x128 32 [1] iota_S256x128_d1_w32)) (broadcast S256x128 65535#32) : IVec S256x128 32) (ix2 r l)
      = if r = f ∧ (g (ix2 r l) : EReal) = a (ix2 r l) then IntOp.addi (IntOp.muli (w (ix2 r l)) 128#32) (BitVec.ofNat 32 l.val) else 65535#32 := by
  rw [← select_both]
  pointwise []

theorem key_word (a l : ℕ) : IntOp.addi (IntOp.muli (BitVec.ofNat 32 a) 128#32) (BitVec.ofNat 32 l) = BitVec.ofNat 32 (a * 128 + l) := by
  show BitVec.ofNat 32 a * BitVec.ofNat 32 128 + BitVec.ofNat 32 l = _
  rw [← BitVec.ofNat_mul, ← BitVec.ofNat_add]

/-- The word of the key, from the row's word. -/
theorem key_min (a s g : FVec Ideal S256x128 .f32) (t : Ideal .f32) (w : IVec S256x128 32) (f : Fin 256) (n : ℕ) (hn : n < 65536)
    (hf : extractAt ![0, 0, 0] (shapeCast S1x1x1 (multiReductionI .minsi [1, 2] S1 (shapeCast S1x256x128
      (Idealize.ShloMosaic.select (cmpf .oeq s (broadcast S256x128 t)) (iota .tc S256x128 32 [0] iota_S256x128_d0_w32) (broadcast S256x128 256#32))
      shapeCasts_S256x128_S1x256x128) 2147483647#32 reduces_S1x256x128_S1 rfl) shapeCasts_S1_S1x1x1) inpos_S1x1x1_p0_0_0 = BitVec.ofNat 32 f.val)
    (hv : ∃ l, (g (ix2 f l) : EReal) = a (ix2 f l) ∧ IntOp.addi (IntOp.muli (w (ix2 f l)) 128#32) (BitVec.ofNat 32 l.val) = BitVec.ofNat 32 n)
    (hle : ∀ l, (g (ix2 f l) : EReal) = a (ix2 f l) → (n : ℤ) ≤ (IntOp.addi (IntOp.muli (w (ix2 f l)) 128#32) (BitVec.ofNat 32 l.val)).toInt) :
    extractAt ![0, 0, 0] (k0_pay244 (F := Ideal) a s t g w) inpos_S1x1x1_p0_0_0 = BitVec.ofNat 32 n := by
  unfold k0_pay244
  dsimp only
  rw [hf]
  obtain ⟨l, hl, e⟩ := hv
  refine min_all_eq _ n hn ⟨f, l, ?_⟩ fun r l => ?_
  · rw [key_words, if_pos ⟨rfl, hl⟩, e]
  · rw [key_words]
    split
    · rename_i hi
      obtain ⟨rfl, hi⟩ := hi
      exact hle l hi
    · exact (by omega : (n : ℤ) ≤ 65535)

/-- A least value's place in its lane. -/
theorem lane_first {f : Fin 65536 → ℝ} {n : Fin 65536} (hn : Distances.First f n) (l : Fin 128) (hl : l.val = n.val % 128) (a : Fin 512)
    (hle : ∀ b : Fin 512, f ⟨a.val * 128 + l.val, by omega⟩ ≤ f ⟨b.val * 128 + l.val, by omega⟩)
    (hs : ∀ b : Fin 512, b < a → f ⟨a.val * 128 + l.val, by omega⟩ < f ⟨b.val * 128 + l.val, by omega⟩) :
    (⟨a.val * 128 + l.val, by omega⟩ : Fin 65536) = n := by
  have hb : (⟨(⟨n.val / 128, by omega⟩ : Fin 512).val * 128 + l.val, by show n.val / 128 * 128 + l.val < _; omega⟩ : Fin 65536) = n :=
    Fin.ext (by show n.val / 128 * 128 + l.val = _; omega)
  have h1 := hle ⟨n.val / 128, by omega⟩
  rw [hb] at h1
  have h2 := hn.1 ⟨a.val * 128 + l.val, by omega⟩
  have h3 : n.val ≤ a.val * 128 + l.val := hn.le (le_antisymm h1 h2)
  have h4 : ¬(⟨n.val / 128, by omega⟩ : Fin 512) < a := fun hlt => by
    have h5 := hs _ hlt
    rw [hb] at h5
    exact absurd h5 (not_lt.mpr h2)
  have h4' : ¬n.val / 128 < a.val := h4
  refine Fin.ext ?_
  show a.val * 128 + l.val = n.val
  omega

variable {m : (ℓ : Loc nD τ sig) → Buf (Elt Ideal) ℓ} {c : Dev nD}

/-- What the scratch memory holds when the scan has ended. -/
theorem inv_kept : Inv m c 8 (keptKeys m c) (keptNorms m c) (laneMins m c) (laneArgs m c) where
  keys s _ hs y j h0 h1 := by
    have hj := (j 0).isLt
    change _ < 8192 at hj
    have e1 : (⟨(y 0).val / 8192, block_lt _ (by omega)⟩ : Fin cfg0.N) = s := Fin.ext (by show (y 0).val / 8192 = _; omega)
    have e2 : ix2 (⟨(y 0).val % 8192, Nat.mod_lt _ (by decide)⟩ : Fin 8192) (y 1) = j := by
      rw [ValueIdx.eq_ix2 j]
      exact congrArg₂ ix2 (Fin.ext (by show (y 0).val % 8192 = _; omega)) (Fin.ext h1)
    show k0_pay2 (keysAt m c ⟨(y 0).val / 8192, _⟩) _ = _
    rw [e1]
    exact congrArg (k0_pay2 (keysAt m c s)) e2
  norms s _ hs y j h0 h1 := by
    have e1 : (⟨(y 0).val, block_lt _ (y 0).isLt⟩ : Fin cfg0.N) = s := Fin.ext h0
    have e2 : ix2 (0 : Fin 1) (y 1) = j := by
      rw [ValueIdx.eq_ix2 j]
      exact congrArg₂ ix2 (Subsingleton.elim (α := Fin 1) _ _) (Fin.ext h1)
    show k0_pay3 (k0_pay10 (keysAt m c ⟨(y 0).val, _⟩)) _ = _
    rw [e1]
    exact congrArg (k0_pay3 (k0_pay10 (keysAt m c s))) e2
  mins s hs hn := by
    have e : s = ⟨7, seven_lt⟩ := Fin.ext (by show s.val = 7; omega)
    subst e
    rfl
  args s hs hn := by
    have e : s = ⟨7, seven_lt⟩ := Fin.ext (by show s.val = 7; omega)
    subst e
    rfl

variable {Q : Fin 256 → Fin 128 → ℝ} {K : Fin 65536 → Fin 128 → ℝ} (h : Real m c Q K)
include h

theorem near2_apply (r : Fin 256) (l : Fin 128) :
    k0_pay240 (F := Ideal) (queries m c) (laneMins m c) (ix2 r l) = ((Distances.near2 Q K r : ℝ) : EReal) := by
  rw [pay240_apply, lanes_least h inv_kept]
  simp only [h.q, ← EReal.coe_mul, Consts.sum_coe, ← EReal.coe_add]
  rfl

theorem top2_apply : k0_pay242 (F := Ideal) (queries m c) (laneMins m c) = ((Distances.near2 Q K (Distances.farthest Q K) : ℝ) : EReal) := by
  refine (max_all (k0_pay240 (F := Ideal) (queries m c) (laneMins m c))).trans ?_
  refine Distances.fold_max_eq (α := EReal) _ _ _ _ (Consts.minus_infinity.trans_le bot_le)
    ⟨(Distances.farthest Q K, 0), Finset.mem_univ _, near2_apply h _ _⟩ fun p _ => ?_
  rw [near2_apply h]
  exact EReal.coe_le_coe_iff.mpr (neg_le_neg_iff.mp ((Distances.farthest_first Q K).1 p.1))

theorem row_word : extractAt ![0, 0, 0] (shapeCast S1x1x1 (multiReductionI .minsi [1, 2] S1 (shapeCast S1x256x128
      (Idealize.ShloMosaic.select (cmpf .oeq (k0_pay240 (F := Ideal) (queries m c) (laneMins m c)) (broadcast S256x128 (k0_pay242 (F := Ideal) (queries m c) (laneMins m c))))
        (iota .tc S256x128 32 [0] iota_S256x128_d0_w32) (broadcast S256x128 256#32)) shapeCasts_S256x128_S1x256x128) 2147483647#32 reduces_S1x256x128_S1 rfl) shapeCasts_S1_S1x1x1) inpos_S1x1x1_p0_0_0
    = BitVec.ofNat 32 (Distances.farthest Q K).val := by
  refine min_all_eq _ _ (by omega) ⟨Distances.farthest Q K, 0, ?_⟩ fun r l => ?_
  · rw [row_words, near2_apply h, top2_apply h, if_pos rfl]
  · rw [row_words, near2_apply h, top2_apply h]
    split
    · rename_i hi
      rw [Words.toInt_ofNat _ (by omega)]
      have := (Distances.farthest_first Q K).le (i := r) (congrArg Neg.neg (EReal.coe_eq_coe_iff.mp hi))
      exact_mod_cast this
    · exact (by omega : ((Distances.farthest Q K).val : ℤ) ≤ 256)

/-- The lane of the centre keeps the centre. -/
theorem at_centre (l : Fin 128) (hl : l.val = (Distances.centre Q K).val % 128) :
    IntOp.addi (IntOp.muli (laneArgs m c (ix2 (Distances.farthest Q K) l)) 128#32) (BitVec.ofNat 32 l.val) = BitVec.ofNat 32 (Distances.centre Q K).val
      ∧ laneMins m c (ix2 (Distances.farthest Q K) l) = ((Distances.gapTo K (Q (Distances.farthest Q K)) (Distances.centre Q K) : ℝ) : EReal) := by
  obtain ⟨a, ha, hv, hle, hs⟩ := lane h inv_kept (Distances.farthest Q K) l
  have e := lane_first (Distances.closest_first Q K (Distances.farthest Q K)) l hl a hle hs
  refine ⟨?_, hv.trans (by rw [e]; rfl)⟩
  rw [ha, key_word]
  exact congrArg (fun n : Fin 65536 => BitVec.ofNat 32 n.val) e

theorem at_lane (r : Fin 256) (l : Fin 128) : ∃ n : Fin 65536, IntOp.addi (IntOp.muli (laneArgs m c (ix2 r l)) 128#32) (BitVec.ofNat 32 l.val) = BitVec.ofNat 32 n.val
    ∧ laneMins m c (ix2 r l) = ((Distances.gapTo K (Q r) n : ℝ) : EReal) := by
  obtain ⟨a, ha, hv, -, -⟩ := lane h inv_kept r l
  exact ⟨⟨a.val * 128 + l.val, by omega⟩, by rw [ha, key_word], hv⟩

theorem least_lane (r : Fin 256) (l : Fin 128) :
    k0_pay239 (F := Ideal) (laneMins m c) (ix2 r l) = ((Distances.gapTo K (Q r) (Distances.closest Q K r) : ℝ) : EReal) := by
  rw [pay239_apply, lanes_least h inv_kept]

/-- The kernel's word is the centre's. -/
theorem centreWord_eq : centreWord (queries m c) (laneMins m c) (laneArgs m c) = BitVec.ofNat 32 (Distances.centre Q K).val := by
  refine key_min _ _ _ _ _ (Distances.farthest Q K) _ (Distances.centre Q K).isLt (row_word h)
    ⟨⟨(Distances.centre Q K).val % 128, Nat.mod_lt _ (by decide)⟩, ?_⟩ fun l hl => ?_
  · have e := at_centre h ⟨(Distances.centre Q K).val % 128, Nat.mod_lt _ (by decide)⟩ rfl
    exact ⟨e.2.trans (least_lane h _ _).symm, e.1⟩
  · obtain ⟨n, e, hv⟩ := at_lane h (Distances.farthest Q K) l
    rw [e, Words.toInt_ofNat _ (by omega)]
    have hg := hv.symm.trans (hl.trans (least_lane h _ _))
    have hk := (Distances.closest_first Q K (Distances.farthest Q K)).le (EReal.coe_eq_coe_iff.mp hg)
    exact Int.ofNat_le.mpr hk

end Cert.KernelIdeal.Hand

end
-- ==== Proof.Place.lean ====
/- Where a key lies among the slabs of sixteen: the words of its slab's start and of its place in the slab. -/
module

public import proofs.«01_k».proof.Proof.ScoreRun
public import Idealize.ShloMosaic.Lib.Affine

@[expose] public section

noncomputable section

namespace Cert.KernelIdeal.Hand

open Cert.KernelIdeal.Gen
open Idealize.ShloMosaic Idealize.ShloMosaic.Affine

theorem word_of (n : ℕ) (hn : n < 65536) : IsInt (BitVec.ofNat 32 n) (n : ℤ) := ofNat n ⟨rfl, by omega⟩
theorem word_16 : IsInt 16#32 16 := ofNat 16 ⟨rfl, by omega⟩
theorem word_0 : IsInt 0#32 0 := ofNat 0 ⟨rfl, by omega⟩
theorem word_1 : IsInt 1#32 1 := ofNat 1 ⟨rfl, by omega⟩

theorem off3_eq (n : ℕ) (hn : n < 65536) : k0_off3 (BitVec.ofNat 32 n) 0 = n / 16 * 16 := by
  have hw := word_of n hn
  have hd : IsInt (Scalar.divsi (BitVec.ofNat 32 n) 16#32) ((n : ℤ) / 16) := divsi hw word_16 ⟨rfl, by omega, by omega⟩
  have hr : IsInt (Scalar.remsi (BitVec.ofNat 32 n) 16#32) ((n : ℤ) % 16) := remsi hw word_16 ⟨rfl, by omega, by omega⟩
  have hc : Fails (Scalar.andi (Scalar.cmpi .ne (Scalar.subi (Scalar.extui (Scalar.cmpi .sgt (BitVec.ofNat 32 n) 0#32)) (Scalar.extui (Scalar.cmpi .slt (BitVec.ofNat 32 n) 0#32)))
      (Scalar.subi (Scalar.extui (Scalar.cmpi .sgt 16#32 0#32)) (Scalar.extui (Scalar.cmpi .slt 16#32 0#32))))
      (Scalar.cmpi .ne (Scalar.remsi (BitVec.ofNat 32 n) 16#32) 0#32)) := by
    by_cases h0 : n = 0
    · exact andi_fails_right trivial (ne_fails hr word_0 (by omega))
    · refine andi_fails_left (ne_fails (subi (extui_holds (sgt_holds hw word_0 (by omega)) rfl) (extui_fails (slt_fails hw word_0 (by omega)) rfl) ⟨rfl, by omega, by omega⟩)
        (subi (extui_holds (sgt_holds word_16 word_0 (by omega)) rfl) (extui_fails (slt_fails word_16 word_0 (by omega)) rfl) ⟨rfl, by omega, by omega⟩) rfl) trivial
  exact nat_eq (indexCast (muli (select_fails hc (subi hd word_1 ⟨rfl, by omega, by omega⟩) hd rfl) word_16 ⟨rfl, by omega, by omega⟩)) _ (by push_cast; rfl)

theorem inSlab_eq (n : ℕ) (hn : n < 65536) : inSlab (BitVec.ofNat 32 n) = BitVec.ofNat 32 (n % 16) := by
  have hw := word_of n hn
  have hs : IsInt (Scalar.select (Scalar.cmpi .eq 16#32 0#32) 1#32 16#32) 16 := select_fails (eq_fails word_16 word_0 (by omega)) word_1 word_16 rfl
  have hr : IsInt (Scalar.remsi (BitVec.ofNat 32 n) (Scalar.select (Scalar.cmpi .eq 16#32 0#32) 1#32 16#32)) ((n : ℤ) % 16) := remsi hw hs ⟨rfl, by omega, by omega⟩
  exact eq_of (select_fails (andi_fails_left (xori_ff (slt_fails hr word_0 (by omega)) (slt_fails hs word_0 (by omega))) trivial)
    (addi hr hs ⟨rfl, by omega, by omega⟩) hr rfl) _ (by push_cast; rfl)

/-- A word compared with another below 16. -/
theorem select_word {α : Type} (a b : ℕ) (ha : a < 16) (hb : b < 16) (x y : α) :
    Scalar.select (Scalar.cmpi .eq (BitVec.ofNat 32 a) (BitVec.ofNat 32 b)) x y = if a = b then x else y := by
  have h : ∀ a b : Fin 16, Scalar.cmpi CmpIPredicate.eq (BitVec.ofNat 32 a.val) (BitVec.ofNat 32 b.val)
      = if a.val = b.val then 1#1 else 0#1 := by decide +kernel
  rw [h ⟨a, ha⟩ ⟨b, hb⟩]
  dsimp only
  split <;> rfl

end Cert.KernelIdeal.Hand

end
-- ==== Proof.Around.lean ====
/- The squared distances from the centre, as the kernel computes them. -/
module

public import proofs.«01_k».proof.Proof.Centre
public import proofs.«01_k».proof.Proof.Place

@[expose] public section

set_option maxRecDepth 16384

noncomputable section

namespace Cert.KernelIdeal.Hand

open Cert.KernelIdeal.Gen
open Idealize.ShloMosaic Idealize.ShloMosaic.TcCoe

theorem slice_row (x : FVec Ideal S16x128 .f32) (k : ℕ) (hk : k < 16) (hs : S16x128.Slices ![k, 0] S1x128) (d : Fin 128) :
    extractStridedSlice S1x128 ![k, 0] x hs (ix2 0 d) = x (ix2 ⟨k, hk⟩ d) := by
  show x _ = x _
  congr 1
  funext a
  refine Fin.ext ?_
  fin_cases a
  · rfl
  · exact Nat.zero_add _

/-- The first eight choices. -/
def lowRow (x : FVec Ideal S16x128 .f32) (w : BitVec 32) : FVec Ideal S1x128 .f32 :=
  (Scalar.select (Scalar.cmpi .eq w 7#32) (extractStridedSlice S1x128 ![7, 0] x slices_S16x128_o7_0_S1x128) ((Scalar.select (Scalar.cmpi .eq w 6#32) (extractStridedSlice S1x128 ![6, 0] x slices_S16x128_o6_0_S1x128) ((Scalar.select (Scalar.cmpi .eq w 5#32) (extractStridedSlice S1x128 ![5, 0] x slices_S16x128_o5_0_S1x128) ((Scalar.select (Scalar.cmpi .eq w 4#32) (extractStridedSlice S1x128 ![4, 0] x slices_S16x128_o4_0_S1x128) ((Scalar.select (Scalar.cmpi .eq w 3#32) (extractStridedSlice S1x128 ![3, 0] x slices_S16x128_o3_0_S1x128) ((Scalar.select (Scalar.cmpi .eq w 2#32) (extractStridedSlice S1x128 ![2, 0] x slices_S16x128_o2_0_S1x128) ((Scalar.select (Scalar.cmpi .eq w 1#32) (extractStridedSlice S1x128 ![1, 0] x slices_S16x128_o1_0_S1x128) ((Scalar.select (Scalar.cmpi .eq w 0#32) (extractStridedSlice S1x128 ![0, 0] x slices_S16x128_o0_0_S1x128) (broadcast S1x128 (Scalar.ofBits .f32 0x00000000#32)))))))))))))))))

/-- The last eight. -/
def highRow (x : FVec Ideal S16x128 .f32) (w : BitVec 32) (y : FVec Ideal S1x128 .f32) : FVec Ideal S1x128 .f32 :=
  (Scalar.select (Scalar.cmpi .eq w 15#32) (extractStridedSlice S1x128 ![15, 0] x slices_S16x128_o15_0_S1x128) (Scalar.select (Scalar.cmpi .eq w 14#32) (extractStridedSlice S1x128 ![14, 0] x slices_S16x128_o14_0_S1x128) (Scalar.select (Scalar.cmpi .eq w 13#32) (extractStridedSlice S1x128 ![13, 0] x slices_S16x128_o13_0_S1x128) (Scalar.select (Scalar.cmpi .eq w 12#32) (extractStridedSlice S1x128 ![12, 0] x slices_S16x128_o12_0_S1x128) (Scalar.select (Scalar.cmpi .eq w 11#32) (extractStridedSlice S1x128 ![11, 0] x slices_S16x128_o11_0_S1x128) (Scalar.select (Scalar.cmpi .eq w 10#32) (extractStridedSlice S1x128 ![10, 0] x slices_S16x128_o10_0_S1x128) (Scalar.select (Scalar.cmpi .eq w 9#32) (extractStridedSlice S1x128 ![9, 0] x slices_S16x128_o9_0_S1x128) (Scalar.select (Scalar.cmpi .eq w 8#32) (extractStridedSlice S1x128 ![8, 0] x slices_S16x128_o8_0_S1x128) y))))))))

/-- A choice between two vectors by a word, at one place. -/
theorem select_row (k j : ℕ) (hk : k < 16) (hj : j < 16) (x : FVec Ideal S16x128 .f32) (hs : S16x128.Slices ![j, 0] S1x128) (y : FVec Ideal S1x128 .f32) (d : Fin 128) :
    (Scalar.select (Scalar.cmpi .eq (BitVec.ofNat 32 k) (BitVec.ofNat 32 j)) (extractStridedSlice S1x128 ![j, 0] x hs) y : FVec Ideal S1x128 .f32) (ix2 0 d)
      = if k = j then x (ix2 ⟨k, hk⟩ d) else y (ix2 0 d) := by
  rw [select_word k j hk hj]
  split
  · subst_vars
    rw [slice_row x j hj]
  · rfl

theorem row_pick (x : FVec Ideal S16x128 .f32) (k : ℕ) (hk : k < 16) (d : Fin 128) :
    highRow x (BitVec.ofNat 32 k) (lowRow x (BitVec.ofNat 32 k)) (ix2 0 d) = x (ix2 ⟨k, hk⟩ d) := by
  unfold highRow lowRow
  rw [select_row k 15 hk (by decide), select_row k 14 hk (by decide), select_row k 13 hk (by decide), select_row k 12 hk (by decide), select_row k 11 hk (by decide), select_row k 10 hk (by decide), select_row k 9 hk (by decide), select_row k 8 hk (by decide), select_row k 7 hk (by decide), select_row k 6 hk (by decide), select_row k 5 hk (by decide), select_row k 4 hk (by decide), select_row k 3 hk (by decide), select_row k 2 hk (by decide), select_row k 1 hk (by decide), select_row k 0 hk (by decide)]
  interval_cases k <;> rfl

/-- One block's distances, given the centre's coordinates. -/
theorem distances_read (x : FVec Ideal S1x128 .f32) (y : FVec Ideal S8192x128 .bf16) (z : FVec Ideal S1x8192 .f32) (j : Fin 8192) :
    shapeCast S1x8192 (addf (subf z (mulf (broadcast S1x8192 (Scalar.ofBits (F := Ideal) .f32 0x40000000#32)) (matmul dot_S1x128_S8192x128_S1x8192_1_1_0_0_n_n none (truncf .bf16 x bitsLt_bf16_f32) y (constant S1x8192 .f32 0x00000000#32))))
      (broadcast S1x8192 (extractAt ![0, 0, 0] (shapeCast S1x1x1 (multiReduction .add [1, 2] S1 (shapeCast S1x1x128 (mulf x x) shapeCasts_S1x128_S1x1x128) 0x00000000#32 reduces_S1x1x128_S1 (.inl rfl) rfl) shapeCasts_S1_S1x1x1) inpos_S1x1x1_p0_0_0))) shapeCasts_S1x8192_S1x8192 (ix2 0 j)
    = (z (ix2 0 j) - Ideal.ofBits .f32 0x40000000#32 * ∑ d : Fin 128, x (ix2 0 d) * y (ix2 j d) : EReal) + ∑ d : Fin 128, (x (ix2 0 d) * x (ix2 0 d) : EReal) := by
  pointwise []
  exact congrArg (fun t : EReal => (z (ix2 0 j) - Ideal.ofBits .f32 0x40000000#32 * ∑ d : Fin 128, x (ix2 0 d) * y (ix2 j d) : EReal) + t)
    (Fintype.sum_unique (fun _ : Fin 1 => ∑ d : Fin 128, (x (ix2 0 d) * x (ix2 0 d) : EReal)))

theorem pay2_read (x : Vec Ideal S8192x128 .f32) (j : Fin 8192) (d : Fin 128) : k0_pay2 (F := Ideal) x (ix2 j d) = (x (ix2 j d) : EReal) := by
  pointwise [k0_pay2]

theorem pay3_read (x : Vec Ideal S8192x128 .f32) (j : Fin 8192) : k0_pay3 (F := Ideal) (k0_pay10 x) (ix2 0 j) = ∑ d : Fin 128, (x (ix2 j d) * x (ix2 j d) : EReal) := by
  pointwise [k0_pay3, k0_pay10]

theorem rows_read' (x : Vec Ideal S16x128 .bf16) (r : BitVec 32) (y0 : Vec Ideal S65536x128 .bf16) (y1 : Vec Ideal S8x8192 .f32) (k : ℕ) (hk : k < 16) (hr : inSlab r = BitVec.ofNat 32 k)
    (a : Fin 8) (j : Fin 8192) :
    rows (F := Ideal) (k0_pay245 x) (inSlab r) (k0_pay246 r x) (Scalar.cmpi .eq (inSlab r) 8#32) y0 y1 (ix2 a j)
      = (y1 (ix2 a j) - Ideal.ofBits .f32 0x40000000#32 * ∑ d : Fin 128, x (ix2 ⟨k, hk⟩ d) * y0 (ix2 ⟨8192 * a.val + j.val, by omega⟩ d) : EReal) + ∑ d : Fin 128, (x (ix2 ⟨k, hk⟩ d) * x (ix2 ⟨k, hk⟩ d) : EReal) := by
  refine (distances_read (highRow (k0_pay245 x) (inSlab r) (lowRow (k0_pay245 x) (inSlab r))) _ _ j).trans ?_
  rw [hr]
  simp only [row_pick _ k hk]
  rfl

variable {m : (ℓ : Loc nD τ sig) → Buf (Elt Ideal) ℓ} {c : Dev nD}
variable {Q : Fin 256 → Fin 128 → ℝ} {K : Fin 65536 → Fin 128 → ℝ} (h : Real m c Q K)
include h

theorem keptKeys_apply (n : Fin 65536) (d : Fin 128) : keptKeys m c (ix2 n d) = ((K n d : ℝ) : EReal) := by
  refine (pay2_read (keysAt m c ⟨n.val / 8192, _⟩) ⟨n.val % 8192, Nat.mod_lt _ (by decide)⟩ d).trans ?_
  rw [keysAt_apply m c _ (by show n.val / 8192 < 8; omega)]
  have e : n.val / 8192 * 8192 + n.val % 8192 = n.val := by omega
  show keys m c (n.val / 8192 * 8192 + n.val % 8192) d = _
  rw [e]
  exact h.k n d

theorem keptNorms_apply (a : Fin 8) (j : Fin 8192) :
    keptNorms m c (ix2 a j) = ((∑ d, K ⟨a.val * 8192 + j.val, by omega⟩ d * K ⟨a.val * 8192 + j.val, by omega⟩ d : ℝ) : EReal) := by
  refine (pay3_read (keysAt m c ⟨a.val, block_lt _ a.isLt⟩) j).trans ?_
  have e : ∀ d, keysAt m c ⟨a.val, block_lt _ a.isLt⟩ (ix2 j d) = ((K ⟨a.val * 8192 + j.val, by omega⟩ d : ℝ) : EReal) := fun d =>
    (keysAt_apply m c _ a.isLt j d).trans (h.k ⟨a.val * 8192 + j.val, by omega⟩ d)
  simp only [e, ← EReal.coe_mul, Consts.sum_coe]

theorem slab_apply (n : Fin 65536) (d : Fin 128) :
    slab (keptKeys m c) (BitVec.ofNat 32 n.val) (ix2 ⟨n.val % 16, Nat.mod_lt _ (by decide)⟩ d) = ((K n d : ℝ) : EReal) := by
  have e : (⟨(k0_off3 (BitVec.ofNat 32 n.val) 0 + n.val % 16) % 65536, Nat.mod_lt _ (by decide)⟩ : Fin 65536) = n := by
    refine Fin.ext ?_
    show (k0_off3 (BitVec.ofNat 32 n.val) 0 + n.val % 16) % 65536 = n.val
    rw [off3_eq n.val n.isLt]
    omega
  show keptKeys m c (ix2 (⟨(k0_off3 (BitVec.ofNat 32 n.val) 0 + n.val % 16) % 65536, Nat.mod_lt _ (by decide)⟩ : Fin 65536) d) = _
  rw [e]
  exact keptKeys_apply h n d

/-- Each of the kernel's distances is a squared distance from the centre. -/
theorem aroundAt_apply (a : Fin 8) (j : Fin 8192) :
    aroundAt m c (ix2 a j) = ((Distances.around Q K ⟨a.val * 8192 + j.val, by omega⟩ : ℝ) : EReal) := by
  unfold aroundAt aroundOf
  rw [centreWord_eq h]
  refine (rows_read' (slab (keptKeys m c) (BitVec.ofNat 32 (Distances.centre Q K).val)) _ (keptKeys m c) (keptNorms m c)
    ((Distances.centre Q K).val % 16) (Nat.mod_lt _ (by decide)) (inSlab_eq _ (Distances.centre Q K).isLt) a j).trans ?_
  have e : (⟨8192 * a.val + j.val, by omega⟩ : Fin 65536) = ⟨a.val * 8192 + j.val, by omega⟩ := Fin.ext (by show 8192 * a.val + j.val = a.val * 8192 + j.val; omega)
  simp only [slab_apply h, keptKeys_apply h, keptNorms_apply h, e, Consts.two_coe, ← EReal.coe_mul, Consts.sum_coe]
  rw [← EReal.coe_sub, ← EReal.coe_add, EReal.coe_eq_coe_iff]
  exact add_comm _ _

end Cert.KernelIdeal.Hand

end
-- ==== Proof.Select.lean ====
/- Selecting the least values in order from pairs: each round takes the least of the pairs' smaller members, and where a
   pair's smaller member was taken its larger one moves up. -/
module

public import Mathlib.Data.EReal.Basic

@[expose] public section

namespace Cert.Select

/-- A value as it stands after `n` rounds: out of the way once selected. -/
noncomputable def live (m : ℕ → EReal) (n : ℕ) (x : EReal) : EReal := by
  classical exact if ∃ i < n, x = m i then ⊤ else x

variable {m : ℕ → EReal}

theorem live_zero (x : EReal) : live m 0 x = x := by
  unfold live
  rw [if_neg]
  rintro ⟨i, hi, -⟩
  exact absurd hi (Nat.not_lt_zero i)

theorem le_live {n : ℕ} {x : EReal} (h : m n ≤ x ∨ ∃ i < n, x = m i) : m n ≤ live m n x := by
  unfold live
  split
  · exact le_top
  · rename_i hn
    exact h.resolve_right hn

theorem live_self {n : ℕ} (h : ∀ i < n, m i ≠ m n) : live m n (m n) = m n := by
  unfold live
  rw [if_neg]
  rintro ⟨i, hi, e⟩
  exact h i hi e.symm

theorem live_eq {n : ℕ} {x : EReal} (ht : m n ≠ ⊤) (h : live m n x = m n) : x = m n := by
  unfold live at h
  split at h
  · exact absurd h.symm ht
  · exact h

theorem live_succ {n : ℕ} (ht : m n ≠ ⊤) (hd : ∀ i < n, m i ≠ m n) (x : EReal) :
    live m (n + 1) x = if live m n x = m n then ⊤ else live m n x := by
  by_cases hx : x = m n
  · rw [hx, if_pos (live_self hd)]
    unfold live
    exact if_pos ⟨n, Nat.lt_succ_self n, rfl⟩
  · rw [if_neg fun e => hx (live_eq ht e)]
    unfold live
    by_cases hi : ∃ i < n, x = m i
    · obtain ⟨i, hi, e⟩ := hi
      rw [if_pos ⟨i, by omega, e⟩, if_pos ⟨i, hi, e⟩]
    · rw [if_neg hi, if_neg]
      rintro ⟨i, hl, e⟩
      rcases Nat.lt_succ_iff_lt_or_eq.mp hl with hl | hl
      · exact hi ⟨i, hl, e⟩
      · exact hx (hl ▸ e)

/-- One round at one pair. -/
theorem round {v a b : EReal} (ha : v ≤ a) (hb : v ≤ b) (hne : ¬(a = v ∧ b = v)) :
    ((if min a b = v then max a b else min a b) = min (if a = v then ⊤ else a) (if b = v then ⊤ else b))
      ∧ ((if min a b = v then ⊤ else max a b) = max (if a = v then ⊤ else a) (if b = v then ⊤ else b)) := by
  by_cases ea : a = v
  · have eb : b ≠ v := fun e => hne ⟨ea, e⟩
    subst ea
    rw [min_eq_left hb, max_eq_right hb, if_pos rfl, if_pos rfl, if_pos rfl, if_neg eb]
    exact ⟨(min_eq_right le_top).symm, (max_eq_left le_top).symm⟩
  · by_cases eb : b = v
    · subst eb
      rw [min_eq_right ha, max_eq_left ha, if_pos rfl, if_pos rfl, if_pos rfl, if_neg ea]
      exact ⟨(min_eq_left le_top).symm, (max_eq_right le_top).symm⟩
    · have : min a b ≠ v := by
        rcases min_choice a b with e | e <;> rw [e] <;> assumption
      rw [if_neg this, if_neg this, if_neg ea, if_neg eb]
      exact ⟨rfl, rfl⟩

end Cert.Select
-- ==== Proof.ScoreSelect.lean ====
/- The ten rounds select the ten least distances in order, where those are distinct. -/
module

public import proofs.«01_k».proof.Proof.ScoreValue
public import proofs.«01_k».proof.Proof.Select

@[expose] public section

set_option maxRecDepth 16384

noncomputable section

namespace Cert.KernelIdeal.Hand

open Cert.KernelIdeal.Gen
open Idealize.ShloMosaic Idealize.ShloMosaic.TcCoe

theorem pay250_read (x : Vec Ideal S4x8192 .f32) (v : EReal) (hv : ∃ r l, (x (ix2 r l) : EReal) = v) (hle : ∀ r l, v ≤ (x (ix2 r l) : EReal)) :
    (k0_pay250 (F := Ideal) x : EReal) = v := by
  have e : (k0_pay250 (F := Ideal) x : EReal) = Finset.fold min (Ideal.ofBits .f32 2139095040#32 : EReal) (fun p : Fin 4 × Fin 8192 => (x (ix2 p.1 p.2) : EReal)) Finset.univ := by
    pointwise [k0_pay250]
  obtain ⟨r, l, h⟩ := hv
  rw [e]
  exact Distances.fold_min_eq _ _ _ _ (Consts.infinity ▸ le_top) ⟨(r, l), Finset.mem_univ _, h⟩ fun p _ => hle _ _

theorem sel_read (a x y : Vec Ideal S4x8192 .f32) (v : Ideal .f32) (r : Fin 4) (l : Fin 8192) :
    (shapeCast S4x8192 (Idealize.ShloMosaic.select (cmpf .oeq a (broadcast S4x8192 v)) x y : FVec Ideal S4x8192 .f32) shapeCasts_S4x8192_S4x8192) (ix2 r l)
      = if (a (ix2 r l) : EReal) = v then (x (ix2 r l) : EReal) else y (ix2 r l) := by
  pointwise []

theorem min_read (a b : Vec Ideal S4x8192 .f32) (r : Fin 4) (l : Fin 8192) :
    (shapeCast S4x8192 (minimumf a b : FVec Ideal S4x8192 .f32) shapeCasts_S4x8192_S4x8192) (ix2 r l) = min (a (ix2 r l) : EReal) (b (ix2 r l)) := by
  pointwise []

theorem max_read (a b : Vec Ideal S4x8192 .f32) (r : Fin 4) (l : Fin 8192) :
    (shapeCast S4x8192 (maximumf a b : FVec Ideal S4x8192 .f32) shapeCasts_S4x8192_S4x8192) (ix2 r l) = max (a (ix2 r l) : EReal) (b (ix2 r l)) := by
  pointwise []

theorem big_eq : (Named.named (F := Ideal) κ "big" (φ := .f32) 0x7F61B1E6#32 : EReal) = ⊤ := rfl

theorem pay252_read (a b : Vec Ideal S4x8192 .f32) (r : Fin 4) (l : Fin 8192) :
    (k0_pay252 (F := Ideal) a b (ix2 r l) : EReal) = if (a (ix2 r l) : EReal) = k0_pay250 (F := Ideal) a then b (ix2 r l) else a (ix2 r l) :=
  sel_read a b a (k0_pay250 (F := Ideal) a) r l

theorem pay253_read (a b : Vec Ideal S4x8192 .f32) (r : Fin 4) (l : Fin 8192) :
    (k0_pay253 (F := Ideal) a b (ix2 r l) : EReal) = if (a (ix2 r l) : EReal) = k0_pay250 (F := Ideal) a then ⊤ else b (ix2 r l) :=
  (sel_read a (broadcast S4x8192 (Named.named (F := Ideal) κ "big" (φ := .f32) 0x7F61B1E6#32)) b (k0_pay250 (F := Ideal) a) r l).trans (by
    have e : (broadcast S4x8192 (Named.named (F := Ideal) κ "big" (φ := .f32) 0x7F61B1E6#32) (ix2 r l) : EReal) = ⊤ := big_eq
    rw [e])

theorem pay248_read (a b : Vec Ideal S4x8192 .f32) (r : Fin 4) (l : Fin 8192) :
    (k0_pay248 (F := Ideal) a b (ix2 r l) : EReal) = min (a (ix2 r l) : EReal) (b (ix2 r l)) := min_read a b r l

theorem pay249_read (a b : Vec Ideal S4x8192 .f32) (r : Fin 4) (l : Fin 8192) :
    (k0_pay249 (F := Ideal) a b (ix2 r l) : EReal) = max (a (ix2 r l) : EReal) (b (ix2 r l)) := max_read a b r l

/-- The first `10` of `m` are the ten least values of `x`, in order, each at one place only. -/
structure Least (x : Vec Ideal S8x8192 .f32) (m : ℕ → EReal) : Prop where
  at_ : ∀ n < 10, ∃ r l, (x (ix2 r l) : EReal) = m n
  le : ∀ n < 10, ∀ r l, m n ≤ (x (ix2 r l) : EReal) ∨ ∃ i < n, (x (ix2 r l) : EReal) = m i
  once : ∀ n < 9, ∀ r l r' l', (x (ix2 r l) : EReal) = m n → (x (ix2 r' l') : EReal) = m n → r = r' ∧ l = l'
  ne : ∀ n < 10, ∀ i < n, m i ≠ m n
  real : ∀ n < 10, m n ≠ ⊤

variable {x : Vec Ideal S8x8192 .f32} {m : ℕ → EReal}

/-- What the two halves hold after `n` rounds. -/
def Halves (x : Vec Ideal S8x8192 .f32) (m : ℕ → EReal) (n : ℕ) (p : Vec Ideal S4x8192 .f32 × Vec Ideal S4x8192 .f32) : Prop :=
  ∀ r l, (p.1 (ix2 r l) : EReal) = min (Select.live m n (upper x (ix2 r l))) (Select.live m n (lower x (ix2 r l)))
    ∧ (p.2 (ix2 r l) : EReal) = max (Select.live m n (upper x (ix2 r l))) (Select.live m n (lower x (ix2 r l)))

theorem least_of (h : Least x m) (n : ℕ) (hn : n < 10) (p) (hp : Halves x m n p) : (k0_pay250 (F := Ideal) p.1 : EReal) = m n := by
  have hu : ∀ r l, m n ≤ Select.live m n (upper x (ix2 r l)) := fun r l => Select.le_live (h.le n hn _ _)
  have hw : ∀ r l, m n ≤ Select.live m n (lower x (ix2 r l)) := fun r l => Select.le_live (h.le n hn _ _)
  refine pay250_read _ _ ?_ fun r l => ?_
  · obtain ⟨r, l, e⟩ := h.at_ n hn
    by_cases hr : r.val < 4
    · refine ⟨⟨r.val, hr⟩, l, ?_⟩
      have e' : (upper x (ix2 (⟨r.val, hr⟩ : Fin 4) l) : EReal) = m n := e
      rw [(hp _ _).1, e', Select.live_self (h.ne n hn)]
      exact min_eq_left (hw _ _)
    · have h8 := r.isLt
      refine ⟨⟨r.val - 4, by omega⟩, l, ?_⟩
      have e' : (lower x (ix2 (⟨r.val - 4, by omega⟩ : Fin 4) l) : EReal) = m n := by
        refine Eq.trans (congrArg (fun r : Fin 8 => (x (ix2 r l) : EReal)) (Fin.ext ?_)) e
        show 4 + (r.val - 4) = r.val
        omega
      rw [(hp _ _).1, e', Select.live_self (h.ne n hn)]
      exact min_eq_right (hu _ _)
  · rw [(hp r l).1]
    exact le_min (hu r l) (hw r l)

theorem halves_hold (h : Least x m) (n : ℕ) (hn : n < 10) :
    Halves x m n (halves (k0_pay248 (F := Ideal) (upper x) (lower x)) (k0_pay249 (F := Ideal) (upper x) (lower x)) n) := by
  induction n with
  | zero =>
    intro r l
    rw [Select.live_zero, Select.live_zero]
    exact ⟨pay248_read _ _ r l, pay249_read _ _ r l⟩
  | succ n ih =>
    have ih := ih (by omega)
    have hl := least_of h n (by omega) _ ih
    intro r l
    obtain ⟨e1, e2⟩ := ih r l
    have hn' : n < 10 := by omega
    rw [Select.live_succ (h.real n hn') (h.ne n hn'), Select.live_succ (h.real n hn') (h.ne n hn')]
    have hr := Select.round (v := m n) (Select.le_live (h.le n hn' ⟨r.val, by omega⟩ l)) (Select.le_live (h.le n hn' ⟨4 + r.val, by omega⟩ l)) (by
      rintro ⟨ea, eb⟩
      have := (h.once n (by omega) _ _ _ _ (Select.live_eq (h.real n hn') ea) (Select.live_eq (h.real n hn') eb)).1
      have := congrArg Fin.val this
      dsimp only at this
      omega)
    refine ⟨(pay252_read _ _ r l).trans ?_, (pay253_read _ _ r l).trans ?_⟩
    · rw [hl, e1, e2]; exact hr.1
    · rw [hl, e1, e2]; exact hr.2

/-- Round `n` selects the `n`-th least distance. -/
theorem chosen_eq (h : Least x m) (n : ℕ) (hn : n < 10) : chosen x n = m n := least_of h n hn _ (halves_hold h n hn)

end Cert.KernelIdeal.Hand

end
-- ==== Proof.ScoreExact.lean ====
/- The score at the arguments' real numbers, when the ten least distances from the centre are distinct. -/
module

public import proofs.«01_k».proof.Proof.Around
public import proofs.«01_k».proof.Proof.ScoreSelect

@[expose] public section

noncomputable section

namespace Cert.KernelIdeal.Hand

open Cert.KernelIdeal.Gen
open Idealize.ShloMosaic Idealize.ShloMosaic.TcCoe

variable {m : (ℓ : Loc nD τ sig) → Buf (Elt Ideal) ℓ} {c : Dev nD}
variable {Q : Fin 256 → Fin 128 → ℝ} {K : Fin 65536 → Fin 128 → ℝ} {σ : Fin 65536 → Fin 65536}

/-- The `n`-th distance in the order `σ`. -/
def nth (Q : Fin 256 → Fin 128 → ℝ) (K : Fin 65536 → Fin 128 → ℝ) (σ : Fin 65536 → Fin 65536) (n : ℕ) : ℝ :=
  Distances.around Q K (σ ⟨n % 65536, Nat.mod_lt _ (by decide)⟩)

theorem nth_eq (i : Fin 65536) : nth Q K σ i.val = Distances.around Q K (σ i) := by
  unfold nth
  congr 2
  exact Fin.ext (Nat.mod_eq_of_lt i.isLt)

/-- The order `σ` lists the distances in ascending order, the first ten of them distinct. -/
structure Ascending (Q : Fin 256 → Fin 128 → ℝ) (K : Fin 65536 → Fin 128 → ℝ) (σ : Fin 65536 → Fin 65536) : Prop where
  bij : Function.Bijective σ
  mono : ∀ i j : Fin 65536, i < j → Distances.around Q K (σ i) ≤ Distances.around Q K (σ j)
  strict : ∀ i < 9, nth Q K σ i < nth Q K σ (i + 1)

theorem Ascending.le (s : Ascending Q K σ) {i j : ℕ} (hij : i ≤ j) (hj : j < 65536) : nth Q K σ i ≤ nth Q K σ j := by
  rcases Nat.eq_or_lt_of_le hij with rfl | hlt
  · exact le_refl _
  · rw [nth_eq ⟨i, by omega⟩, nth_eq ⟨j, hj⟩]
    exact s.mono _ _ hlt

theorem Ascending.lt (s : Ascending Q K σ) {i j : ℕ} (hi : i < 9) (hij : i < j) (hj : j < 65536) : nth Q K σ i < nth Q K σ j :=
  (s.strict i hi).trans_le (s.le hij hj)

theorem key_of (n : Fin 65536) : ∃ (r : Fin 8) (l : Fin 8192), (⟨r.val * 8192 + l.val, by omega⟩ : Fin 65536) = n :=
  ⟨⟨n.val / 8192, by omega⟩, ⟨n.val % 8192, by omega⟩, Fin.ext (by show n.val / 8192 * 8192 + n.val % 8192 = n.val; omega)⟩

theorem least (h : Real m c Q K) (s : Ascending Q K σ) : Least (aroundAt m c) (fun n => ((nth Q K σ n : ℝ) : EReal)) := by
  have hv : ∀ r l, ∃ i : Fin 65536, σ i = ⟨r.val * 8192 + l.val, by omega⟩ ∧ aroundAt m c (ix2 r l) = ((nth Q K σ i.val : ℝ) : EReal) := fun r l => by
    obtain ⟨i, hi⟩ := s.bij.2 ⟨r.val * 8192 + l.val, by omega⟩
    exact ⟨i, hi, by rw [aroundAt_apply h, nth_eq, hi]⟩
  have hn : ∀ n < 9, ∀ i : Fin 65536, nth Q K σ i.val = nth Q K σ n → i.val = n := fun n hn i e => by
    rcases Nat.lt_trichotomy i.val n with hl | hl | hl
    · exact absurd e (s.lt (by omega) hl (by omega)).ne
    · exact hl
    · exact absurd e (s.lt hn hl i.isLt).ne'
  refine ⟨fun n hn10 => ?_, fun n hn10 r l => ?_, fun n hn9 r l r' l' e e' => ?_, fun n hn10 i hi e => ?_, fun n _ => EReal.coe_ne_top _⟩
  · obtain ⟨r, l, e⟩ := key_of (σ ⟨n, by omega⟩)
    exact ⟨r, l, by rw [aroundAt_apply h, e, ← nth_eq]⟩
  · obtain ⟨i, -, e⟩ := hv r l
    rw [e]
    rcases Nat.lt_or_ge i.val n with hi | hi
    · exact .inr ⟨i.val, hi, rfl⟩
    · exact .inl (EReal.coe_le_coe_iff.mpr (s.le hi i.isLt))
  · obtain ⟨i, hi, ei⟩ := hv r l
    obtain ⟨j, hj, ej⟩ := hv r' l'
    have h1 := hn n hn9 i (EReal.coe_eq_coe_iff.mp (ei.symm.trans e))
    have h2 := hn n hn9 j (EReal.coe_eq_coe_iff.mp (ej.symm.trans e'))
    have h3 : i = j := Fin.ext (h1.trans h2.symm)
    subst h3
    have h4 := congrArg Fin.val (hi.symm.trans hj)
    have h4' : r.val * 8192 + l.val = r'.val * 8192 + l'.val := h4
    exact ⟨Fin.ext (by omega), Fin.ext (by omega)⟩
  · exact absurd (EReal.coe_eq_coe_iff.mp e) (s.lt (by omega) hi (by omega)).ne

theorem weight_coe {a b : ℝ} (ha : 0 ≤ a) (hb : 0 ≤ b) : weightOf (a : EReal) (b : EReal) = ((Real.exp (√a - √b) : ℝ) : EReal) := by
  unfold weightOf
  rw [max_eq_left (EReal.coe_nonneg.mpr ha), max_eq_left (EReal.coe_nonneg.mpr hb), Consts.sqrt_coe a ha, Consts.sqrt_coe b hb, ← EReal.coe_sub]
  rfl

/-- Subtracting one number in every exponent leaves the quotient. -/
theorem quotient (f : Fin 9 → ℝ) (a b : ℝ) :
    Ideal.div ((Real.exp (a - b) : ℝ) : EReal) (∑ t, ((Real.exp (f t - b) : ℝ) : EReal))
      = Ideal.div ((Real.exp a : ℝ) : EReal) (∑ t, ((Real.exp (f t) : ℝ) : EReal)) := by
  have hp : ∀ g : Fin 9 → ℝ, (∑ t, Real.exp (g t)) ≠ 0 := fun g => (Finset.sum_pos (fun _ _ => Real.exp_pos _) ⟨0, Finset.mem_univ _⟩).ne'
  rw [Consts.sum_coe, Consts.sum_coe, Consts.div_coe _ _ (hp _), Consts.div_coe _ _ (hp _)]
  simp only [Real.exp_sub]
  rw [← Finset.sum_div, div_div_div_cancel_right₀ (Real.exp_ne_zero b)]

theorem scoreAt_eq (h : Real m c Q K) (s : Ascending Q K σ) :
    scoreAt m c = (1 - Ideal.div ((Real.exp √(Distances.around Q K (σ ⟨1, by omega⟩)) : ℝ) : EReal)
        (∑ t : Fin 9, ((Real.exp √(Distances.around Q K (σ ⟨t.val + 1, by omega⟩)) : ℝ) : EReal)))
      * ((Distances.top Q K : ℝ) : EReal) := by
  have hc : ∀ n < 10, chosen (aroundAt m c) n = ((nth Q K σ n : ℝ) : EReal) := fun n hn => chosen_eq (least h s) n hn
  have h0 : ∀ n, 0 ≤ nth Q K σ n := fun n => Distances.around_nonneg Q K _
  have ht : ∀ t : Fin 9, chosen (aroundAt m c) (t.val + 1) = ((nth Q K σ (t.val + 1) : ℝ) : EReal) := fun t => hc _ (by omega)
  have hw := Distances.near2_nonneg Q K (Distances.farthest Q K)
  unfold scoreAt
  rw [hc 1 (by omega), hc 9 (by omega), top2_apply h, max_eq_left (EReal.coe_nonneg.mpr hw), Consts.sqrt_coe _ hw]
  simp only [ht, weight_coe (h0 _) (h0 _)]
  rw [quotient]
  simp only [← nth_eq]
  rfl

end Cert.KernelIdeal.Hand

end
-- ==== Proof.Finite.lean ====
/- Entries of finite magnitude are real numbers; and what the map's mask covers. -/
module

public import proofs.«01_k».proof.On_the_map
public import proofs.«01_k».proof.Proof.Consts
public import Idealize.ShloMosaic.Lib.Pointwise
public import Idealize.ShloMosaic.Lib.ReduceAll

@[expose] public section

set_option maxRecDepth 8192

noncomputable section

namespace Cert.Finite

open Idealize.ShloMosaic Idealize.ShloMosaic.TcCoe

/-- A number of finite magnitude is real. -/
theorem real_of_abs (x : EReal) (h : max x (-x) < ⊤) : x = ((x.toReal : ℝ) : EReal) := by
  refine (EReal.coe_toReal ?_ ?_).symm
  · rintro rfl; exact absurd h (by simp)
  · rintro rfl; exact absurd h (by simp)

theorem real_of_word (x : EReal) (h : BitVec.ofBool (decide (max x (-x) < Ideal.ofBits FTy.f32 2139095040#32)) = 1#1) :
    x = ((x.toReal : ℝ) : EReal) := by
  rw [Consts.infinity] at h
  refine real_of_abs x ?_
  by_contra hc
  rw [decide_eq_false hc] at h
  exact absurd h (by decide)

instance facts_map : Cert.On_the_map.Facts where
  bcast_S_S1 := by decide
  bcast_S_S1x256x256 := by decide

/-- The mask claims nothing of the score. -/
theorem off_score (q : FVec Ideal Cert.On_the_map.S256x128 .f32) (k : FVec Ideal Cert.On_the_map.S65536x128 .f32)
    (i : Cert.On_the_map.S1.Idx) : (Cert.On_the_map.fn (F := Ideal) q k).1 i ≠ 1#1 := by
  have : (Cert.On_the_map.fn (F := Ideal) q k).1 i = 0#1 := rfl
  rw [this]; decide

end Cert.Finite

end
-- ==== Proof.Distinct.lean ====
/- What the precondition says: the entries are real numbers, and the ten least distances from the centre are distinct. -/
module

public import proofs.«01_k».proof.Pre_finite_and_distinct
public import proofs.«01_k».proof.Proof.Finite
public import proofs.«01_k».proof.Proof.RefWeight
public import proofs.«01_k».proof.Proof.ScoreExact

@[expose] public section

set_option maxRecDepth 16384

noncomputable section

namespace Cert.Distinct

open Idealize.ShloMosaic Idealize.ShloMosaic.TcCoe Idealize.ShloMosaic.StableHlo

instance facts : Cert.Pre_finite_and_distinct.Facts where
  bcast_S_S256x128 := by decide
  reducesTo_S256x128_S_d0_1 := by decide
  h_S_ := by decide
  bcast_S_S65536x128 := by decide
  reducesTo_S65536x128_S_d0_1 := by decide
  reducesTo_S256x128_S256_d1 := by decide
  bcast_S256_S256x1_0 := by decide
  reducesTo_S65536x128_S65536_d1 := by decide
  bcast_S65536_S1x65536_1 := by decide
  bcast_S256x1_S256x65536_0_1 := by decide
  bcast_S1x65536_S256x65536_0_1 := by decide
  transposes_S65536x128_S128x65536_1_0 := by decide
  bcast_S_S256x65536 := by decide
  reducesTo_S256x65536_S256_d1 := by decide
  reducesTo_S256_S_d0 := by decide
  bcast_S_S256 := by decide
  sliceFits_S256_S1 := by decide
  shapeCasts_S1_S_ := by decide
  sliceFits_S65536x128_S1x128 := by decide
  reducesTo_S1x128_S1_d1 := by decide
  bcast_S1_S1x1_0 := by decide
  bcast_S1x1_S1x65536_0_1 := by decide
  bcast_S_S1x65536 := by decide
  sliceFits_S1x65536_S1x10 := by decide
  slices_S1x10_S1x9_0_0 := by decide
  slices_S1x10_S1x9_0_1 := by decide
  reducesTo_S1x9_S_d0_1 := by decide
  dot_S256x128_S128x65536_S256x65536_1_0_0_1_n_n_wf := by decide
  dot_S1x128_S128x65536_S1x65536_1_0_0_1_n_n_wf := by decide

/-- The ten least distances, as the reference forms them. -/
def near (V : Valuation Cert.ReferenceIdeal.τ Cert.ReferenceIdeal.sig (Elt Ideal)) : FVec Ideal Cert.Pre_finite_and_distinct.S1x10 .f32 :=
  Host.negf (F := Ideal) (φ := .f32) (Host.topK Cert.Pre_finite_and_distinct.S1x10 1 (FloatOps.cmpfTotal (F := Ideal) (φ := .f32) .gt)
    (Cert.ReferenceIdeal.Value.res_main_v56 V) facts.sliceFits_S1x65536_S1x10).1

/-- The comparison of each with the next. -/
def below (f : FVec Ideal Cert.Pre_finite_and_distinct.S1x10 .f32) : IVec Cert.Pre_finite_and_distinct.S1x9 1 :=
  cmpf .olt (extractStridedSlice Cert.Pre_finite_and_distinct.S1x9 ![0, 0] f facts.slices_S1x10_S1x9_0_0)
    (extractStridedSlice Cert.Pre_finite_and_distinct.S1x9 ![0, 1] f facts.slices_S1x10_S1x9_0_1)

open Cert.Pre_finite_and_distinct in
/-- The entries are real numbers. -/
theorem entries (q : FVec Ideal S256x128 .f32) (k : FVec Ideal S65536x128 .f32)
    (h : Cert.Pre_finite_and_distinct.fn (F := Ideal) q k = fun _ => 1#1) :
    (∀ i, (q i : EReal) = (((q i : EReal).toReal : ℝ) : EReal)) ∧ ∀ i, (k i : EReal) = (((k i : EReal).toReal : ℝ) : EReal) := by
  have h0 := congrFun h ix0
  unfold Cert.Pre_finite_and_distinct.fn at h0
  obtain ⟨h1, h2⟩ := IntOp.andi_eq_one.1 (IntOp.andi_eq_one.1 h0).1
  haveI : Subsingleton S_.Idx := ⟨fun a b => funext fun i => i.elim0⟩
  refine ⟨fun i => ?_, fun i => ?_⟩
  · have h3 := Host.reduce_andi_all _ _ _ _ _ h1 i
    revert h3
    rw [ValueIdx.eq_ix2 i]
    pointwise []
    exact Finite.real_of_word _
  · have h3 := Host.reduce_andi_all _ _ _ _ _ h2 i
    revert h3
    rw [ValueIdx.eq_ix2 i]
    pointwise []
    exact Finite.real_of_word _

/-- The least distances ascend. -/
theorem all_below (V : Valuation Cert.ReferenceIdeal.τ Cert.ReferenceIdeal.sig (Elt Ideal))
    (h : Cert.Pre_finite_and_distinct.fn (F := Ideal) (V (Proc.devRef .tc Cert.ReferenceIdeal.main_arg0)) (V (Proc.devRef .tc Cert.ReferenceIdeal.main_arg1)) = fun _ => 1#1) :
    Host.reduce IntOp.andi (below (near V)) (constantI Cert.Pre_finite_and_distinct.S_ 1 1#1) facts.reducesTo_S1x9_S_d0_1 facts.h_S_ ix0 = 1#1 :=
  (IntOp.andi_eq_one.1 (congrFun h ix0)).2

theorem below_read (f : FVec Ideal Cert.Pre_finite_and_distinct.S1x10 .f32) (t : Fin 9) :
    below f (ix2 0 t) = BitVec.ofBool (decide ((f (ix2 0 ⟨t.val, by omega⟩) : EReal) < f (ix2 0 ⟨t.val + 1, by omega⟩))) := by
  unfold below
  pointwise []
  simp only [Nat.add_comm 1]

theorem lt_of_word {a b : ℝ} (h : BitVec.ofBool (decide ((a : EReal) < (b : EReal))) = 1#1) : a < b := by
  by_contra hc
  rw [decide_eq_false (fun h' => hc (EReal.coe_lt_coe_iff.mp h'))] at h
  exact absurd h (by decide)

variable {V : Valuation Cert.ReferenceIdeal.τ Cert.ReferenceIdeal.sig (Elt Ideal)}

/-- The reference's order of the keys. -/
theorem ascending {Q : Fin 256 → Fin 128 → ℝ} {K : Fin 65536 → Fin 128 → ℝ} (hr : Cert.ReferenceIdeal.Hand.Real V Q K)
    (h : Cert.Pre_finite_and_distinct.fn (F := Ideal) (V (Proc.devRef .tc Cert.ReferenceIdeal.main_arg0)) (V (Proc.devRef .tc Cert.ReferenceIdeal.main_arg1)) = fun _ => 1#1) :
    Cert.KernelIdeal.Hand.Ascending Q K (Cert.ReferenceIdeal.Hand.order (Cert.ReferenceIdeal.Value.res_main_v56 V)) where
  bij := (Cert.ReferenceIdeal.Hand.order_sorted hr).1
  mono := (Cert.ReferenceIdeal.Hand.order_sorted hr).2
  strict i hi := by
    haveI : Subsingleton Cert.Pre_finite_and_distinct.S_.Idx := ⟨fun a b => funext fun i => i.elim0⟩
    have h1 := all_below V h
    have h2 := (below_read (near V) ⟨i, hi⟩).symm.trans (Host.reduce_andi_all _ _ _ _ _ h1 (ix2 (0 : Fin 1) (⟨i, hi⟩ : Fin 9)))
    have e1 : (near V (ix2 0 ⟨i, by omega⟩) : EReal) = _ := Cert.ReferenceIdeal.Hand.near_apply hr ⟨i, by omega⟩
    have e2 : (near V (ix2 0 ⟨i + 1, by omega⟩) : EReal) = _ := Cert.ReferenceIdeal.Hand.near_apply hr ⟨i + 1, by omega⟩
    dsimp only at h2
    rw [e1, e2] at h2
    have h3 := (Real.sqrt_lt_sqrt_iff (Cert.Distances.around_nonneg Q K _)).mp (lt_of_word h2)
    rw [Cert.KernelIdeal.Hand.nth_eq ⟨i, by omega⟩, Cert.KernelIdeal.Hand.nth_eq ⟨i + 1, by omega⟩]
    exact h3

end Cert.Distinct

end
-- ==== Proof.Known.lean ====
/- The score where the bank holds every patch: zero, whatever the weight is. -/
module

public import proofs.«01_k».proof.Pre_known
public import proofs.«01_k».proof.Proof.Centre
public import proofs.«01_k».proof.Proof.RefWeight
public import Idealize.ShloMosaic.Lib.ReduceAll

@[expose] public section

set_option maxRecDepth 16384

noncomputable section

namespace Cert.KernelIdeal.Hand

open Cert.KernelIdeal.Gen
open Idealize.ShloMosaic Idealize.ShloMosaic.TcCoe

variable {m : (ℓ : Loc nD τ sig) → Buf (Elt Ideal) ℓ} {c : Dev nD}

/-- A lane of the distances squared, under the root and cut at zero, is its patch's score. -/
theorem root_near2 (r : Fin 256) (l : Fin 128) :
    Ideal.sqrt (max (k0_pay240 (F := Ideal) (queries m c) (laneMins m c) (ix2 r l) : EReal) 0) = patchAt m c r := by
  obtain ⟨j, e, hj⟩ := lanes_any (m := m) (c := c) inv_kept r
  rw [pay240_apply, e]
  exact Patches.patch_of_least _ _ r j hj

/-- The greatest is one of the patches'. -/
theorem root_top2 : ∃ r, Ideal.sqrt (max (k0_pay242 (F := Ideal) (queries m c) (laneMins m c) : EReal) 0) = patchAt m c r := by
  obtain ⟨p, -, hp⟩ := Finset.exists_max_image (Finset.univ : Finset (Fin 256 × Fin 128))
    (fun x => (k0_pay240 (F := Ideal) (queries m c) (laneMins m c) (ix2 x.1 x.2) : EReal)) ⟨(0, 0), Finset.mem_univ _⟩
  refine ⟨p.1, ?_⟩
  have e : (k0_pay242 (F := Ideal) (queries m c) (laneMins m c) : EReal) = k0_pay240 (F := Ideal) (queries m c) (laneMins m c) (ix2 p.1 p.2) :=
    (max_all (k0_pay240 (F := Ideal) (queries m c) (laneMins m c))).trans
      (Distances.fold_max_eq (α := EReal) _ _ _ _ (Consts.minus_infinity.trans_le bot_le) ⟨p, Finset.mem_univ _, rfl⟩ hp)
  rw [e]
  exact root_near2 p.1 p.2

theorem scoreAt_known (h : ∀ r, patchAt m c r = 0) : scoreAt m c = 0 := by
  obtain ⟨r, e⟩ := root_top2 (m := m) (c := c)
  unfold scoreAt
  rw [e, h r, mul_zero]

end Cert.KernelIdeal.Hand

namespace Cert.Known

open Idealize.ShloMosaic Idealize.ShloMosaic.TcCoe Idealize.ShloMosaic.StableHlo
open Cert.ReferenceIdeal Cert.ReferenceIdeal.Gen Cert.ReferenceIdeal.Value

instance facts : Cert.Pre_known.Facts where
  reducesTo_S256x128_S256_d1 := by decide
  h_S_ := by decide
  bcast_S256_S256x1_0 := by decide
  reducesTo_S65536x128_S65536_d1 := by decide
  bcast_S65536_S1x65536_1 := by decide
  bcast_S256x1_S256x65536_0_1 := by decide
  bcast_S1x65536_S256x65536_0_1 := by decide
  transposes_S65536x128_S128x65536_1_0 := by decide
  bcast_S_S256x65536 := by decide
  reducesTo_S256x65536_S256_d1 := by decide
  bcast_S_S256 := by decide
  reducesTo_S256_S_d0 := by decide
  dot_S256x128_S128x65536_S256x65536_1_0_0_1_n_n_wf := by decide

variable (V : Valuation Cert.ReferenceIdeal.τ Cert.ReferenceIdeal.sig (Elt Ideal))

/-- The comparison of each score with zero. -/
def zeros (p : FVec Ideal Cert.Pre_known.S256 .f32) : IVec Cert.Pre_known.S256 1 :=
  cmpf .oeq p (broadcastInDim Cert.Pre_known.S256 ![] facts.bcast_S_S256 (constant Cert.Pre_known.S_ .f32 0x00000000#32))

theorem fn_eq : Cert.Pre_known.fn (F := Ideal) (V (Proc.devRef .tc main_arg0)) (V (Proc.devRef .tc main_arg1))
    = Host.reduce IntOp.andi (zeros (res_main_v17 V)) (constantI Cert.Pre_known.S_ 1 1#1) facts.reducesTo_S256_S_d0 facts.h_S_ := by
  rfl

theorem zeros_read (p : FVec Ideal Cert.Pre_known.S256 .f32) (r : Fin 256) :
    zeros p (ix1 r) = BitVec.ofBool (decide ((p (ix1 r) : EReal) = (0 : EReal))) := by
  unfold zeros
  pointwise []

theorem zero_of_word {x : EReal} (h : BitVec.ofBool (decide (x = 0)) = 1#1) : x = 0 := by
  by_contra hc
  rw [decide_eq_false hc] at h
  exact absurd h (by decide)

/-- Every patch's score is zero. -/
theorem patches (h : Cert.Pre_known.fn (F := Ideal) (V (Proc.devRef .tc main_arg0)) (V (Proc.devRef .tc main_arg1)) = fun _ => 1#1)
    (r : Fin 256) : (res_main_v17 V (ix1 r) : EReal) = (0 : EReal) := by
  haveI : Subsingleton Cert.Pre_known.S_.Idx := ⟨fun a b => funext fun i => i.elim0⟩
  exact zero_of_word ((zeros_read (res_main_v17 V) r).symm.trans
    (Host.reduce_andi_all _ _ _ _ _ (congrFun ((fn_eq V).symm.trans h) ix0) (ix1 r)))

/-- The reference's score is zero. -/
theorem score (h : ∀ r, (res_main_v17 V (ix1 r) : EReal) = (0 : EReal)) : (val4 V (Proc.devRef .tc main_v154)) (ix1 (0 : Fin 1)) = (0 : EReal) := by
  rw [val4_main_v154]
  refine (Cert.ReferenceIdeal.Hand.weigh (res_main_v145 V) (res_main_v17 V)).trans ?_
  have e : Finset.fold max (Ideal.ofBits .f32 0xFF800000#32 : EReal) (fun k => (res_main_v17 V (ix1 k) : EReal)) Finset.univ = (0 : EReal) :=
    Distances.fold_max_eq (α := EReal) _ _ _ _ (Consts.minus_infinity.trans_le bot_le) ⟨0, Finset.mem_univ _, h 0⟩ fun r _ => le_of_eq (α := EReal) (h r)
  rw [e, mul_zero]

end Cert.Known

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsFrame
public import proofs.«01_k».proof.Proof.IdealFrame
public import proofs.«01_k».proof.Proof.Leaves
public import proofs.«01_k».proof.Proof.RefScore
public import proofs.«01_k».proof.Proof.RefMap
public import proofs.«01_k».proof.Proof.RefWeight
public import proofs.«01_k».proof.Proof.ScoreExact
public import proofs.«01_k».proof.Proof.Finite
public import proofs.«01_k».proof.Proof.Distinct
public import proofs.«01_k».proof.Proof.Known
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

theorem frame_r : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The name "big" has the value `⊤`. -/
theorem preserves : Cert.preserves_Kernel_KernelIdeal :=
  IdealRules.named_const.statement Cert.KernelIdeal.κ "big" .f32 0x7F61B1E6#32 ⊤ rfl

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The queries' real numbers. -/
def realQ (m : (ℓ : Loc Cert.KernelIdeal.nD Cert.KernelIdeal.τ Cert.KernelIdeal.sig) → Buf (Elt Ideal) ℓ) (c : Dev Cert.KernelIdeal.nD)
    (r : Fin 256) (d : Fin 128) : ℝ :=
  EReal.toReal ((m ((c.tc : Thread Cert.KernelIdeal.nD Cert.KernelIdeal.τ).loc Cert.KernelIdeal.main_arg0) : FVec Ideal Cert.KernelIdeal.S256x128 .f32) (ix2 r d))

/-- The keys' real numbers. -/
def realK (m : (ℓ : Loc Cert.KernelIdeal.nD Cert.KernelIdeal.τ Cert.KernelIdeal.sig) → Buf (Elt Ideal) ℓ) (c : Dev Cert.KernelIdeal.nD)
    (j : Fin 65536) (d : Fin 128) : ℝ :=
  EReal.toReal ((m ((c.tc : Thread Cert.KernelIdeal.nD Cert.KernelIdeal.τ).loc Cert.KernelIdeal.main_arg1) : FVec Ideal Cert.KernelIdeal.S65536x128 .f32) (ix2 j d))

theorem real_kernel (hp : Cert.Pre_KernelIdeal_finite_and_distinct m) (c : Dev Cert.KernelIdeal.nD) :
    Cert.KernelIdeal.Hand.Real m c (realQ m c) (realK m c) where
  q r d := (Cert.Distinct.entries _ _ (hp c)).1 (ix2 r d)
  k j d := by
    have hj : (⟨j.val % 65536, Nat.mod_lt _ (by decide)⟩ : Fin 65536) = j := Fin.ext (Nat.mod_eq_of_lt j.isLt)
    unfold Cert.KernelIdeal.Hand.keys
    rw [hj]
    exact (Cert.Distinct.entries _ _ (hp c)).2 (ix2 j d)

theorem real_reference (hp : Cert.Pre_KernelIdeal_finite_and_distinct m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.Real (launchContents m' c) (realQ m c) (realK m c) where
  q r d := (congrFun h0 (ix2 r d)).trans ((Cert.Distinct.entries _ _ (hp c)).1 (ix2 r d))
  k j d := (congrFun h1 (ix2 j d)).trans ((Cert.Distinct.entries _ _ (hp c)).2 (ix2 j d))

/-- A map read through the cast that puts the unit axis in front. -/
theorem cast_map (x : Cert.KernelIdeal.S256x256.Idx → EReal) (i j : Fin 256) :
    shapeCast Cert.KernelIdeal.S1x256x256 x Cert.KernelIdeal.Gen.shapeCasts_S256x256_S1x256x256 (ix3 (0 : Fin 1) i j) = x (ix2 i j) := by
  pointwise []

/-- The two sides read the same entries. -/
theorem patches_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (r : Fin 256) :
    Cert.ReferenceIdeal.Value.res_main_v17 (launchContents m' c) (ix1 r) = Cert.KernelIdeal.Hand.patchAt m c r := by
  have hq : Cert.ReferenceIdeal.Hand.entryQ (launchContents m' c) = Cert.KernelIdeal.Hand.entryQ m c :=
    funext fun r => funext fun d => congrFun h0 (ix2 r d)
  have hk : Cert.ReferenceIdeal.Hand.entryK (launchContents m' c) = Cert.KernelIdeal.Hand.entryK m c := funext fun j => funext fun d => by
    have hj : (⟨j.val % 65536, Nat.mod_lt _ (by decide)⟩ : Fin 65536) = j := Fin.ext (Nat.mod_eq_of_lt j.isLt)
    unfold Cert.KernelIdeal.Hand.entryK Cert.KernelIdeal.Hand.keys
    rw [hj]
    exact congrFun h1 (ix2 j d)
  rw [Cert.ReferenceIdeal.Hand.patch_any, hq, hk]
  rfl

/-- The reference's map is the kernel's. -/
theorem reference_map {V : Valuation Cert.ReferenceIdeal.τ Cert.ReferenceIdeal.sig (Elt Ideal)} {c : Dev Cert.KernelIdeal.nD}
    (hp : ∀ r, Cert.ReferenceIdeal.Value.res_main_v17 V (ix1 r) = Cert.KernelIdeal.Hand.patchAt m c r) (i : Cert.KernelIdeal.S1x256x256.Idx) :
    (Cert.ReferenceIdeal.Value.val4 V (Proc.devRef .tc Cert.ReferenceIdeal.main_v155)) i
      = shapeCast Cert.KernelIdeal.S1x256x256 (Cert.KernelIdeal.Hand.mapAt m c) Cert.KernelIdeal.Gen.shapeCasts_S256x256_S1x256x256 i := by
  have hi : i = ix3 (0 : Fin 1) (i 1) (i 2) :=
    (ValueIdx.eq_ix3 i).trans (congrArg (fun z => ix3 z (i 1) (i 2)) (Subsingleton.elim (α := Fin 1) _ _))
  rw [hi]
  exact (Cert.ReferenceIdeal.Hand.map_read V (Cert.KernelIdeal.Hand.patchAt m c) hp (i 1) (i 2)).trans
    (cast_map (Cert.KernelIdeal.Hand.mapAt m c) (i 1) (i 2)).symm

theorem distinct (c : Dev Cert.KernelIdeal.nD) (hp : Cert.Pre_KernelIdeal_finite_and_distinct m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.Pre_finite_and_distinct.fn (F := Ideal) (launchContents m' c (Proc.devRef .tc Cert.ReferenceIdeal.main_arg0)) (launchContents m' c (Proc.devRef .tc Cert.ReferenceIdeal.main_arg1)) = fun _ => 1#1 :=
  (congrArg₂ (Cert.Pre_finite_and_distinct.fn (F := Ideal)) h0 h1).trans (hp c)

theorem cast_score (x : EReal) (i : Cert.KernelIdeal.S1.Idx) :
    shapeCast Cert.KernelIdeal.S1 (fun _ => x : Cert.KernelIdeal.S1x1.Idx → EReal) Cert.KernelIdeal.Gen.shapeCasts_S1x1_S1 i = x := rfl

/-- The reference's score is the kernel's. -/
theorem reference_score {V : Valuation Cert.ReferenceIdeal.τ Cert.ReferenceIdeal.sig (Elt Ideal)} {Q : Fin 256 → Fin 128 → ℝ} {K : Fin 65536 → Fin 128 → ℝ}
    {c : Dev Cert.KernelIdeal.nD} (hk : Cert.KernelIdeal.Hand.Real m c Q K) (hr : Cert.ReferenceIdeal.Hand.Real V Q K)
    (s : Cert.KernelIdeal.Hand.Ascending Q K (Cert.ReferenceIdeal.Hand.order (Cert.ReferenceIdeal.Value.res_main_v56 V))) (i : Cert.KernelIdeal.S1.Idx) :
    (Cert.ReferenceIdeal.Value.val4 V (Proc.devRef .tc Cert.ReferenceIdeal.main_v154)) i
      = shapeCast Cert.KernelIdeal.S1 (fun _ => Cert.KernelIdeal.Hand.scoreAt m c) Cert.KernelIdeal.Gen.shapeCasts_S1x1_S1 i := by
  have hi : i = ix1 (0 : Fin 1) := (ValueIdx.eq_ix1 i).trans (congrArg ix1 (Subsingleton.elim (α := Fin 1) _ _))
  rw [hi]
  exact (Cert.ReferenceIdeal.Hand.score_read hr).trans ((Cert.KernelIdeal.Hand.scoreAt_eq hk s).symm.trans (cast_score _ _).symm)

end

/-- The two programs leave the same map. -/
theorem algebraic : Cert.algebraic_KernelIdeal_ReferenceIdeal_on_the_map := by
  intro m g m' g' _ ha
  refine ⟨fun c => shapeCast Cert.KernelIdeal.S1 (fun _ => Cert.KernelIdeal.Hand.scoreAt m c) Cert.KernelIdeal.Gen.shapeCasts_S1x1_S1,
    fun c => shapeCast Cert.KernelIdeal.S1x256x256 (Cert.KernelIdeal.Hand.mapAt m c) Cert.KernelIdeal.Gen.shapeCasts_S256x256_S1x256x256, ?_, ?_⟩
  · refine (θ_run Cert.KernelIdeal.defs _ _).mono (fun r h c => ?_)
      (Cert.KernelIdeal.Exact.run g (Cert.KernelIdeal.Hand.leaves m))
    exact ⟨fun i hi => congrFun (h c).1 i, fun i hi => congrFun (h c).2.1 i, (h c).2.2.1, (h c).2.2.2⟩
  · refine (θ_run Cert.ReferenceIdeal.defs _ _).mono (fun r h c => ?_) (Cert.ReferenceIdeal.Value.run (F := Ideal) m' g')
    refine ⟨fun i hi => absurd hi (Cert.Finite.off_score _ _ i), fun i hi => ?_, (h c).2.2.1, (h c).2.2.2⟩
    exact (congrFun ((h c).2.1.trans (Cert.ReferenceIdeal.Value.val4_main_v155 (launchContents m' c)).symm) i).trans
      (reference_map (patches_eq c (ha c).1 (ha c).2) i)

/-- The two programs leave the same score and the same map. -/
theorem algebraic_both : Cert.algebraic_KernelIdeal_ReferenceIdeal_pre_finite_and_distinct := by
  intro m g m' g' hp ha
  refine ⟨fun c => shapeCast Cert.KernelIdeal.S1 (fun _ => Cert.KernelIdeal.Hand.scoreAt m c) Cert.KernelIdeal.Gen.shapeCasts_S1x1_S1,
    fun c => shapeCast Cert.KernelIdeal.S1x256x256 (Cert.KernelIdeal.Hand.mapAt m c) Cert.KernelIdeal.Gen.shapeCasts_S256x256_S1x256x256, ?_, ?_⟩
  · exact (θ_run Cert.KernelIdeal.defs _ _).mono (fun r h c => h c)
      (Cert.KernelIdeal.Exact.run g (Cert.KernelIdeal.Hand.leaves m))
  · refine (θ_run Cert.ReferenceIdeal.defs _ _).mono (fun r h c => ?_) (Cert.ReferenceIdeal.Value.run (F := Ideal) m' g')
    have hr := real_reference hp c (ha c).1 (ha c).2
    refine ⟨funext fun i => ?_, funext fun i => ?_, (h c).2.2.1, (h c).2.2.2⟩
    · exact (congrFun ((h c).1.trans (Cert.ReferenceIdeal.Value.val4_main_v154 (launchContents m' c)).symm) i).trans
        (reference_score (real_kernel hp c) hr (Cert.Distinct.ascending hr (distinct c hp (ha c).1 (ha c).2)) i)
    · exact (congrFun ((h c).2.1.trans (Cert.ReferenceIdeal.Value.val4_main_v155 (launchContents m' c)).symm) i).trans
        (reference_map (patches_eq c (ha c).1 (ha c).2) i)

/-- Where the bank holds every patch, the two programs leave the same score, zero, and the same map. -/
theorem algebraic_known : Cert.algebraic_KernelIdeal_ReferenceIdeal_pre_known := by
  intro m g m' g' hp ha
  have hz : ∀ (c : Dev Cert.KernelIdeal.nD) r, (Cert.ReferenceIdeal.Value.res_main_v17 (launchContents m' c) (ix1 r) : EReal) = (0 : EReal) := fun c r =>
    Cert.Known.patches (launchContents m' c) ((congrArg₂ (Cert.Pre_known.fn (F := Ideal)) (ha c).1 (ha c).2).trans (hp c)) r
  refine ⟨fun c => shapeCast Cert.KernelIdeal.S1 (fun _ => Cert.KernelIdeal.Hand.scoreAt m c) Cert.KernelIdeal.Gen.shapeCasts_S1x1_S1,
    fun c => shapeCast Cert.KernelIdeal.S1x256x256 (Cert.KernelIdeal.Hand.mapAt m c) Cert.KernelIdeal.Gen.shapeCasts_S256x256_S1x256x256, ?_, ?_⟩
  · exact (θ_run Cert.KernelIdeal.defs _ _).mono (fun r h c => h c) (Cert.KernelIdeal.Exact.run g (Cert.KernelIdeal.Hand.leaves m))
  · refine (θ_run Cert.ReferenceIdeal.defs _ _).mono (fun r h c => ?_) (Cert.ReferenceIdeal.Value.run (F := Ideal) m' g')
    have hq := fun r => patches_eq (m := m) (m' := m') c (ha c).1 (ha c).2 r
    refine ⟨funext fun i => ?_, funext fun i => ?_, (h c).2.2.1, (h c).2.2.2⟩
    · have hi : i = ix1 (0 : Fin 1) := (ValueIdx.eq_ix1 i).trans (congrArg ix1 (Subsingleton.elim (α := Fin 1) _ _))
      rw [hi]
      exact (congrFun ((h c).1.trans (Cert.ReferenceIdeal.Value.val4_main_v154 (launchContents m' c)).symm) (ix1 (0 : Fin 1))).trans
        ((Cert.Known.score _ (hz c)).trans ((Cert.KernelIdeal.Hand.scoreAt_known fun r => (hq r).symm.trans (hz c r)).symm.trans (cast_score _ _).symm))
    · exact (congrFun ((h c).2.1.trans (Cert.ReferenceIdeal.Value.val4_main_v155 (launchContents m' c)).symm) i).trans
        (reference_map hq i)

theorem claim : Cert.Claim := ⟨Cert.Kernel.Gen.facts, Cert.KernelIdeal.Gen.facts, Cert.ReferenceIdeal.Gen.facts, Cert.Distinct.facts, Cert.Known.facts, Cert.Finite.facts_map,
  fun m ρ _ => Cert.Kernel.Hand.frame m ρ, fun m ρ _ => Cert.KernelIdeal.Hand.frame m ρ, fun m ρ _ => Cert.KernelIdeal.Hand.frame m ρ,
  fun m ρ _ => Cert.KernelIdeal.Hand.frame m ρ, frame_r, fun m ρ _ => frame_r m ρ trivial, fun m ρ _ => frame_r m ρ trivial, preserves,
  algebraic_both, algebraic, algebraic_known⟩

end Cert.Proof

end
